-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)) →
    ∃ (v0 : Buf (Elt Ideal) (((0 : Dev Cert.ReferenceIdeal.nD).tc : Thread Cert.ReferenceIdeal.nD Cert.ReferenceIdeal.τ).loc Cert.ReferenceIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v58) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S1024x128 : Shape := ⟨2, ![1024, 128]⟩
abbrev S_ : Shape := ⟨0, ![]⟩

class Facts : Prop where
  bcast_S_S1024x1024 : S_.BroadcastsInDim S1024x1024 (![] : Fin 0 → Fin S1024x1024.rank)
  bcast_S_S1024x128 : S_.BroadcastsInDim S1024x128 (![] : Fin 0 → Fin S1024x128.rank)

variable [Facts]

def fn {F : FTy → Type} [FloatOps F] (main_arg0 : FVec F S1024x1024 .f32) (main_arg1 : FVec F S1024x1024 .f32) (main_arg2 : FVec F S1024x1024 .f32) (main_arg3 : FVec F S1024x1024 .f32) (main_arg4 : FVec F S1024x1024 .f32) (main_arg5 : FVec F S1024x128 .f32) (main_arg6 : FVec F S1024x128 .f32) : IVec S1024x1024 1 × IVec S1024x1024 1 × IVec S1024x1024 1 × IVec S1024x128 1 × IVec S1024x128 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024x128 .f32 := Host.absf main_arg5
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_v12 : FVec F S1024x128 .f32 := Host.absf main_arg6
  let main_cst_3 : FVec F S_ .f32 := constant S_ .f32 0x7F800000#32
  let main_v13 : FVec F S1024x128 .f32 := broadcastInDim S1024x128 ![] bcast_S_S1024x128 main_cst_3
  let main_v14 : IVec S1024x128 1 := cmpf .olt main_v12 main_v13
  (main_v2, main_v5, main_v8, main_v11, main_v14)
-- ==== Pre_finite_ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S1024x128 : Shape := ⟨2, ![1024, 128]⟩
abbrev S_ : Shape := ⟨0, ![]⟩

class Facts : Prop where
  bcast_S_S1024x1024 : S_.BroadcastsInDim S1024x1024 (![] : Fin 0 → Fin S1024x1024.rank)
  bcast_S_S1024x16384 : S_.BroadcastsInDim S1024x16384 (![] : Fin 0 → Fin S1024x16384.rank)
  bcast_S_S1024x128 : S_.BroadcastsInDim S1024x128 (![] : Fin 0 → Fin S1024x128.rank)

variable [Facts]

def fn {F : FTy → Type} [FloatOps F] (main_arg0 : FVec F S1024x1024 .f32) (main_arg1 : FVec F S1024x16384 .f32) (main_arg2 : FVec F S1024x16384 .f32) (main_arg3 : FVec F S1024x16384 .f32) (main_arg4 : FVec F S16384x1024 .f32) (main_arg5 : FVec F S1024x128 .f32) (main_arg6 : FVec F S1024x128 .f32) : IVec S1024x1024 1 × IVec S1024x16384 1 × IVec S1024x16384 1 × IVec S1024x128 1 × IVec S1024x128 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1024x16384 .f32 := Host.absf main_arg2
  let main_cst_1 : FVec F S_ .f32 := constant S_ .f32 0x7F800000#32
  let main_v7 : FVec F S1024x16384 .f32 := broadcastInDim S1024x16384 ![] bcast_S_S1024x16384 main_cst_1
  let main_v8 : IVec S1024x16384 1 := cmpf .olt main_v6 main_v7
  let main_v9 : FVec F S1024x128 .f32 := Host.absf main_arg5
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_v12 : FVec F S1024x128 .f32 := Host.absf main_arg6
  let main_cst_3 : FVec F S_ .f32 := constant S_ .f32 0x7F800000#32
  let main_v13 : FVec F S1024x128 .f32 := broadcastInDim S1024x128 ![] bcast_S_S1024x128 main_cst_3
  let main_v14 : IVec S1024x128 1 := cmpf .olt main_v12 main_v13
  (main_v2, main_v5, main_v8, main_v11, main_v14)
-- ==== Kernel.lean ====
abbrev S1024x1024 : Shape := ⟨2, ![1024, 1024]⟩
abbrev S1024x128 : Shape := ⟨2, ![1024, 128]⟩
abbrev S512x1024 : Shape := ⟨2, ![512, 1024]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S2x5 : Shape := ⟨2, ![2, 5]⟩
abbrev S2x10 : Shape := ⟨2, ![2, 10]⟩
abbrev S_ : Shape := ⟨0, ![]⟩
abbrev S512x128 : Shape := ⟨2, ![512, 128]⟩
abbrev S512 : Shape := ⟨1, ![512]⟩
abbrev S512x1 : Shape := ⟨2, ![512, 1]⟩
abbrev S1x1 : Shape := ⟨2, ![1, 1]⟩

abbrev nBuf : Space → Nat
  | .hbm => 8
  | .vmem => 29
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x128, .f32⟩
  | .hbm, ⟨6, _⟩ => ⟨S1024x128, .f32⟩
  | .hbm, ⟨7, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x128, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S1024x1024, .f32⟩
  | .local _ .vmem, ⟨13, _⟩ => ⟨S512x512, .bf16⟩
  | .local _ .vmem, ⟨14, _⟩ => ⟨S256x512, .bf16⟩
  | .local _ .vmem, ⟨15, _⟩ => ⟨S128x512, .bf16⟩
  | .local _ .vmem, ⟨16, _⟩ => ⟨S64x512, .bf16⟩
  | .local _ .vmem, ⟨17, _⟩ => ⟨S512x512, .bf16⟩
  | .local _ .vmem, ⟨18, _⟩ => ⟨S256x512, .bf16⟩
  | .local _ .vmem, ⟨19, _⟩ => ⟨S128x512, .bf16⟩
  | .local _ .vmem, ⟨20, _⟩ => ⟨S64x512, .bf16⟩
  | .local _ .vmem, ⟨21, _⟩ => ⟨S512x512, .bf16⟩
  | .local _ .vmem, ⟨22, _⟩ => ⟨S256x512, .bf16⟩
  | .local _ .vmem, ⟨23, _⟩ => ⟨S128x512, .bf16⟩
  | .local _ .vmem, ⟨24, _⟩ => ⟨S64x512, .bf16⟩
  | .local _ .vmem, ⟨25, _⟩ => ⟨S512x512, .bf16⟩
  | .local _ .vmem, ⟨26, _⟩ => ⟨S256x512, .bf16⟩
  | .local _ .vmem, ⟨27, _⟩ => ⟨S128x512, .bf16⟩
  | .local _ .vmem, ⟨28, _⟩ => ⟨S64x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_scratch14 : Ref sig .tc := ⟨.vmem, 22, rfl⟩
abbrev cc0_scratch15 : Ref sig .tc := ⟨.vmem, 23, rfl⟩
abbrev cc0_scratch16 : Ref sig .tc := ⟨.vmem, 24, rfl⟩
abbrev cc0_scratch17 : Ref sig .tc := ⟨.vmem, 25, rfl⟩
abbrev cc0_scratch18 : Ref sig .tc := ⟨.vmem, 26, rfl⟩
abbrev cc0_scratch19 : Ref sig .tc := ⟨.vmem, 27, rfl⟩
abbrev cc0_scratch20 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_77 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_31 v19
  let c3_i32 : BitVec 32 := 3#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v63 : BitVec 32 := Scalar.subi c1_i32_30 v31
  let v65 : BitVec 32 := Scalar.muli c3_i32 v63
  let v66 : BitVec 32 := Scalar.addi v64 v65
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_33 : BitVec 32 := 1#32
  let c2_i32_32 : BitVec 32 := 2#32
  let v67 : BitVec 32 := Scalar.muli c2_i32_32 v63
  let v68 : BitVec 32 := Scalar.subi c1_i32_33 v67
  let v69 : BitVec 32 := Scalar.muli v35 v68
  let v70 : BitVec 32 := Scalar.addi v66 v69
  let c1_i32_76 : BitVec 32 := 1#32
  let v140 : BitVec 32 := Scalar.muli v70 c1_i32_76
  let v141 : BitVec 32 := Scalar.addi c0_i32_77 v140
  v141.toNat
def k0_dev2 (d0 : Dev nD) : Nat :=
  let c0_i32_80 : BitVec 32 := 0#32
  let c4_i32_35 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_35 v19
  let c3_i32_36 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v73 : BitVec 32 := Scalar.muli c3_i32_36 v31
  let v74 : BitVec 32 := Scalar.addi v72 v73
  let c1_i32_34 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v71 : BitVec 32 := Scalar.subi c1_i32_34 v35
  let c1_i32_38 : BitVec 32 := 1#32
  let c2_i32_37 : BitVec 32 := 2#32
  let v75 : BitVec 32 := Scalar.muli c2_i32_37 v31
  let v76 : BitVec 32 := Scalar.subi c1_i32_38 v75
  let v77 : BitVec 32 := Scalar.muli v71 v76
  let v78 : BitVec 32 := Scalar.addi v74 v77
  let c1_i32_79 : BitVec 32 := 1#32
  let v142 : BitVec 32 := Scalar.muli v78 c1_i32_79
  let v143 : BitVec 32 := Scalar.addi c0_i32_80 v142
  v143.toNat
def k0_dev3 (d0 : Dev nD) : Nat :=
  let c0_i32_83 : BitVec 32 := 0#32
  let c4_i32_41 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_39 : BitVec 32 := 1#32
  let v79 : BitVec 32 := Scalar.addi v19 c1_i32_39
  let c2_i32_40 : BitVec 32 := 2#32
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v80 : BitVec 32 := Scalar.muli c2_i32_40 v45
  let v81 : BitVec 32 := Scalar.subi v79 v80
  let v82 : BitVec 32 := Scalar.muli c4_i32_41 v81
  let c3_i32_42 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v83 : BitVec 32 := Scalar.muli c3_i32_42 v31
  let v84 : BitVec 32 := Scalar.addi v82 v83
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_44 : BitVec 32 := 1#32
  let c2_i32_43 : BitVec 32 := 2#32
  let v85 : BitVec 32 := Scalar.muli c2_i32_43 v31
  let v86 : BitVec 32 := Scalar.subi c1_i32_44 v85
  let v87 : BitVec 32 := Scalar.muli v35 v86
  let v88 : BitVec 32 := Scalar.addi v84 v87
  let c1_i32_82 : BitVec 32 := 1#32
  let v144 : BitVec 32 := Scalar.muli v88 c1_i32_82
  let v145 : BitVec 32 := Scalar.addi c0_i32_83 v144
  v145.toNat
def k0_dev4 (d0 : Dev nD) : Nat :=
  let c0_i32_86 : BitVec 32 := 0#32
  let c4_i32_47 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_45 : BitVec 32 := 2#32
  let v89 : BitVec 32 := Scalar.addi v19 c2_i32_45
  let c4_i32_46 : BitVec 32 := 4#32
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let v90 : BitVec 32 := Scalar.muli c4_i32_46 v62
  let v91 : BitVec 32 := Scalar.subi v89 v90
  let v92 : BitVec 32 := Scalar.muli c4_i32_47 v91
  let c3_i32_48 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v93 : BitVec 32 := Scalar.muli c3_i32_48 v31
  let v94 : BitVec 32 := Scalar.addi v92 v93
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_50 : BitVec 32 := 1#32
  let c2_i32_49 : BitVec 32 := 2#32
  let v95 : BitVec 32 := Scalar.muli c2_i32_49 v31
  let v96 : BitVec 32 := Scalar.subi c1_i32_50 v95
  let v97 : BitVec 32 := Scalar.muli v35 v96
  let v98 : BitVec 32 := Scalar.addi v94 v97
  let c1_i32_85 : BitVec 32 := 1#32
  let v146 : BitVec 32 := Scalar.muli v98 c1_i32_85
  let v147 : BitVec 32 := Scalar.addi c0_i32_86 v146
  v147.toNat
def k0_off1 (d0 : Dev nD) : Fin 2 → Nat :=
  let c0_i32_54 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v101 : BitVec 32 := Scalar.subi c1_i32_52 v31
  let c512_i32_53 : BitVec 32 := 512#32
  let v102 : BitVec 32 := Scalar.muli v101 c512_i32_53
  let v103 : BitVec 32 := Scalar.addi c0_i32_54 v102
  let v216 : Index := Scalar.indexCast v103
  let c0_119 : Index := 0#32
  ![v216.toNat, 0]
def k0_off2 (d0 : Dev nD) : Fin 2 → Nat :=
  let c0_i32_54 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v101 : BitVec 32 := Scalar.subi c1_i32_52 v31
  let c512_i32_53 : BitVec 32 := 512#32
  let v102 : BitVec 32 := Scalar.muli v101 c512_i32_53
  let v103 : BitVec 32 := Scalar.addi c0_i32_54 v102
  let v234 : Index := Scalar.indexCast v103
  let c128 : Index := 128#32
  ![v234.toNat, 128]
def k0_off3 (d0 : Dev nD) : Fin 2 → Nat :=
  let c0_i32_54 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v101 : BitVec 32 := Scalar.subi c1_i32_52 v31
  let c512_i32_53 : BitVec 32 := 512#32
  let v102 : BitVec 32 := Scalar.muli v101 c512_i32_53
  let v103 : BitVec 32 := Scalar.addi c0_i32_54 v102
  let v252 : Index := Scalar.indexCast v103
  let c256 : Index := 256#32
  ![v252.toNat, 256]
def k0_off4 (d0 : Dev nD) : Fin 2 → Nat :=
  let c0_i32_54 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v101 : BitVec 32 := Scalar.subi c1_i32_52 v31
  let c512_i32_53 : BitVec 32 := 512#32
  let v102 : BitVec 32 := Scalar.muli v101 c512_i32_53
  let v103 : BitVec 32 := Scalar.addi c0_i32_54 v102
  let v270 : Index := Scalar.indexCast v103
  let c384 : Index := 384#32
  ![v270.toNat, 384]
def k0_off5 (d0 : Dev nD) : Fin 2 → Nat :=
  let c0_i32_54 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v101 : BitVec 32 := Scalar.subi c1_i32_52 v31
  let c512_i32_53 : BitVec 32 := 512#32
  let v102 : BitVec 32 := Scalar.muli v101 c512_i32_53
  let v103 : BitVec 32 := Scalar.addi c0_i32_54 v102
  let v288 : Index := Scalar.indexCast v103
  let c512 : Index := 512#32
  ![v288.toNat, 512]
def k0_off6 (d0 : Dev nD) : Fin 2 → Nat :=
  let c0_i32_54 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v101 : BitVec 32 := Scalar.subi c1_i32_52 v31
  let c512_i32_53 : BitVec 32 := 512#32
  let v102 : BitVec 32 := Scalar.muli v101 c512_i32_53
  let v103 : BitVec 32 := Scalar.addi c0_i32_54 v102
  let v306 : Index := Scalar.indexCast v103
  let c640 : Index := 640#32
  ![v306.toNat, 640]
def k0_off7 (d0 : Dev nD) : Fin 2 → Nat :=
  let c0_i32_54 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v101 : BitVec 32 := Scalar.subi c1_i32_52 v31
  let c512_i32_53 : BitVec 32 := 512#32
  let v102 : BitVec 32 := Scalar.muli v101 c512_i32_53
  let v103 : BitVec 32 := Scalar.addi c0_i32_54 v102
  let v324 : Index := Scalar.indexCast v103
  let c768 : Index := 768#32
  ![v324.toNat, 768]
def k0_off8 (d0 : Dev nD) : Fin 2 → Nat :=
  let c0_i32_54 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v101 : BitVec 32 := Scalar.subi c1_i32_52 v31
  let c512_i32_53 : BitVec 32 := 512#32
  let v102 : BitVec 32 := Scalar.muli v101 c512_i32_53
  let v103 : BitVec 32 := Scalar.addi c0_i32_54 v102
  let v342 : Index := Scalar.indexCast v103
  let c896 : Index := 896#32
  ![v342.toNat, 896]
def k0_off9 (d0 : Dev nD) : Fin 2 → Nat :=
  let c0_i32_54 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v101 : BitVec 32 := Scalar.subi c1_i32_52 v31
  let c512_i32_53 : BitVec 32 := 512#32
  let v102 : BitVec 32 := Scalar.muli v101 c512_i32_53
  let v103 : BitVec 32 := Scalar.addi c0_i32_54 v102
  let v365 : Index := Scalar.indexCast v103
  let c0_205 : Index := 0#32
  ![v365.toNat, 0]
def k0_off10 (d0 : Dev nD) : Fin 2 → Nat :=
  let c0_i32_54 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v101 : BitVec 32 := Scalar.subi c1_i32_52 v31
  let c512_i32_53 : BitVec 32 := 512#32
  let v102 : BitVec 32 := Scalar.muli v101 c512_i32_53
  let v103 : BitVec 32 := Scalar.addi c0_i32_54 v102
  let v369 : Index := Scalar.indexCast v103
  let c0_206 : Index := 0#32
  ![v369.toNat, 0]
def k0_dev5 (d0 : Dev nD) : Nat :=
  let c0_i32_214 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_31 v19
  let c3_i32 : BitVec 32 := 3#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v63 : BitVec 32 := Scalar.subi c1_i32_30 v31
  let v65 : BitVec 32 := Scalar.muli c3_i32 v63
  let v66 : BitVec 32 := Scalar.addi v64 v65
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_33 : BitVec 32 := 1#32
  let c2_i32_32 : BitVec 32 := 2#32
  let v67 : BitVec 32 := Scalar.muli c2_i32_32 v63
  let v68 : BitVec 32 := Scalar.subi c1_i32_33 v67
  let v69 : BitVec 32 := Scalar.muli v35 v68
  let v70 : BitVec 32 := Scalar.addi v66 v69
  let c1_i32_213 : BitVec 32 := 1#32
  let v375 : BitVec 32 := Scalar.muli v70 c1_i32_213
  let v376 : BitVec 32 := Scalar.addi c0_i32_214 v375
  v376.toNat
def k0_off11 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let v381 : Index := Scalar.indexCast v100
  let c0_215 : Index := 0#32
  ![v381.toNat, 0]
def k0_off12 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let v399 : Index := Scalar.indexCast v100
  let c128_226 : Index := 128#32
  ![v399.toNat, 128]
def k0_off13 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let v417 : Index := Scalar.indexCast v100
  let c256_237 : Index := 256#32
  ![v417.toNat, 256]
def k0_off14 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let v435 : Index := Scalar.indexCast v100
  let c384_248 : Index := 384#32
  ![v435.toNat, 384]
def k0_off15 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let v453 : Index := Scalar.indexCast v100
  let c512_259 : Index := 512#32
  ![v453.toNat, 512]
def k0_off16 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let v471 : Index := Scalar.indexCast v100
  let c640_270 : Index := 640#32
  ![v471.toNat, 640]
def k0_off17 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let v489 : Index := Scalar.indexCast v100
  let c768_281 : Index := 768#32
  ![v489.toNat, 768]
def k0_off18 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let v507 : Index := Scalar.indexCast v100
  let c896_292 : Index := 896#32
  ![v507.toNat, 896]
def k0_off19 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let v530 : Index := Scalar.indexCast v100
  let c0_308 : Index := 0#32
  ![v530.toNat, 0]
def k0_off20 (d0 : Dev nD) : Fin 2 → Nat :=
  let c0_i32_65 : BitVec 32 := 0#32
  let c1_i32_63 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v121 : BitVec 32 := Scalar.subi c1_i32_63 v45
  let c512_i32_64 : BitVec 32 := 512#32
  let v122 : BitVec 32 := Scalar.muli v121 c512_i32_64
  let v123 : BitVec 32 := Scalar.addi c0_i32_65 v122
  let v534 : Index := Scalar.indexCast v123
  let c512_309 : Index := 512#32
  ![v534.toNat, 512]
def k0_dev6 (d0 : Dev nD) : Nat :=
  let c0_i32_317 : BitVec 32 := 0#32
  let c4_i32_41 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_39 : BitVec 32 := 1#32
  let v79 : BitVec 32 := Scalar.addi v19 c1_i32_39
  let c2_i32_40 : BitVec 32 := 2#32
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v80 : BitVec 32 := Scalar.muli c2_i32_40 v45
  let v81 : BitVec 32 := Scalar.subi v79 v80
  let v82 : BitVec 32 := Scalar.muli c4_i32_41 v81
  let c3_i32_42 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v83 : BitVec 32 := Scalar.muli c3_i32_42 v31
  let v84 : BitVec 32 := Scalar.addi v82 v83
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_44 : BitVec 32 := 1#32
  let c2_i32_43 : BitVec 32 := 2#32
  let v85 : BitVec 32 := Scalar.muli c2_i32_43 v31
  let v86 : BitVec 32 := Scalar.subi c1_i32_44 v85
  let v87 : BitVec 32 := Scalar.muli v35 v86
  let v88 : BitVec 32 := Scalar.addi v84 v87
  let c1_i32_316 : BitVec 32 := 1#32
  let v540 : BitVec 32 := Scalar.muli v88 c1_i32_316
  let v541 : BitVec 32 := Scalar.addi c0_i32_317 v540
  v541.toNat
def k0_off21 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_55 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v106 : BitVec 32 := Scalar.subi c1_i32_55 v35
  let c256_i32_56 : BitVec 32 := 256#32
  let v107 : BitVec 32 := Scalar.muli v106 c256_i32_56
  let v108 : BitVec 32 := Scalar.addi v100 v107
  let v553 : Index := Scalar.indexCast v108
  let c0_329 : Index := 0#32
  ![v553.toNat, 0]
def k0_off22 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_55 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v106 : BitVec 32 := Scalar.subi c1_i32_55 v35
  let c256_i32_56 : BitVec 32 := 256#32
  let v107 : BitVec 32 := Scalar.muli v106 c256_i32_56
  let v108 : BitVec 32 := Scalar.addi v100 v107
  let v552 : BitVec 32 := Scalar.subi v108 v100
  let v555 : Index := Scalar.indexCast v552
  let c0_330 : Index := 0#32
  ![v555.toNat, 0]
def k0_dev7 (d0 : Dev nD) : Nat :=
  let c0_i32_340 : BitVec 32 := 0#32
  let c4_i32_35 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_35 v19
  let c3_i32_36 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v73 : BitVec 32 := Scalar.muli c3_i32_36 v31
  let v74 : BitVec 32 := Scalar.addi v72 v73
  let c1_i32_34 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v71 : BitVec 32 := Scalar.subi c1_i32_34 v35
  let c1_i32_38 : BitVec 32 := 1#32
  let c2_i32_37 : BitVec 32 := 2#32
  let v75 : BitVec 32 := Scalar.muli c2_i32_37 v31
  let v76 : BitVec 32 := Scalar.subi c1_i32_38 v75
  let v77 : BitVec 32 := Scalar.muli v71 v76
  let v78 : BitVec 32 := Scalar.addi v74 v77
  let c1_i32_339 : BitVec 32 := 1#32
  let v569 : BitVec 32 := Scalar.muli v78 c1_i32_339
  let v570 : BitVec 32 := Scalar.addi c0_i32_340 v569
  v570.toNat
def k0_off23 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let v576 : Index := Scalar.indexCast v105
  let c0_341 : Index := 0#32
  ![v576.toNat, 0]
def k0_off24 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let v575 : BitVec 32 := Scalar.subi v105 v100
  let v578 : Index := Scalar.indexCast v575
  let c0_342 : Index := 0#32
  ![v578.toNat, 0]
def k0_off25 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c1_i32_67 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v126 : BitVec 32 := Scalar.subi c1_i32_67 v31
  let c256_i32_68 : BitVec 32 := 256#32
  let v127 : BitVec 32 := Scalar.muli v126 c256_i32_68
  let v128 : BitVec 32 := Scalar.addi v120 v127
  let v593 : Index := Scalar.indexCast v128
  let c512_355 : Index := 512#32
  ![v593.toNat, 512]
def k0_off26 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c1_i32_67 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v126 : BitVec 32 := Scalar.subi c1_i32_67 v31
  let c256_i32_68 : BitVec 32 := 256#32
  let v127 : BitVec 32 := Scalar.muli v126 c256_i32_68
  let v128 : BitVec 32 := Scalar.addi v120 v127
  let v592 : BitVec 32 := Scalar.subi v128 v120
  let v595 : Index := Scalar.indexCast v592
  let c0_356 : Index := 0#32
  ![v595.toNat, 0]
def k0_dev8 (d0 : Dev nD) : Nat :=
  let c0_i32_366 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_31 v19
  let c3_i32 : BitVec 32 := 3#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v63 : BitVec 32 := Scalar.subi c1_i32_30 v31
  let v65 : BitVec 32 := Scalar.muli c3_i32 v63
  let v66 : BitVec 32 := Scalar.addi v64 v65
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_33 : BitVec 32 := 1#32
  let c2_i32_32 : BitVec 32 := 2#32
  let v67 : BitVec 32 := Scalar.muli c2_i32_32 v63
  let v68 : BitVec 32 := Scalar.subi c1_i32_33 v67
  let v69 : BitVec 32 := Scalar.muli v35 v68
  let v70 : BitVec 32 := Scalar.addi v66 v69
  let c1_i32_365 : BitVec 32 := 1#32
  let v609 : BitVec 32 := Scalar.muli v70 c1_i32_365
  let v610 : BitVec 32 := Scalar.addi c0_i32_366 v609
  v610.toNat
def k0_off27 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let v616 : Index := Scalar.indexCast v125
  let c512_367 : Index := 512#32
  ![v616.toNat, 512]
def k0_off28 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let v615 : BitVec 32 := Scalar.subi v125 v120
  let v618 : Index := Scalar.indexCast v615
  let c0_368 : Index := 0#32
  ![v618.toNat, 0]
def k0_off29 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c1_i32_57 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v111 : BitVec 32 := Scalar.subi c1_i32_57 v45
  let c128_i32_58 : BitVec 32 := 128#32
  let v112 : BitVec 32 := Scalar.muli v111 c128_i32_58
  let v113 : BitVec 32 := Scalar.addi v105 v112
  let v633 : Index := Scalar.indexCast v113
  let c0_381 : Index := 0#32
  ![v633.toNat, 0]
def k0_off30 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c1_i32_57 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v111 : BitVec 32 := Scalar.subi c1_i32_57 v45
  let c128_i32_58 : BitVec 32 := 128#32
  let v112 : BitVec 32 := Scalar.muli v111 c128_i32_58
  let v113 : BitVec 32 := Scalar.addi v105 v112
  let v632 : BitVec 32 := Scalar.subi v113 v105
  let v635 : Index := Scalar.indexCast v632
  let c0_382 : Index := 0#32
  ![v635.toNat, 0]
def k0_dev9 (d0 : Dev nD) : Nat :=
  let c0_i32_392 : BitVec 32 := 0#32
  let c4_i32_41 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_39 : BitVec 32 := 1#32
  let v79 : BitVec 32 := Scalar.addi v19 c1_i32_39
  let c2_i32_40 : BitVec 32 := 2#32
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v80 : BitVec 32 := Scalar.muli c2_i32_40 v45
  let v81 : BitVec 32 := Scalar.subi v79 v80
  let v82 : BitVec 32 := Scalar.muli c4_i32_41 v81
  let c3_i32_42 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v83 : BitVec 32 := Scalar.muli c3_i32_42 v31
  let v84 : BitVec 32 := Scalar.addi v82 v83
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_44 : BitVec 32 := 1#32
  let c2_i32_43 : BitVec 32 := 2#32
  let v85 : BitVec 32 := Scalar.muli c2_i32_43 v31
  let v86 : BitVec 32 := Scalar.subi c1_i32_44 v85
  let v87 : BitVec 32 := Scalar.muli v35 v86
  let v88 : BitVec 32 := Scalar.addi v84 v87
  let c1_i32_391 : BitVec 32 := 1#32
  let v649 : BitVec 32 := Scalar.muli v88 c1_i32_391
  let v650 : BitVec 32 := Scalar.addi c0_i32_392 v649
  v650.toNat
def k0_off31 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c128_i32 : BitVec 32 := 128#32
  let v109 : BitVec 32 := Scalar.muli v45 c128_i32
  let v110 : BitVec 32 := Scalar.addi v105 v109
  let v656 : Index := Scalar.indexCast v110
  let c0_393 : Index := 0#32
  ![v656.toNat, 0]
def k0_off32 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c128_i32 : BitVec 32 := 128#32
  let v109 : BitVec 32 := Scalar.muli v45 c128_i32
  let v110 : BitVec 32 := Scalar.addi v105 v109
  let v655 : BitVec 32 := Scalar.subi v110 v105
  let v658 : Index := Scalar.indexCast v655
  let c0_394 : Index := 0#32
  ![v658.toNat, 0]
def k0_off33 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_70 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v131 : BitVec 32 := Scalar.subi c1_i32_70 v35
  let c128_i32_71 : BitVec 32 := 128#32
  let v132 : BitVec 32 := Scalar.muli v131 c128_i32_71
  let v133 : BitVec 32 := Scalar.addi v125 v132
  let v673 : Index := Scalar.indexCast v133
  let c512_407 : Index := 512#32
  ![v673.toNat, 512]
def k0_off34 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_70 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v131 : BitVec 32 := Scalar.subi c1_i32_70 v35
  let c128_i32_71 : BitVec 32 := 128#32
  let v132 : BitVec 32 := Scalar.muli v131 c128_i32_71
  let v133 : BitVec 32 := Scalar.addi v125 v132
  let v672 : BitVec 32 := Scalar.subi v133 v125
  let v675 : Index := Scalar.indexCast v672
  let c0_408 : Index := 0#32
  ![v675.toNat, 0]
def k0_dev10 (d0 : Dev nD) : Nat :=
  let c0_i32_418 : BitVec 32 := 0#32
  let c4_i32_35 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_35 v19
  let c3_i32_36 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v73 : BitVec 32 := Scalar.muli c3_i32_36 v31
  let v74 : BitVec 32 := Scalar.addi v72 v73
  let c1_i32_34 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v71 : BitVec 32 := Scalar.subi c1_i32_34 v35
  let c1_i32_38 : BitVec 32 := 1#32
  let c2_i32_37 : BitVec 32 := 2#32
  let v75 : BitVec 32 := Scalar.muli c2_i32_37 v31
  let v76 : BitVec 32 := Scalar.subi c1_i32_38 v75
  let v77 : BitVec 32 := Scalar.muli v71 v76
  let v78 : BitVec 32 := Scalar.addi v74 v77
  let c1_i32_417 : BitVec 32 := 1#32
  let v689 : BitVec 32 := Scalar.muli v78 c1_i32_417
  let v690 : BitVec 32 := Scalar.addi c0_i32_418 v689
  v690.toNat
def k0_off35 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_69 : BitVec 32 := 128#32
  let v129 : BitVec 32 := Scalar.muli v35 c128_i32_69
  let v130 : BitVec 32 := Scalar.addi v125 v129
  let v696 : Index := Scalar.indexCast v130
  let c512_419 : Index := 512#32
  ![v696.toNat, 512]
def k0_off36 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_69 : BitVec 32 := 128#32
  let v129 : BitVec 32 := Scalar.muli v35 c128_i32_69
  let v130 : BitVec 32 := Scalar.addi v125 v129
  let v695 : BitVec 32 := Scalar.subi v130 v125
  let v698 : Index := Scalar.indexCast v695
  let c0_420 : Index := 0#32
  ![v698.toNat, 0]
def k0_off37 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c128_i32 : BitVec 32 := 128#32
  let v109 : BitVec 32 := Scalar.muli v45 c128_i32
  let v110 : BitVec 32 := Scalar.addi v105 v109
  let c1_i32_59 : BitVec 32 := 1#32
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let v116 : BitVec 32 := Scalar.subi c1_i32_59 v62
  let c64_i32_60 : BitVec 32 := 64#32
  let v117 : BitVec 32 := Scalar.muli v116 c64_i32_60
  let v118 : BitVec 32 := Scalar.addi v110 v117
  let v713 : Index := Scalar.indexCast v118
  let c0_433 : Index := 0#32
  ![v713.toNat, 0]
def k0_off38 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c128_i32 : BitVec 32 := 128#32
  let v109 : BitVec 32 := Scalar.muli v45 c128_i32
  let v110 : BitVec 32 := Scalar.addi v105 v109
  let c1_i32_59 : BitVec 32 := 1#32
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let v116 : BitVec 32 := Scalar.subi c1_i32_59 v62
  let c64_i32_60 : BitVec 32 := 64#32
  let v117 : BitVec 32 := Scalar.muli v116 c64_i32_60
  let v118 : BitVec 32 := Scalar.addi v110 v117
  let v712 : BitVec 32 := Scalar.subi v118 v110
  let v715 : Index := Scalar.indexCast v712
  let c0_434 : Index := 0#32
  ![v715.toNat, 0]
def k0_dev11 (d0 : Dev nD) : Nat :=
  let c0_i32_444 : BitVec 32 := 0#32
  let c4_i32_47 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_45 : BitVec 32 := 2#32
  let v89 : BitVec 32 := Scalar.addi v19 c2_i32_45
  let c4_i32_46 : BitVec 32 := 4#32
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let v90 : BitVec 32 := Scalar.muli c4_i32_46 v62
  let v91 : BitVec 32 := Scalar.subi v89 v90
  let v92 : BitVec 32 := Scalar.muli c4_i32_47 v91
  let c3_i32_48 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v93 : BitVec 32 := Scalar.muli c3_i32_48 v31
  let v94 : BitVec 32 := Scalar.addi v92 v93
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_50 : BitVec 32 := 1#32
  let c2_i32_49 : BitVec 32 := 2#32
  let v95 : BitVec 32 := Scalar.muli c2_i32_49 v31
  let v96 : BitVec 32 := Scalar.subi c1_i32_50 v95
  let v97 : BitVec 32 := Scalar.muli v35 v96
  let v98 : BitVec 32 := Scalar.addi v94 v97
  let c1_i32_443 : BitVec 32 := 1#32
  let v729 : BitVec 32 := Scalar.muli v98 c1_i32_443
  let v730 : BitVec 32 := Scalar.addi c0_i32_444 v729
  v730.toNat
def k0_off39 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c128_i32 : BitVec 32 := 128#32
  let v109 : BitVec 32 := Scalar.muli v45 c128_i32
  let v110 : BitVec 32 := Scalar.addi v105 v109
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let c64_i32 : BitVec 32 := 64#32
  let v114 : BitVec 32 := Scalar.muli v62 c64_i32
  let v115 : BitVec 32 := Scalar.addi v110 v114
  let v736 : Index := Scalar.indexCast v115
  let c0_445 : Index := 0#32
  ![v736.toNat, 0]
def k0_off40 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c128_i32 : BitVec 32 := 128#32
  let v109 : BitVec 32 := Scalar.muli v45 c128_i32
  let v110 : BitVec 32 := Scalar.addi v105 v109
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let c64_i32 : BitVec 32 := 64#32
  let v114 : BitVec 32 := Scalar.muli v62 c64_i32
  let v115 : BitVec 32 := Scalar.addi v110 v114
  let v735 : BitVec 32 := Scalar.subi v115 v110
  let v738 : Index := Scalar.indexCast v735
  let c0_446 : Index := 0#32
  ![v738.toNat, 0]
def k0_off41 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_69 : BitVec 32 := 128#32
  let v129 : BitVec 32 := Scalar.muli v35 c128_i32_69
  let v130 : BitVec 32 := Scalar.addi v125 v129
  let c1_i32_73 : BitVec 32 := 1#32
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let v136 : BitVec 32 := Scalar.subi c1_i32_73 v62
  let c64_i32_74 : BitVec 32 := 64#32
  let v137 : BitVec 32 := Scalar.muli v136 c64_i32_74
  let v138 : BitVec 32 := Scalar.addi v130 v137
  let v753 : Index := Scalar.indexCast v138
  let c512_459 : Index := 512#32
  ![v753.toNat, 512]
def k0_off42 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_69 : BitVec 32 := 128#32
  let v129 : BitVec 32 := Scalar.muli v35 c128_i32_69
  let v130 : BitVec 32 := Scalar.addi v125 v129
  let c1_i32_73 : BitVec 32 := 1#32
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let v136 : BitVec 32 := Scalar.subi c1_i32_73 v62
  let c64_i32_74 : BitVec 32 := 64#32
  let v137 : BitVec 32 := Scalar.muli v136 c64_i32_74
  let v138 : BitVec 32 := Scalar.addi v130 v137
  let v752 : BitVec 32 := Scalar.subi v138 v130
  let v755 : Index := Scalar.indexCast v752
  let c0_460 : Index := 0#32
  ![v755.toNat, 0]
def k0_dev12 (d0 : Dev nD) : Nat :=
  let c0_i32_470 : BitVec 32 := 0#32
  let c4_i32_47 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_45 : BitVec 32 := 2#32
  let v89 : BitVec 32 := Scalar.addi v19 c2_i32_45
  let c4_i32_46 : BitVec 32 := 4#32
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let v90 : BitVec 32 := Scalar.muli c4_i32_46 v62
  let v91 : BitVec 32 := Scalar.subi v89 v90
  let v92 : BitVec 32 := Scalar.muli c4_i32_47 v91
  let c3_i32_48 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v93 : BitVec 32 := Scalar.muli c3_i32_48 v31
  let v94 : BitVec 32 := Scalar.addi v92 v93
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_50 : BitVec 32 := 1#32
  let c2_i32_49 : BitVec 32 := 2#32
  let v95 : BitVec 32 := Scalar.muli c2_i32_49 v31
  let v96 : BitVec 32 := Scalar.subi c1_i32_50 v95
  let v97 : BitVec 32 := Scalar.muli v35 v96
  let v98 : BitVec 32 := Scalar.addi v94 v97
  let c1_i32_469 : BitVec 32 := 1#32
  let v769 : BitVec 32 := Scalar.muli v98 c1_i32_469
  let v770 : BitVec 32 := Scalar.addi c0_i32_470 v769
  v770.toNat
def k0_off43 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_69 : BitVec 32 := 128#32
  let v129 : BitVec 32 := Scalar.muli v35 c128_i32_69
  let v130 : BitVec 32 := Scalar.addi v125 v129
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let c64_i32_72 : BitVec 32 := 64#32
  let v134 : BitVec 32 := Scalar.muli v62 c64_i32_72
  let v135 : BitVec 32 := Scalar.addi v130 v134
  let v776 : Index := Scalar.indexCast v135
  let c512_471 : Index := 512#32
  ![v776.toNat, 512]
def k0_off44 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_69 : BitVec 32 := 128#32
  let v129 : BitVec 32 := Scalar.muli v35 c128_i32_69
  let v130 : BitVec 32 := Scalar.addi v125 v129
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let c64_i32_72 : BitVec 32 := 64#32
  let v134 : BitVec 32 := Scalar.muli v62 c64_i32_72
  let v135 : BitVec 32 := Scalar.addi v130 v134
  let v775 : BitVec 32 := Scalar.subi v135 v130
  let v778 : Index := Scalar.indexCast v775
  let c0_472 : Index := 0#32
  ![v778.toNat, 0]
def k0_off45 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c128_i32 : BitVec 32 := 128#32
  let v109 : BitVec 32 := Scalar.muli v45 c128_i32
  let v110 : BitVec 32 := Scalar.addi v105 v109
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let c64_i32 : BitVec 32 := 64#32
  let v114 : BitVec 32 := Scalar.muli v62 c64_i32
  let v115 : BitVec 32 := Scalar.addi v110 v114
  let v792 : BitVec 32 := Scalar.subi v115 v115
  let v795 : Index := Scalar.indexCast v792
  let c0_486 : Index := 0#32
  ![v795.toNat, 0]
def k0_off46 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c128_i32 : BitVec 32 := 128#32
  let v109 : BitVec 32 := Scalar.muli v45 c128_i32
  let v110 : BitVec 32 := Scalar.addi v105 v109
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let c64_i32 : BitVec 32 := 64#32
  let v114 : BitVec 32 := Scalar.muli v62 c64_i32
  let v115 : BitVec 32 := Scalar.addi v110 v114
  let c0_i32_496 : BitVec 32 := 0#32
  ![v115.toNat, 0]
def k0_dev13 (d0 : Dev nD) : Nat :=
  let c0_i32_495 : BitVec 32 := 0#32
  let c4_i32_47 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_45 : BitVec 32 := 2#32
  let v89 : BitVec 32 := Scalar.addi v19 c2_i32_45
  let c4_i32_46 : BitVec 32 := 4#32
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let v90 : BitVec 32 := Scalar.muli c4_i32_46 v62
  let v91 : BitVec 32 := Scalar.subi v89 v90
  let v92 : BitVec 32 := Scalar.muli c4_i32_47 v91
  let c3_i32_48 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v93 : BitVec 32 := Scalar.muli c3_i32_48 v31
  let v94 : BitVec 32 := Scalar.addi v92 v93
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_50 : BitVec 32 := 1#32
  let c2_i32_49 : BitVec 32 := 2#32
  let v95 : BitVec 32 := Scalar.muli c2_i32_49 v31
  let v96 : BitVec 32 := Scalar.subi c1_i32_50 v95
  let v97 : BitVec 32 := Scalar.muli v35 v96
  let v98 : BitVec 32 := Scalar.addi v94 v97
  let c1_i32_494 : BitVec 32 := 1#32
  let v808 : BitVec 32 := Scalar.muli v98 c1_i32_494
  let v809 : BitVec 32 := Scalar.addi c0_i32_495 v808
  v809.toNat
def k0_dev14 (d0 : Dev nD) : Nat :=
  let c0_i32_503 : BitVec 32 := 0#32
  let c4_i32_41 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_39 : BitVec 32 := 1#32
  let v79 : BitVec 32 := Scalar.addi v19 c1_i32_39
  let c2_i32_40 : BitVec 32 := 2#32
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v80 : BitVec 32 := Scalar.muli c2_i32_40 v45
  let v81 : BitVec 32 := Scalar.subi v79 v80
  let v82 : BitVec 32 := Scalar.muli c4_i32_41 v81
  let c3_i32_42 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v83 : BitVec 32 := Scalar.muli c3_i32_42 v31
  let v84 : BitVec 32 := Scalar.addi v82 v83
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_44 : BitVec 32 := 1#32
  let c2_i32_43 : BitVec 32 := 2#32
  let v85 : BitVec 32 := Scalar.muli c2_i32_43 v31
  let v86 : BitVec 32 := Scalar.subi c1_i32_44 v85
  let v87 : BitVec 32 := Scalar.muli v35 v86
  let v88 : BitVec 32 := Scalar.addi v84 v87
  let c1_i32_502 : BitVec 32 := 1#32
  let v816 : BitVec 32 := Scalar.muli v88 c1_i32_502
  let v817 : BitVec 32 := Scalar.addi c0_i32_503 v816
  v817.toNat
def k0_dev15 (d0 : Dev nD) : Nat :=
  let c0_i32_511 : BitVec 32 := 0#32
  let c4_i32_35 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_35 v19
  let c3_i32_36 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v73 : BitVec 32 := Scalar.muli c3_i32_36 v31
  let v74 : BitVec 32 := Scalar.addi v72 v73
  let c1_i32_34 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v71 : BitVec 32 := Scalar.subi c1_i32_34 v35
  let c1_i32_38 : BitVec 32 := 1#32
  let c2_i32_37 : BitVec 32 := 2#32
  let v75 : BitVec 32 := Scalar.muli c2_i32_37 v31
  let v76 : BitVec 32 := Scalar.subi c1_i32_38 v75
  let v77 : BitVec 32 := Scalar.muli v71 v76
  let v78 : BitVec 32 := Scalar.addi v74 v77
  let c1_i32_510 : BitVec 32 := 1#32
  let v824 : BitVec 32 := Scalar.muli v78 c1_i32_510
  let v825 : BitVec 32 := Scalar.addi c0_i32_511 v824
  v825.toNat
def k0_dev16 (d0 : Dev nD) : Nat :=
  let c0_i32_518 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_31 v19
  let c3_i32 : BitVec 32 := 3#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v63 : BitVec 32 := Scalar.subi c1_i32_30 v31
  let v65 : BitVec 32 := Scalar.muli c3_i32 v63
  let v66 : BitVec 32 := Scalar.addi v64 v65
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_33 : BitVec 32 := 1#32
  let c2_i32_32 : BitVec 32 := 2#32
  let v67 : BitVec 32 := Scalar.muli c2_i32_32 v63
  let v68 : BitVec 32 := Scalar.subi c1_i32_33 v67
  let v69 : BitVec 32 := Scalar.muli v35 v68
  let v70 : BitVec 32 := Scalar.addi v66 v69
  let c1_i32_517 : BitVec 32 := 1#32
  let v832 : BitVec 32 := Scalar.muli v70 c1_i32_517
  let v833 : BitVec 32 := Scalar.addi c0_i32_518 v832
  v833.toNat
def k0_off47 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_69 : BitVec 32 := 128#32
  let v129 : BitVec 32 := Scalar.muli v35 c128_i32_69
  let v130 : BitVec 32 := Scalar.addi v125 v129
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let c64_i32_72 : BitVec 32 := 64#32
  let v134 : BitVec 32 := Scalar.muli v62 c64_i32_72
  let v135 : BitVec 32 := Scalar.addi v130 v134
  let v846 : BitVec 32 := Scalar.subi v135 v135
  let v849 : Index := Scalar.indexCast v846
  let c0_533 : Index := 0#32
  ![v849.toNat, 0]
def k0_off48 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_69 : BitVec 32 := 128#32
  let v129 : BitVec 32 := Scalar.muli v35 c128_i32_69
  let v130 : BitVec 32 := Scalar.addi v125 v129
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let c64_i32_72 : BitVec 32 := 64#32
  let v134 : BitVec 32 := Scalar.muli v62 c64_i32_72
  let v135 : BitVec 32 := Scalar.addi v130 v134
  let c512_i32_543 : BitVec 32 := 512#32
  ![v135.toNat, 512]
def k0_dev17 (d0 : Dev nD) : Nat :=
  let c0_i32_542 : BitVec 32 := 0#32
  let c4_i32_47 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_45 : BitVec 32 := 2#32
  let v89 : BitVec 32 := Scalar.addi v19 c2_i32_45
  let c4_i32_46 : BitVec 32 := 4#32
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let v90 : BitVec 32 := Scalar.muli c4_i32_46 v62
  let v91 : BitVec 32 := Scalar.subi v89 v90
  let v92 : BitVec 32 := Scalar.muli c4_i32_47 v91
  let c3_i32_48 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v93 : BitVec 32 := Scalar.muli c3_i32_48 v31
  let v94 : BitVec 32 := Scalar.addi v92 v93
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_50 : BitVec 32 := 1#32
  let c2_i32_49 : BitVec 32 := 2#32
  let v95 : BitVec 32 := Scalar.muli c2_i32_49 v31
  let v96 : BitVec 32 := Scalar.subi c1_i32_50 v95
  let v97 : BitVec 32 := Scalar.muli v35 v96
  let v98 : BitVec 32 := Scalar.addi v94 v97
  let c1_i32_541 : BitVec 32 := 1#32
  let v862 : BitVec 32 := Scalar.muli v98 c1_i32_541
  let v863 : BitVec 32 := Scalar.addi c0_i32_542 v862
  v863.toNat
def k0_dev18 (d0 : Dev nD) : Nat :=
  let c0_i32_550 : BitVec 32 := 0#32
  let c4_i32_35 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_35 v19
  let c3_i32_36 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v73 : BitVec 32 := Scalar.muli c3_i32_36 v31
  let v74 : BitVec 32 := Scalar.addi v72 v73
  let c1_i32_34 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v71 : BitVec 32 := Scalar.subi c1_i32_34 v35
  let c1_i32_38 : BitVec 32 := 1#32
  let c2_i32_37 : BitVec 32 := 2#32
  let v75 : BitVec 32 := Scalar.muli c2_i32_37 v31
  let v76 : BitVec 32 := Scalar.subi c1_i32_38 v75
  let v77 : BitVec 32 := Scalar.muli v71 v76
  let v78 : BitVec 32 := Scalar.addi v74 v77
  let c1_i32_549 : BitVec 32 := 1#32
  let v870 : BitVec 32 := Scalar.muli v78 c1_i32_549
  let v871 : BitVec 32 := Scalar.addi c0_i32_550 v870
  v871.toNat
def k0_dev19 (d0 : Dev nD) : Nat :=
  let c0_i32_558 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_31 v19
  let c3_i32 : BitVec 32 := 3#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v63 : BitVec 32 := Scalar.subi c1_i32_30 v31
  let v65 : BitVec 32 := Scalar.muli c3_i32 v63
  let v66 : BitVec 32 := Scalar.addi v64 v65
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_33 : BitVec 32 := 1#32
  let c2_i32_32 : BitVec 32 := 2#32
  let v67 : BitVec 32 := Scalar.muli c2_i32_32 v63
  let v68 : BitVec 32 := Scalar.subi c1_i32_33 v67
  let v69 : BitVec 32 := Scalar.muli v35 v68
  let v70 : BitVec 32 := Scalar.addi v66 v69
  let c1_i32_557 : BitVec 32 := 1#32
  let v878 : BitVec 32 := Scalar.muli v70 c1_i32_557
  let v879 : BitVec 32 := Scalar.addi c0_i32_558 v878
  v879.toNat
def k0_dev20 (d0 : Dev nD) : Nat :=
  let c0_i32_566 : BitVec 32 := 0#32
  let c4_i32_41 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_39 : BitVec 32 := 1#32
  let v79 : BitVec 32 := Scalar.addi v19 c1_i32_39
  let c2_i32_40 : BitVec 32 := 2#32
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v80 : BitVec 32 := Scalar.muli c2_i32_40 v45
  let v81 : BitVec 32 := Scalar.subi v79 v80
  let v82 : BitVec 32 := Scalar.muli c4_i32_41 v81
  let c3_i32_42 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v83 : BitVec 32 := Scalar.muli c3_i32_42 v31
  let v84 : BitVec 32 := Scalar.addi v82 v83
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_44 : BitVec 32 := 1#32
  let c2_i32_43 : BitVec 32 := 2#32
  let v85 : BitVec 32 := Scalar.muli c2_i32_43 v31
  let v86 : BitVec 32 := Scalar.subi c1_i32_44 v85
  let v87 : BitVec 32 := Scalar.muli v35 v86
  let v88 : BitVec 32 := Scalar.addi v84 v87
  let c1_i32_565 : BitVec 32 := 1#32
  let v886 : BitVec 32 := Scalar.muli v88 c1_i32_565
  let v887 : BitVec 32 := Scalar.addi c0_i32_566 v886
  v887.toNat
def k0_off49 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c128_i32 : BitVec 32 := 128#32
  let v109 : BitVec 32 := Scalar.muli v45 c128_i32
  let v110 : BitVec 32 := Scalar.addi v105 v109
  let c1_i32_59 : BitVec 32 := 1#32
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let v116 : BitVec 32 := Scalar.subi c1_i32_59 v62
  let c64_i32_60 : BitVec 32 := 64#32
  let v117 : BitVec 32 := Scalar.muli v116 c64_i32_60
  let v118 : BitVec 32 := Scalar.addi v110 v117
  let c0_i32_590 : BitVec 32 := 0#32
  ![v118.toNat, 0]
def k0_dev21 (d0 : Dev nD) : Nat :=
  let c0_i32_589 : BitVec 32 := 0#32
  let c4_i32_41 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_39 : BitVec 32 := 1#32
  let v79 : BitVec 32 := Scalar.addi v19 c1_i32_39
  let c2_i32_40 : BitVec 32 := 2#32
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v80 : BitVec 32 := Scalar.muli c2_i32_40 v45
  let v81 : BitVec 32 := Scalar.subi v79 v80
  let v82 : BitVec 32 := Scalar.muli c4_i32_41 v81
  let c3_i32_42 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v83 : BitVec 32 := Scalar.muli c3_i32_42 v31
  let v84 : BitVec 32 := Scalar.addi v82 v83
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_44 : BitVec 32 := 1#32
  let c2_i32_43 : BitVec 32 := 2#32
  let v85 : BitVec 32 := Scalar.muli c2_i32_43 v31
  let v86 : BitVec 32 := Scalar.subi c1_i32_44 v85
  let v87 : BitVec 32 := Scalar.muli v35 v86
  let v88 : BitVec 32 := Scalar.addi v84 v87
  let c1_i32_588 : BitVec 32 := 1#32
  let v904 : BitVec 32 := Scalar.muli v88 c1_i32_588
  let v905 : BitVec 32 := Scalar.addi c0_i32_589 v904
  v905.toNat
def k0_dev22 (d0 : Dev nD) : Nat :=
  let c0_i32_597 : BitVec 32 := 0#32
  let c4_i32_35 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_35 v19
  let c3_i32_36 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v73 : BitVec 32 := Scalar.muli c3_i32_36 v31
  let v74 : BitVec 32 := Scalar.addi v72 v73
  let c1_i32_34 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v71 : BitVec 32 := Scalar.subi c1_i32_34 v35
  let c1_i32_38 : BitVec 32 := 1#32
  let c2_i32_37 : BitVec 32 := 2#32
  let v75 : BitVec 32 := Scalar.muli c2_i32_37 v31
  let v76 : BitVec 32 := Scalar.subi c1_i32_38 v75
  let v77 : BitVec 32 := Scalar.muli v71 v76
  let v78 : BitVec 32 := Scalar.addi v74 v77
  let c1_i32_596 : BitVec 32 := 1#32
  let v912 : BitVec 32 := Scalar.muli v78 c1_i32_596
  let v913 : BitVec 32 := Scalar.addi c0_i32_597 v912
  v913.toNat
def k0_dev23 (d0 : Dev nD) : Nat :=
  let c0_i32_604 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_31 v19
  let c3_i32 : BitVec 32 := 3#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v63 : BitVec 32 := Scalar.subi c1_i32_30 v31
  let v65 : BitVec 32 := Scalar.muli c3_i32 v63
  let v66 : BitVec 32 := Scalar.addi v64 v65
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_33 : BitVec 32 := 1#32
  let c2_i32_32 : BitVec 32 := 2#32
  let v67 : BitVec 32 := Scalar.muli c2_i32_32 v63
  let v68 : BitVec 32 := Scalar.subi c1_i32_33 v67
  let v69 : BitVec 32 := Scalar.muli v35 v68
  let v70 : BitVec 32 := Scalar.addi v66 v69
  let c1_i32_603 : BitVec 32 := 1#32
  let v920 : BitVec 32 := Scalar.muli v70 c1_i32_603
  let v921 : BitVec 32 := Scalar.addi c0_i32_604 v920
  v921.toNat
def k0_off50 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_69 : BitVec 32 := 128#32
  let v129 : BitVec 32 := Scalar.muli v35 c128_i32_69
  let v130 : BitVec 32 := Scalar.addi v125 v129
  let c1_i32_73 : BitVec 32 := 1#32
  let c0_i32_24 : BitVec 32 := 0#32
  let v47 : BitVec 1 := Scalar.cmpi .sgt v19 c0_i32_24
  let v48 : BitVec 32 := Scalar.extui v47
  let c0_i32_25 : BitVec 32 := 0#32
  let v49 : BitVec 1 := Scalar.cmpi .slt v19 c0_i32_25
  let v50 : BitVec 32 := Scalar.extui v49
  let v51 : BitVec 32 := Scalar.subi v48 v50
  let c2_i32_23 : BitVec 32 := 2#32
  let c0_i32_26 : BitVec 32 := 0#32
  let v52 : BitVec 1 := Scalar.cmpi .sgt c2_i32_23 c0_i32_26
  let v53 : BitVec 32 := Scalar.extui v52
  let c0_i32_27 : BitVec 32 := 0#32
  let v54 : BitVec 1 := Scalar.cmpi .slt c2_i32_23 c0_i32_27
  let v55 : BitVec 32 := Scalar.extui v54
  let v56 : BitVec 32 := Scalar.subi v53 v55
  let v57 : BitVec 1 := Scalar.cmpi .ne v51 v56
  let v58 : BitVec 32 := Scalar.remsi v19 c2_i32_23
  let c0_i32_28 : BitVec 32 := 0#32
  let v59 : BitVec 1 := Scalar.cmpi .ne v58 c0_i32_28
  let v60 : BitVec 1 := Scalar.andi v57 v59
  let v46 : BitVec 32 := Scalar.divsi v19 c2_i32_23
  let c1_i32_29 : BitVec 32 := 1#32
  let v61 : BitVec 32 := Scalar.subi v46 c1_i32_29
  let v62 : BitVec 32 := Scalar.select v60 v61 v46
  let v136 : BitVec 32 := Scalar.subi c1_i32_73 v62
  let c64_i32_74 : BitVec 32 := 64#32
  let v137 : BitVec 32 := Scalar.muli v136 c64_i32_74
  let v138 : BitVec 32 := Scalar.addi v130 v137
  let c512_i32_628 : BitVec 32 := 512#32
  ![v138.toNat, 512]
def k0_dev24 (d0 : Dev nD) : Nat :=
  let c0_i32_627 : BitVec 32 := 0#32
  let c4_i32_35 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_35 v19
  let c3_i32_36 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v73 : BitVec 32 := Scalar.muli c3_i32_36 v31
  let v74 : BitVec 32 := Scalar.addi v72 v73
  let c1_i32_34 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v71 : BitVec 32 := Scalar.subi c1_i32_34 v35
  let c1_i32_38 : BitVec 32 := 1#32
  let c2_i32_37 : BitVec 32 := 2#32
  let v75 : BitVec 32 := Scalar.muli c2_i32_37 v31
  let v76 : BitVec 32 := Scalar.subi c1_i32_38 v75
  let v77 : BitVec 32 := Scalar.muli v71 v76
  let v78 : BitVec 32 := Scalar.addi v74 v77
  let c1_i32_626 : BitVec 32 := 1#32
  let v938 : BitVec 32 := Scalar.muli v78 c1_i32_626
  let v939 : BitVec 32 := Scalar.addi c0_i32_627 v938
  v939.toNat
def k0_dev25 (d0 : Dev nD) : Nat :=
  let c0_i32_635 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_31 v19
  let c3_i32 : BitVec 32 := 3#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v63 : BitVec 32 := Scalar.subi c1_i32_30 v31
  let v65 : BitVec 32 := Scalar.muli c3_i32 v63
  let v66 : BitVec 32 := Scalar.addi v64 v65
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_33 : BitVec 32 := 1#32
  let c2_i32_32 : BitVec 32 := 2#32
  let v67 : BitVec 32 := Scalar.muli c2_i32_32 v63
  let v68 : BitVec 32 := Scalar.subi c1_i32_33 v67
  let v69 : BitVec 32 := Scalar.muli v35 v68
  let v70 : BitVec 32 := Scalar.addi v66 v69
  let c1_i32_634 : BitVec 32 := 1#32
  let v946 : BitVec 32 := Scalar.muli v70 c1_i32_634
  let v947 : BitVec 32 := Scalar.addi c0_i32_635 v946
  v947.toNat
def k0_dev26 (d0 : Dev nD) : Nat :=
  let c0_i32_643 : BitVec 32 := 0#32
  let c4_i32_41 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_39 : BitVec 32 := 1#32
  let v79 : BitVec 32 := Scalar.addi v19 c1_i32_39
  let c2_i32_40 : BitVec 32 := 2#32
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v80 : BitVec 32 := Scalar.muli c2_i32_40 v45
  let v81 : BitVec 32 := Scalar.subi v79 v80
  let v82 : BitVec 32 := Scalar.muli c4_i32_41 v81
  let c3_i32_42 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v83 : BitVec 32 := Scalar.muli c3_i32_42 v31
  let v84 : BitVec 32 := Scalar.addi v82 v83
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_44 : BitVec 32 := 1#32
  let c2_i32_43 : BitVec 32 := 2#32
  let v85 : BitVec 32 := Scalar.muli c2_i32_43 v31
  let v86 : BitVec 32 := Scalar.subi c1_i32_44 v85
  let v87 : BitVec 32 := Scalar.muli v35 v86
  let v88 : BitVec 32 := Scalar.addi v84 v87
  let c1_i32_642 : BitVec 32 := 1#32
  let v954 : BitVec 32 := Scalar.muli v88 c1_i32_642
  let v955 : BitVec 32 := Scalar.addi c0_i32_643 v954
  v955.toNat
def k0_off51 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32 : BitVec 32 := 256#32
  let v104 : BitVec 32 := Scalar.muli v35 c256_i32
  let v105 : BitVec 32 := Scalar.addi v100 v104
  let c1_i32_57 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v111 : BitVec 32 := Scalar.subi c1_i32_57 v45
  let c128_i32_58 : BitVec 32 := 128#32
  let v112 : BitVec 32 := Scalar.muli v111 c128_i32_58
  let v113 : BitVec 32 := Scalar.addi v105 v112
  let c0_i32_681 : BitVec 32 := 0#32
  ![v113.toNat, 0]
def k0_dev27 (d0 : Dev nD) : Nat :=
  let c0_i32_680 : BitVec 32 := 0#32
  let c4_i32_35 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_35 v19
  let c3_i32_36 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v73 : BitVec 32 := Scalar.muli c3_i32_36 v31
  let v74 : BitVec 32 := Scalar.addi v72 v73
  let c1_i32_34 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v71 : BitVec 32 := Scalar.subi c1_i32_34 v35
  let c1_i32_38 : BitVec 32 := 1#32
  let c2_i32_37 : BitVec 32 := 2#32
  let v75 : BitVec 32 := Scalar.muli c2_i32_37 v31
  let v76 : BitVec 32 := Scalar.subi c1_i32_38 v75
  let v77 : BitVec 32 := Scalar.muli v71 v76
  let v78 : BitVec 32 := Scalar.addi v74 v77
  let c1_i32_679 : BitVec 32 := 1#32
  let v982 : BitVec 32 := Scalar.muli v78 c1_i32_679
  let v983 : BitVec 32 := Scalar.addi c0_i32_680 v982
  v983.toNat
def k0_dev28 (d0 : Dev nD) : Nat :=
  let c0_i32_687 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_31 v19
  let c3_i32 : BitVec 32 := 3#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v63 : BitVec 32 := Scalar.subi c1_i32_30 v31
  let v65 : BitVec 32 := Scalar.muli c3_i32 v63
  let v66 : BitVec 32 := Scalar.addi v64 v65
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_33 : BitVec 32 := 1#32
  let c2_i32_32 : BitVec 32 := 2#32
  let v67 : BitVec 32 := Scalar.muli c2_i32_32 v63
  let v68 : BitVec 32 := Scalar.subi c1_i32_33 v67
  let v69 : BitVec 32 := Scalar.muli v35 v68
  let v70 : BitVec 32 := Scalar.addi v66 v69
  let c1_i32_686 : BitVec 32 := 1#32
  let v990 : BitVec 32 := Scalar.muli v70 c1_i32_686
  let v991 : BitVec 32 := Scalar.addi c0_i32_687 v990
  v991.toNat
def k0_off52 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c256_i32_66 : BitVec 32 := 256#32
  let v124 : BitVec 32 := Scalar.muli v31 c256_i32_66
  let v125 : BitVec 32 := Scalar.addi v120 v124
  let c1_i32_70 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v131 : BitVec 32 := Scalar.subi c1_i32_70 v35
  let c128_i32_71 : BitVec 32 := 128#32
  let v132 : BitVec 32 := Scalar.muli v131 c128_i32_71
  let v133 : BitVec 32 := Scalar.addi v125 v132
  let c512_i32_726 : BitVec 32 := 512#32
  ![v133.toNat, 512]
def k0_dev29 (d0 : Dev nD) : Nat :=
  let c0_i32_725 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_31 v19
  let c3_i32 : BitVec 32 := 3#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v63 : BitVec 32 := Scalar.subi c1_i32_30 v31
  let v65 : BitVec 32 := Scalar.muli c3_i32 v63
  let v66 : BitVec 32 := Scalar.addi v64 v65
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_33 : BitVec 32 := 1#32
  let c2_i32_32 : BitVec 32 := 2#32
  let v67 : BitVec 32 := Scalar.muli c2_i32_32 v63
  let v68 : BitVec 32 := Scalar.subi c1_i32_33 v67
  let v69 : BitVec 32 := Scalar.muli v35 v68
  let v70 : BitVec 32 := Scalar.addi v66 v69
  let c1_i32_724 : BitVec 32 := 1#32
  let v1018 : BitVec 32 := Scalar.muli v70 c1_i32_724
  let v1019 : BitVec 32 := Scalar.addi c0_i32_725 v1018
  v1019.toNat
def k0_dev30 (d0 : Dev nD) : Nat :=
  let c0_i32_733 : BitVec 32 := 0#32
  let c4_i32_41 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_39 : BitVec 32 := 1#32
  let v79 : BitVec 32 := Scalar.addi v19 c1_i32_39
  let c2_i32_40 : BitVec 32 := 2#32
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v80 : BitVec 32 := Scalar.muli c2_i32_40 v45
  let v81 : BitVec 32 := Scalar.subi v79 v80
  let v82 : BitVec 32 := Scalar.muli c4_i32_41 v81
  let c3_i32_42 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v83 : BitVec 32 := Scalar.muli c3_i32_42 v31
  let v84 : BitVec 32 := Scalar.addi v82 v83
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_44 : BitVec 32 := 1#32
  let c2_i32_43 : BitVec 32 := 2#32
  let v85 : BitVec 32 := Scalar.muli c2_i32_43 v31
  let v86 : BitVec 32 := Scalar.subi c1_i32_44 v85
  let v87 : BitVec 32 := Scalar.muli v35 v86
  let v88 : BitVec 32 := Scalar.addi v84 v87
  let c1_i32_732 : BitVec 32 := 1#32
  let v1026 : BitVec 32 := Scalar.muli v88 c1_i32_732
  let v1027 : BitVec 32 := Scalar.addi c0_i32_733 v1026
  v1027.toNat
def k0_off53 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let c512_i32 : BitVec 32 := 512#32
  let v99 : BitVec 32 := Scalar.muli v31 c512_i32
  let v100 : BitVec 32 := Scalar.addi c0_i32_51 v99
  let c1_i32_55 : BitVec 32 := 1#32
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v106 : BitVec 32 := Scalar.subi c1_i32_55 v35
  let c256_i32_56 : BitVec 32 := 256#32
  let v107 : BitVec 32 := Scalar.muli v106 c256_i32_56
  let v108 : BitVec 32 := Scalar.addi v100 v107
  let c0_i32_786 : BitVec 32 := 0#32
  ![v108.toNat, 0]
def k0_dev31 (d0 : Dev nD) : Nat :=
  let c0_i32_785 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_31 v19
  let c3_i32 : BitVec 32 := 3#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v63 : BitVec 32 := Scalar.subi c1_i32_30 v31
  let v65 : BitVec 32 := Scalar.muli c3_i32 v63
  let v66 : BitVec 32 := Scalar.addi v64 v65
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_33 : BitVec 32 := 1#32
  let c2_i32_32 : BitVec 32 := 2#32
  let v67 : BitVec 32 := Scalar.muli c2_i32_32 v63
  let v68 : BitVec 32 := Scalar.subi c1_i32_33 v67
  let v69 : BitVec 32 := Scalar.muli v35 v68
  let v70 : BitVec 32 := Scalar.addi v66 v69
  let c1_i32_784 : BitVec 32 := 1#32
  let v1064 : BitVec 32 := Scalar.muli v70 c1_i32_784
  let v1065 : BitVec 32 := Scalar.addi c0_i32_785 v1064
  v1065.toNat
def k0_off54 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c512_i32_61 : BitVec 32 := 512#32
  let v119 : BitVec 32 := Scalar.muli v45 c512_i32_61
  let v120 : BitVec 32 := Scalar.addi c0_i32_62 v119
  let c1_i32_67 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v126 : BitVec 32 := Scalar.subi c1_i32_67 v31
  let c256_i32_68 : BitVec 32 := 256#32
  let v127 : BitVec 32 := Scalar.muli v126 c256_i32_68
  let v128 : BitVec 32 := Scalar.addi v120 v127
  let c512_i32_839 : BitVec 32 := 512#32
  ![v128.toNat, 512]
def k0_dev32 (d0 : Dev nD) : Nat :=
  let c0_i32_838 : BitVec 32 := 0#32
  let c4_i32_41 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_39 : BitVec 32 := 1#32
  let v79 : BitVec 32 := Scalar.addi v19 c1_i32_39
  let c2_i32_40 : BitVec 32 := 2#32
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi v19 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v80 : BitVec 32 := Scalar.muli c2_i32_40 v45
  let v81 : BitVec 32 := Scalar.subi v79 v80
  let v82 : BitVec 32 := Scalar.muli c4_i32_41 v81
  let c3_i32_42 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v30 : BitVec 1 := Scalar.cmpi .sge v29 c2_i32
  let c1_i32_11 : BitVec 32 := 1#32
  let c0_i32_12 : BitVec 32 := 0#32
  let v31 : BitVec 32 := Scalar.select v30 c1_i32_11 c0_i32_12
  let v83 : BitVec 32 := Scalar.muli c3_i32_42 v31
  let v84 : BitVec 32 := Scalar.addi v82 v83
  let c1_i32_13 : BitVec 32 := 1#32
  let v32 : BitVec 1 := Scalar.cmpi .eq v29 c1_i32_13
  let c2_i32_14 : BitVec 32 := 2#32
  let v33 : BitVec 1 := Scalar.cmpi .eq v29 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c1_i32_44 : BitVec 32 := 1#32
  let c2_i32_43 : BitVec 32 := 2#32
  let v85 : BitVec 32 := Scalar.muli c2_i32_43 v31
  let v86 : BitVec 32 := Scalar.subi c1_i32_44 v85
  let v87 : BitVec 32 := Scalar.muli v35 v86
  let v88 : BitVec 32 := Scalar.addi v84 v87
  let c1_i32_837 : BitVec 32 := 1#32
  let v1102 : BitVec 32 := Scalar.muli v88 c1_i32_837
  let v1103 : BitVec 32 := Scalar.addi c0_i32_838 v1102
  v1103.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S1024x128 : Shape := ⟨2, ![1024, 128]⟩
abbrev S1x1024x1024 : Shape := ⟨3, ![1, 1024, 1024]⟩
abbrev S1x1024x16384 : Shape := ⟨3, ![1, 1024, 16384]⟩
abbrev S1x1024x128x128 : Shape := ⟨4, ![1, 1024, 128, 128]⟩
abbrev S1x1024x128x64x2 : Shape := ⟨5, ![1, 1024, 128, 64, 2]⟩
abbrev S1x1024x128x64x1 : Shape := ⟨5, ![1, 1024, 128, 64, 1]⟩
abbrev S1x1024x128x64 : Shape := ⟨4, ![1, 1024, 128, 64]⟩
abbrev S1x1024x1x128 : Shape := ⟨4, ![1, 1024, 1, 128]⟩
abbrev S1x128x1024x1024 : Shape := ⟨4, ![1, 128, 1024, 1024]⟩
abbrev S_ : Shape := ⟨0, ![]⟩
abbrev S1x128x1024 : Shape := ⟨3, ![1, 128, 1024]⟩
abbrev S1x128x1024x1 : Shape := ⟨4, ![1, 128, 1024, 1]⟩
abbrev S1x128x128x1024 : Shape := ⟨4, ![1, 128, 128, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16384, .f32⟩
  | .hbm, ⟨2, _⟩ => ⟨S1024x16384, .f32⟩
  | .hbm, ⟨3, _⟩ => ⟨S1024x16384, .f32⟩
  | .hbm, ⟨4, _⟩ => ⟨S16384x1024, .f32⟩
  | .hbm, ⟨5, _⟩ => ⟨S1024x128, .f32⟩
  | .hbm, ⟨6, _⟩ => ⟨S1024x128, .f32⟩
  | .hbm, ⟨7, _⟩ => ⟨S1x1024x1024, .f32⟩
  | .hbm, ⟨8, _⟩ => ⟨S1x1024x16384, .f32⟩
  | .hbm, ⟨9, _⟩ => ⟨S1x1024x128x128, .f32⟩
  | .hbm, ⟨10, _⟩ => ⟨S1x1024x128x64x2, .f32⟩
  | .hbm, ⟨11, _⟩ => ⟨S1x1024x128x64x1, .f32⟩
  | .hbm, ⟨12, _⟩ => ⟨S1x1024x128x64, .f32⟩
  | .hbm, ⟨13, _⟩ => ⟨S1x1024x128x64, .f32⟩
  | .hbm, ⟨14, _⟩ => ⟨S1x1024x128x64x1, .f32⟩
  | .hbm, ⟨15, _⟩ => ⟨S1x1024x128x64, .f32⟩
  | .hbm, ⟨16, _⟩ => ⟨S1x1024x128x64x1, .f32⟩
  | .hbm, ⟨17, _⟩ => ⟨S1x1024x128x64x1, .f32⟩
  | .hbm, ⟨18, _⟩ => ⟨S1x1024x128x64x2, .f32⟩
  | .hbm, ⟨19, _⟩ => ⟨S1x1024x128x128, .f32⟩
  | .hbm, ⟨20, _⟩ => ⟨S1x1024x1x128, .f32⟩
  | .hbm, ⟨21, _⟩ => ⟨S1x1024x128x128, .f32⟩
  | .hbm, ⟨22, _⟩ => ⟨S1x1024x128x128, .f32⟩
  | .hbm, ⟨23, _⟩ => ⟨S1x1024x1x128, .f32⟩
  | .hbm, ⟨24, _⟩ => ⟨S1x1024x128x128, .f32⟩
  | .hbm, ⟨25, _⟩ => ⟨S1x1024x128x128, .f32⟩
  | .hbm, ⟨26, _⟩ => ⟨S1x1024x128x128, .f32⟩
  | .hbm, ⟨27, _⟩ => ⟨S1x1024x16384, .f32⟩
  | .hbm, ⟨28, _⟩ => ⟨S1x1024x128x128, .f32⟩
  | .hbm, ⟨29, _⟩ => ⟨S1x1024x128x64x2, .f32⟩
  | .hbm, ⟨30, _⟩ => ⟨S1x1024x128x64x1, .f32⟩
  | .hbm, ⟨31, _⟩ => ⟨S1x1024x128x64, .f32⟩
  | .hbm, ⟨32, _⟩ => ⟨S1x1024x128x64, .f32⟩
  | .hbm, ⟨33, _⟩ => ⟨S1x1024x128x64x1, .f32⟩
  | .hbm, ⟨34, _⟩ => ⟨S1x1024x128x64, .f32⟩
  | .hbm, ⟨35, _⟩ => ⟨S1x1024x128x64x1, .f32⟩
  | .hbm, ⟨36, _⟩ => ⟨S1x1024x128x64x1, .f32⟩
  | .hbm, ⟨37, _⟩ => ⟨S1x1024x128x64x2, .f32⟩
  | .hbm, ⟨38, _⟩ => ⟨S1x1024x128x128, .f32⟩
  | .hbm, ⟨39, _⟩ => ⟨S1x1024x1x128, .f32⟩
  | .hbm, ⟨40, _⟩ => ⟨S1x1024x128x128, .f32⟩
  | .hbm, ⟨41, _⟩ => ⟨S1x1024x128x128, .f32⟩
  | .hbm, ⟨42, _⟩ => ⟨S1x1024x1x128, .f32⟩
  | .hbm, ⟨43, _⟩ => ⟨S1x1024x128x128, .f32⟩
  | .hbm, ⟨44, _⟩ => ⟨S1x1024x128x128, .f32⟩
  | .hbm, ⟨45, _⟩ => ⟨S1x1024x128x128, .f32⟩
  | .hbm, ⟨46, _⟩ => ⟨S1x1024x16384, .f32⟩
  | .hbm, ⟨47, _⟩ => ⟨S1x1024x128x128, .f32⟩
  | .hbm, ⟨48, _⟩ => ⟨S1x128x1024x1024, .f32⟩
  | .hbm, ⟨49, _⟩ => ⟨S_, .f32⟩
  | .hbm, ⟨50, _⟩ => ⟨S1x128x1024x1024, .f32⟩
  | .hbm, ⟨51, _⟩ => ⟨S1x128x1024x1024, .f32⟩
  | .hbm, ⟨52, _⟩ => ⟨S_, .f32⟩
  | .hbm, ⟨53, _⟩ => ⟨S1x128x1024, .f32⟩
  | .hbm, ⟨54, _⟩ => ⟨S1x128x1024x1, .f32⟩
  | .hbm, ⟨55, _⟩ => ⟨S1x128x1024x1024, .f32⟩
  | .hbm, ⟨56, _⟩ => ⟨S1x128x1024x1024, .f32⟩
  | .hbm, ⟨57, _⟩ => ⟨S1x128x1024x1024, .f32⟩
  | .hbm, ⟨58, _⟩ => ⟨S_, .f32⟩
  | .hbm, ⟨59, _⟩ => ⟨S1x128x1024, .f32⟩
  | .hbm, ⟨60, _⟩ => ⟨S1x128x1024x1, .f32⟩
  | .hbm, ⟨61, _⟩ => ⟨S1x128x1024x1024, .f32⟩
  | .hbm, ⟨62, _⟩ => ⟨S1x128x1024x1024, .f32⟩
  | .hbm, ⟨63, _⟩ => ⟨S1x128x128x1024, .f32⟩
  | .hbm, ⟨64, _⟩ => ⟨S1x1024x128x128, .f32⟩
  | .hbm, ⟨65, _⟩ => ⟨S1x1024x16384, .f32⟩
  | .hbm, ⟨66, _⟩ => ⟨S1x1024x1024, .f32⟩
  | .hbm, ⟨67, _⟩ => ⟨S1024x1024, .f32⟩
  | .hbm, ⟨68, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst : Ref sig .tc := ⟨.hbm, 49, rfl⟩
abbrev main_v42 : Ref sig .tc := ⟨.hbm, 50, rfl⟩
abbrev main_v43 : Ref sig .tc := ⟨.hbm, 51, rfl⟩
abbrev main_cst_0 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_1 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩

abbrev nD : Nat := 1
abbrev τ : Topo := Topo.v7x

variable {F : FTy → Type} [FloatOps F]
-- ==== Proof.Base.lean ====
/-
# The mesh, the two trees and the 28 transfers

Tables of the kernel's all-reduce: the four directions of the mesh, the order in which each of the two column
halves ("trees") walks them, the rows each device keeps and sends at every step, and for each of the 28 transfers
its tree, direction, semaphores and place in the order of the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.AR

open Cert.KernelIdeal Cert.KernelIdeal.Gen
open Idealize.ShloMosaic

/-- A device's neighbour in direction `d`. -/
def mask (d : Fin 4) : ℕ := match d with | 0 => 3 | 1 => 1 | 2 => 4 | 3 => 8
def mv (d : Fin 4) (c : Dev nD) : Dev nD := ⟨(c.val ^^^ mask d) % 16, Nat.mod_lt _ (by decide)⟩
theorem mv_mv (d : Fin 4) (c : Dev nD) : mv d (mv d c) = c := by revert d c; decide
theorem mv_ne (d : Fin 4) (c : Dev nD) : mv d c ≠ c := by revert d c; decide

/-- A device's coordinate in direction `d`. -/
def bit (d : Fin 4) (c : Dev nD) : ℕ :=
  match d with | 0 => c.val / 2 % 2 | 1 => (c.val / 2 + c.val) % 2 | 2 => c.val / 4 % 2 | 3 => c.val / 8 % 2

/-- The direction tree `t` walks at step `s`. -/
def dirOf (t : Fin 2) (s : ℕ) : Fin 4 :=
  match t, s with
  | 0, 0 => 0 | 0, 1 => 1 | 0, 2 => 2 | 0, _ => 3
  | 1, 0 => 2 | 1, 1 => 0 | 1, 2 => 1 | 1, _ => 3

/-- The partner at step `s` of tree `t`. -/
def pr (t : Fin 2) (s : ℕ) (c : Dev nD) : Dev nD := mv (dirOf t s) c
theorem pr_pr (t : Fin 2) (s : ℕ) (c : Dev nD) : pr t s (pr t s c) = c := mv_mv _ _

/-- The number of rows exchanged at step `s`. -/
def sz (s : ℕ) : ℕ := 512 / 2 ^ s

/-- The first row a device still holds before step `s`. -/
def kp (t : Fin 2) : ℕ → Dev nD → ℕ
  | 0, _ => 0
  | s + 1, c => kp t s c + bit (dirOf t s) c * sz s
/-- The first row a device sends away at step `s`. -/
def sd (t : Fin 2) (s : ℕ) (c : Dev nD) : ℕ := kp t s c + (1 - bit (dirOf t s) c) * sz s

theorem sd_eq (t : Fin 2) (s : Fin 4) (c : Dev nD) : sd t s c = kp t (s + 1) (pr t s c) := by revert t s c; decide +kernel

/-! ## The transfers -/

def tr (k : Fin 30) : Fin 2 := (![0,1,0,1,0,1,0,1, 0,0,0,0,1,1,1,1, 0,0,0,1,1,1, 0,0,1,1, 0,1, 0,1] : Fin 30 → Fin 2) k
def stp (k : Fin 30) : ℕ := (![0,0,1,1,2,2,3,3, 3,2,1,0,3,2,1,0, 2,1,0,2,1,0, 1,0,1,0, 0,0, 0,0] : Fin 30 → ℕ) k
def sIx (k : Fin 30) : Fin 68 := (![8,13,9,14,10,15,11,16, 28,29,31,34,38,39,41,44, 30,32,35,40,42,45, 33,36,43,46, 37,47, 12,17] : Fin 30 → Fin 68) k
def rIx (k : Fin 30) : Fin 68 := (![18,23,19,24,20,25,21,26, 48,49,51,54,58,59,61,64, 50,52,55,60,62,65, 53,56,63,66, 57,67, 22,27] : Fin 30 → Fin 68) k
/-- The place of a transfer in the order of the waits. -/
def wr (k : Fin 30) : ℕ := (![0,1,2,3,4,5,6,7, 8,10,14,20,9,12,17,24, 11,15,21,13,18,25, 16,22,19,26, 23,27, 28,29] : Fin 30 → ℕ) k
theorem wr_inj (j k : Fin 30) : wr j = wr k → j = k := by revert j k; decide +kernel

def sSem (k : Fin 30) : DmaSem sig := sIx k
def rSem (k : Fin 30) : DmaSem sig := rIx k

/-- Which transfer a semaphore serves, and on which end. -/
def semKind (i : Fin 68) : Option (Bool × Fin 30) :=
  ((List.finRange 30).find? fun k => sIx k = i).elim (((List.finRange 30).find? fun k => rIx k = i).map fun k => (true, k)) fun k => some (false, k)
theorem semKind_s (k : Fin 30) : semKind (sIx k) = some (false, k) := by revert k; decide +kernel
theorem semKind_r (k : Fin 30) : semKind (rIx k) = some (true, k) := by revert k; decide +kernel

/-- The first row of the region transfer `k ≥ 8` carries, seen from its sender, and its number of rows. -/
def fr (k : Fin 30) (c : Dev nD) : ℕ :=
  if k.val < 16 then kp (tr k) 4 c else if k.val < 22 then sd (tr k) 3 c else if k.val < 26 then sd (tr k) 2 c else sd (tr k) 1 c
def fn (k : Fin 30) : ℕ := if k.val < 22 then 64 else if k.val < 26 then 128 else 256

/-- The device transfer `k` of device `c` goes to, which is also the one whose transfer `k` reaches `c`. -/
def pt (k : Fin 30) (c : Dev nD) : Dev nD := pr (tr k) (stp k) c
theorem pt_pt (k : Fin 30) (c : Dev nD) : pt k (pt k c) = c := pr_pr _ _ _

/-- The device owning, at the end of the reduction, the 64 rows `j` of tree `t`. -/
def owner (t : Fin 2) (j : ℕ) : Dev nD := ((List.finRange 16).find? fun c => kp t 4 c = 64 * j).getD 0
theorem owner_kp (t : Fin 2) (c : Dev nD) : owner t (kp t 4 c / 64) = c ∧ 64 * (kp t 4 c / 64) = kp t 4 c := by revert t c; decide +kernel
theorem kp4_owner (t : Fin 2) (j : Fin 16) : kp t 4 (owner t j) = 64 * j := by revert t j; decide +kernel

theorem kp_le (t : Fin 2) (s : Fin 5) (c : Dev nD) : kp t s c + 2 * sz s ≤ 1024 := by revert t s c; decide +kernel
theorem sd_le (t : Fin 2) (s : Fin 4) (c : Dev nD) : sd t s c + sz s ≤ 1024 := by revert t s c; decide +kernel
/-- What is held before a step is what is kept and what is sent. -/
theorem kp_split (t : Fin 2) (s : Fin 4) (c : Dev nD) :
    (kp t (s + 1) c = kp t s c ∧ sd t s c = kp t s c + sz s) ∨ (sd t s c = kp t s c ∧ kp t (s + 1) c = kp t s c + sz s) := by
  revert t s c; decide +kernel

/-! ## The printed devices and offsets -/

theorem dev1_eq (c : Dev nD) : (⟨k0_dev1 c, k0_dev1_lt c⟩ : Dev nD) = mv 0 c := by revert c; decide +kernel
theorem dev2_eq (c : Dev nD) : (⟨k0_dev2 c, k0_dev2_lt c⟩ : Dev nD) = mv 1 c := by revert c; decide +kernel
theorem dev3_eq (c : Dev nD) : (⟨k0_dev3 c, k0_dev3_lt c⟩ : Dev nD) = mv 2 c := by revert c; decide +kernel
theorem dev4_eq (c : Dev nD) : (⟨k0_dev4 c, k0_dev4_lt c⟩ : Dev nD) = mv 3 c := by revert c; decide +kernel
theorem dev5_eq (c : Dev nD) : (⟨k0_dev5 c, k0_dev5_lt c⟩ : Dev nD) = pt 0 c := by revert c; decide +kernel
theorem dev6_eq (c : Dev nD) : (⟨k0_dev6 c, k0_dev6_lt c⟩ : Dev nD) = pt 1 c := by revert c; decide +kernel
theorem dev7_eq (c : Dev nD) : (⟨k0_dev7 c, k0_dev7_lt c⟩ : Dev nD) = pt 2 c := by revert c; decide +kernel
theorem dev8_eq (c : Dev nD) : (⟨k0_dev8 c, k0_dev8_lt c⟩ : Dev nD) = pt 3 c := by revert c; decide +kernel
theorem dev9_eq (c : Dev nD) : (⟨k0_dev9 c, k0_dev9_lt c⟩ : Dev nD) = pt 4 c := by revert c; decide +kernel
theorem dev10_eq (c : Dev nD) : (⟨k0_dev10 c, k0_dev10_lt c⟩ : Dev nD) = pt 5 c := by revert c; decide +kernel
theorem dev11_eq (c : Dev nD) : (⟨k0_dev11 c, k0_dev11_lt c⟩ : Dev nD) = pt 6 c := by revert c; decide +kernel
theorem dev12_eq (c : Dev nD) : (⟨k0_dev12 c, k0_dev12_lt c⟩ : Dev nD) = pt 7 c := by revert c; decide +kernel
theorem dev13_eq (c : Dev nD) : (⟨k0_dev13 c, k0_dev13_lt c⟩ : Dev nD) = pt 8 c := by revert c; decide +kernel
theorem dev14_eq (c : Dev nD) : (⟨k0_dev14 c, k0_dev14_lt c⟩ : Dev nD) = pt 9 c := by revert c; decide +kernel
theorem dev15_eq (c : Dev nD) : (⟨k0_dev15 c, k0_dev15_lt c⟩ : Dev nD) = pt 10 c := by revert c; decide +kernel
theorem dev16_eq (c : Dev nD) : (⟨k0_dev16 c, k0_dev16_lt c⟩ : Dev nD) = pt 11 c := by revert c; decide +kernel
theorem dev17_eq (c : Dev nD) : (⟨k0_dev17 c, k0_dev17_lt c⟩ : Dev nD) = pt 12 c := by revert c; decide +kernel
theorem dev18_eq (c : Dev nD) : (⟨k0_dev18 c, k0_dev18_lt c⟩ : Dev nD) = pt 13 c := by revert c; decide +kernel
theorem dev19_eq (c : Dev nD) : (⟨k0_dev19 c, k0_dev19_lt c⟩ : Dev nD) = pt 14 c := by revert c; decide +kernel
theorem dev20_eq (c : Dev nD) : (⟨k0_dev20 c, k0_dev20_lt c⟩ : Dev nD) = pt 15 c := by revert c; decide +kernel
theorem dev21_eq (c : Dev nD) : (⟨k0_dev21 c, k0_dev21_lt c⟩ : Dev nD) = pt 16 c := by revert c; decide +kernel
theorem dev22_eq (c : Dev nD) : (⟨k0_dev22 c, k0_dev22_lt c⟩ : Dev nD) = pt 17 c := by revert c; decide +kernel
theorem dev23_eq (c : Dev nD) : (⟨k0_dev23 c, k0_dev23_lt c⟩ : Dev nD) = pt 18 c := by revert c; decide +kernel
theorem dev24_eq (c : Dev nD) : (⟨k0_dev24 c, k0_dev24_lt c⟩ : Dev nD) = pt 19 c := by revert c; decide +kernel
theorem dev25_eq (c : Dev nD) : (⟨k0_dev25 c, k0_dev25_lt c⟩ : Dev nD) = pt 20 c := by revert c; decide +kernel
theorem dev26_eq (c : Dev nD) : (⟨k0_dev26 c, k0_dev26_lt c⟩ : Dev nD) = pt 21 c := by revert c; decide +kernel
theorem dev27_eq (c : Dev nD) : (⟨k0_dev27 c, k0_dev27_lt c⟩ : Dev nD) = pt 22 c := by revert c; decide +kernel
theorem dev28_eq (c : Dev nD) : (⟨k0_dev28 c, k0_dev28_lt c⟩ : Dev nD) = pt 23 c := by revert c; decide +kernel
theorem dev29_eq (c : Dev nD) : (⟨k0_dev29 c, k0_dev29_lt c⟩ : Dev nD) = pt 24 c := by revert c; decide +kernel
theorem dev30_eq (c : Dev nD) : (⟨k0_dev30 c, k0_dev30_lt c⟩ : Dev nD) = pt 25 c := by revert c; decide +kernel
theorem dev31_eq (c : Dev nD) : (⟨k0_dev31 c, k0_dev31_lt c⟩ : Dev nD) = pt 26 c := by revert c; decide +kernel
theorem dev32_eq (c : Dev nD) : (⟨k0_dev32 c, k0_dev32_lt c⟩ : Dev nD) = pt 27 c := by revert c; decide +kernel
theorem off1_eq (c : Dev nD) : k0_off1 c = ![sd 0 0 c, 0] := by revert c; decide +kernel
theorem off2_eq (c : Dev nD) : k0_off2 c = ![sd 0 0 c, 128] := by revert c; decide +kernel
theorem off3_eq (c : Dev nD) : k0_off3 c = ![sd 0 0 c, 256] := by revert c; decide +kernel
theorem off4_eq (c : Dev nD) : k0_off4 c = ![sd 0 0 c, 384] := by revert c; decide +kernel
theorem off5_eq (c : Dev nD) : k0_off5 c = ![sd 0 0 c, 512] := by revert c; decide +kernel
theorem off6_eq (c : Dev nD) : k0_off6 c = ![sd 0 0 c, 640] := by revert c; decide +kernel
theorem off7_eq (c : Dev nD) : k0_off7 c = ![sd 0 0 c, 768] := by revert c; decide +kernel
theorem off8_eq (c : Dev nD) : k0_off8 c = ![sd 0 0 c, 896] := by revert c; decide +kernel
theorem off9_eq (c : Dev nD) : k0_off9 c = ![sd 0 0 c, 0] := by revert c; decide +kernel
theorem off10_eq (c : Dev nD) : k0_off10 c = ![sd 0 0 c, 0] := by revert c; decide +kernel
theorem off11_eq (c : Dev nD) : k0_off11 c = ![kp 0 1 c, 0] := by revert c; decide +kernel
theorem off12_eq (c : Dev nD) : k0_off12 c = ![kp 0 1 c, 128] := by revert c; decide +kernel
theorem off13_eq (c : Dev nD) : k0_off13 c = ![kp 0 1 c, 256] := by revert c; decide +kernel
theorem off14_eq (c : Dev nD) : k0_off14 c = ![kp 0 1 c, 384] := by revert c; decide +kernel
theorem off15_eq (c : Dev nD) : k0_off15 c = ![kp 0 1 c, 512] := by revert c; decide +kernel
theorem off16_eq (c : Dev nD) : k0_off16 c = ![kp 0 1 c, 640] := by revert c; decide +kernel
theorem off17_eq (c : Dev nD) : k0_off17 c = ![kp 0 1 c, 768] := by revert c; decide +kernel
theorem off18_eq (c : Dev nD) : k0_off18 c = ![kp 0 1 c, 896] := by revert c; decide +kernel
theorem off19_eq (c : Dev nD) : k0_off19 c = ![kp 0 1 c, 0] := by revert c; decide +kernel
theorem off20_eq (c : Dev nD) : k0_off20 c = ![sd 1 0 c, 512] := by revert c; decide +kernel
theorem off21_eq (c : Dev nD) : k0_off21 c = ![sd 0 1 c, 0] := by revert c; decide +kernel
theorem off22_eq (c : Dev nD) : k0_off22 c = ![sd 0 1 c - kp 0 1 c, 0] := by revert c; decide +kernel
theorem off23_eq (c : Dev nD) : k0_off23 c = ![kp 0 2 c, 0] := by revert c; decide +kernel
theorem off24_eq (c : Dev nD) : k0_off24 c = ![kp 0 2 c - kp 0 1 c, 0] := by revert c; decide +kernel
theorem off25_eq (c : Dev nD) : k0_off25 c = ![sd 1 1 c, 512] := by revert c; decide +kernel
theorem off26_eq (c : Dev nD) : k0_off26 c = ![sd 1 1 c - kp 1 1 c, 0] := by revert c; decide +kernel
theorem off27_eq (c : Dev nD) : k0_off27 c = ![kp 1 2 c, 512] := by revert c; decide +kernel
theorem off28_eq (c : Dev nD) : k0_off28 c = ![kp 1 2 c - kp 1 1 c, 0] := by revert c; decide +kernel
theorem off29_eq (c : Dev nD) : k0_off29 c = ![sd 0 2 c, 0] := by revert c; decide +kernel
theorem off30_eq (c : Dev nD) : k0_off30 c = ![sd 0 2 c - kp 0 2 c, 0] := by revert c; decide +kernel
theorem off31_eq (c : Dev nD) : k0_off31 c = ![kp 0 3 c, 0] := by revert c; decide +kernel
theorem off32_eq (c : Dev nD) : k0_off32 c = ![kp 0 3 c - kp 0 2 c, 0] := by revert c; decide +kernel
theorem off33_eq (c : Dev nD) : k0_off33 c = ![sd 1 2 c, 512] := by revert c; decide +kernel
theorem off34_eq (c : Dev nD) : k0_off34 c = ![sd 1 2 c - kp 1 2 c, 0] := by revert c; decide +kernel
theorem off35_eq (c : Dev nD) : k0_off35 c = ![kp 1 3 c, 512] := by revert c; decide +kernel
theorem off36_eq (c : Dev nD) : k0_off36 c = ![kp 1 3 c - kp 1 2 c, 0] := by revert c; decide +kernel
theorem off37_eq (c : Dev nD) : k0_off37 c = ![sd 0 3 c, 0] := by revert c; decide +kernel
theorem off38_eq (c : Dev nD) : k0_off38 c = ![sd 0 3 c - kp 0 3 c, 0] := by revert c; decide +kernel
theorem off39_eq (c : Dev nD) : k0_off39 c = ![kp 0 4 c, 0] := by revert c; decide +kernel
theorem off40_eq (c : Dev nD) : k0_off40 c = ![kp 0 4 c - kp 0 3 c, 0] := by revert c; decide +kernel
theorem off41_eq (c : Dev nD) : k0_off41 c = ![sd 1 3 c, 512] := by revert c; decide +kernel
theorem off42_eq (c : Dev nD) : k0_off42 c = ![sd 1 3 c - kp 1 3 c, 0] := by revert c; decide +kernel
theorem off43_eq (c : Dev nD) : k0_off43 c = ![kp 1 4 c, 512] := by revert c; decide +kernel
theorem off44_eq (c : Dev nD) : k0_off44 c = ![kp 1 4 c - kp 1 3 c, 0] := by revert c; decide +kernel
theorem off45_eq (c : Dev nD) : k0_off45 c = ![kp 0 4 c - kp 0 4 c, 0] := by revert c; decide +kernel
theorem off46_eq (c : Dev nD) : k0_off46 c = ![kp 0 4 c, 0] := by revert c; decide +kernel
theorem off47_eq (c : Dev nD) : k0_off47 c = ![kp 1 4 c - kp 1 4 c, 0] := by revert c; decide +kernel
theorem off48_eq (c : Dev nD) : k0_off48 c = ![kp 1 4 c, 512] := by revert c; decide +kernel
theorem off49_eq (c : Dev nD) : k0_off49 c = ![sd 0 3 c, 0] := by revert c; decide +kernel
theorem off50_eq (c : Dev nD) : k0_off50 c = ![sd 1 3 c, 512] := by revert c; decide +kernel
theorem off51_eq (c : Dev nD) : k0_off51 c = ![sd 0 2 c, 0] := by revert c; decide +kernel
theorem off52_eq (c : Dev nD) : k0_off52 c = ![sd 1 2 c, 512] := by revert c; decide +kernel
theorem off53_eq (c : Dev nD) : k0_off53 c = ![sd 0 1 c, 0] := by revert c; decide +kernel
theorem off54_eq (c : Dev nD) : k0_off54 c = ![sd 1 1 c, 512] := by revert c; decide +kernel

end Cert.AR

end
-- ==== Proof.Vals.lean ====
/-
# The values the kernel moves

What each device computes from its blocks (`Qv`, `Kv`, `Vv`, the attention rows and its part `Pv` of the product with
the output weights), what the reduction holds after each step (`T`), what each exchange carries (`sv`) and the
array every device ends with (`Ov`); and how one load or store of the kernel's code reads them.
-/
module

public import proofs.«01_k».proof.Proof.Base

@[expose] public section

noncomputable section

namespace Cert.AR

open Cert.KernelIdeal Cert.KernelIdeal.Gen
open Idealize.ShloMosaic Idealize.ShloMosaic.TcCoe

variable {F : FTy → Type} [FloatOps F]
variable (m : (ℓ : Loc nD τ sig) → Buf (Elt F) ℓ)

/-- The index at row `r` and column `k`. -/
def ix (r k : ℕ) : S1024x1024.Idx
  | ⟨0, _⟩ => ⟨r % 1024, Nat.mod_lt _ (by decide)⟩
  | ⟨1, _⟩ => ⟨k % 1024, Nat.mod_lt _ (by decide)⟩
  | ⟨_ + 2, h⟩ => absurd h (by simp)

theorem ix_self (i : S1024x1024.Idx) : ix (i 0).val (i 1).val = i := by
  funext a
  match a with
  | ⟨0, _⟩ => exact Fin.ext (Nat.mod_eq_of_lt (i 0).isLt)
  | ⟨1, _⟩ => exact Fin.ext (Nat.mod_eq_of_lt (i 1).isLt)
theorem ix_0 (r k : ℕ) : (ix r k 0).val = r % 1024 := rfl
theorem ix_1 (r k : ℕ) : (ix r k 1).val = k % 1024 := rfl
theorem idx_ext2 {d : Fin 2 → ℕ} {i j : (⟨2, d⟩ : Shape).Idx} (h0 : (i 0).val = (j 0).val) (h1 : (i 1).val = (j 1).val) : i = j := by
  funext a; match a with
  | ⟨0, _⟩ => exact Fin.ext h0
  | ⟨1, _⟩ => exact Fin.ext h1

/-! ## The blocks as staged -/

def xV (c : Dev nD) : (cc0_stg0_0 : Ref sig .tc).ty.Contents (Elt F) := (win0_0.blk t0_0).view.read (Elt F) (m ((c : Thread nD τ).loc main_arg0))
def wqV (c : Dev nD) : (cc0_stg1_0 : Ref sig .tc).ty.Contents (Elt F) := (win0_1.blk t0_0).view.read (Elt F) (m ((c : Thread nD τ).loc main_arg1))
def wkV (c : Dev nD) : (cc0_stg2_0 : Ref sig .tc).ty.Contents (Elt F) := (win0_2.blk t0_0).view.read (Elt F) (m ((c : Thread nD τ).loc main_arg2))
def wvV (c : Dev nD) : (cc0_stg3_0 : Ref sig .tc).ty.Contents (Elt F) := (win0_3.blk t0_0).view.read (Elt F) (m ((c : Thread nD τ).loc main_arg3))
def woV (c : Dev nD) : (cc0_stg4_0 : Ref sig .tc).ty.Contents (Elt F) := (win0_4.blk t0_0).view.read (Elt F) (m ((c : Thread nD τ).loc main_arg4))
def cosV (c : Dev nD) : (cc0_stg5_0 : Ref sig .tc).ty.Contents (Elt F) := (win0_5.blk t0_0).view.read (Elt F) (m ((c : Thread nD τ).loc main_arg5))
def sinV (c : Dev nD) : (cc0_stg6_0 : Ref sig .tc).ty.Contents (Elt F) := (win0_6.blk t0_0).view.read (Elt F) (m ((c : Thread nD τ).loc main_arg6))

/-! ## What a device computes alone -/

def Qv (c : Dev nD) : FVec F S1024x1024 .bf16 :=
  k0_pay6 (k0_pay1 (cosV m c)) (k0_pay2 (sinV m c)) k0_pay3 (k0_pay4 (xV m c)) (k0_pay5 (wqV m c)) (constant S1024x1024 .f32 0x00000000#32)
def Kv (c : Dev nD) : FVec F S1024x1024 .bf16 :=
  k0_pay7 (k0_pay1 (cosV m c)) (k0_pay2 (sinV m c)) k0_pay3 (k0_pay4 (xV m c)) (wkV m c)
def Vv (c : Dev nD) : FVec F S1024x1024 .bf16 := k0_pay8 (k0_pay4 (xV m c)) (wvV m c)

/-- The block of a 1024 × 1024 array at row `r`, column `k`. -/
def sub {α : Type} (n w : ℕ) (f : S1024x1024.Idx → α) (r k : ℕ) : (⟨2, ![n, w]⟩ : Shape).Idx → α := fun i => f (ix (r + (i 0).val) (k + (i 1).val))

/-- One head's attention of the 512 rows from `r0`. -/
def headV (c : Dev nD) (r0 h : ℕ) : FVec F S512x128 .bf16 :=
  k0_pay9 (sub 512 128 (Qv m c) r0 (128 * h)) (sub 1024 128 (Kv m c) 0 (128 * h)) (sub 1024 128 (Vv m c) 0 (128 * h))

def ix128 (r k : ℕ) : S512x128.Idx
  | ⟨0, _⟩ => ⟨r % 512, Nat.mod_lt _ (by decide)⟩
  | ⟨1, _⟩ => ⟨k % 128, Nat.mod_lt _ (by decide)⟩
  | ⟨_ + 2, h⟩ => absurd h (by simp)
def ix512 (r k : ℕ) : S512x1024.Idx
  | ⟨0, _⟩ => ⟨r % 512, Nat.mod_lt _ (by decide)⟩
  | ⟨1, _⟩ => ⟨k % 1024, Nat.mod_lt _ (by decide)⟩
  | ⟨_ + 2, h⟩ => absurd h (by simp)

/-- The eight heads' attention of those rows, side by side. -/
def ctxV (c : Dev nD) (r0 : ℕ) : FVec F S512x1024 .bf16 := fun i => headV m c r0 ((i 1).val / 128) (ix128 (i 0).val ((i 1).val % 128))

/-- The device's part of the output, before any exchange. -/
def Pv (c : Dev nD) (r k : ℕ) : F .f32 := k0_pay17 (ctxV m c (512 * (r / 512))) (woV m c) (ix512 (r % 512) k)

/-! ## The reduction and the gather -/

def tru (x : F .f32) : F .bf16 := FloatOps.truncf .bf16 bitsLt_bf16_f32 x
def ext (x : F .bf16) : F .f32 := FloatOps.extf .f32 bitsLt_bf16_f32 x

/-- What device `c` holds in tree `t` after `s` steps, at row `r` and column `k`. -/
def T (t : Fin 2) : ℕ → Dev nD → ℕ → ℕ → F .f32
  | 0, c, r, k => Pv m c r k
  | s + 1, c, r, k => FloatOps.addf (T t s c r k) (ext (tru (T t s (pr t s c) r k)))

theorem T_succ (t : Fin 2) (s : ℕ) (c : Dev nD) (r k : ℕ) : T m t (s + 1) c r k = FloatOps.addf (T m t s c r k) (ext (tru (T m t s (pr t s c) r k))) := rfl

/-- What device `c` sends at step `s`, by the row and column of the buffer sent. -/
def sv (t : Fin 2) (s : ℕ) (c : Dev nD) (a b : ℕ) : F .bf16 := tru (T m t s c (sd t s c + a) (512 * t.val + b))

/-- The array every device ends with. -/
def Ov : (cc0_stg7_0 : Ref sig .tc).ty.Contents (Elt F) := fun (i : S1024x1024.Idx) =>
  tru (if (i 1).val < 512 then T m 0 4 (owner 0 ((i 0).val / 64)) (i 0).val (i 1).val else T m 1 4 (owner 1 ((i 0).val / 64)) (i 0).val (i 1).val)

/-! ## Loads and stores of whole buffers through rectangles -/

section Acc
variable (b : Ref sig .tc)

theorem write_in (R : Rect b.ty.shape) (f : b.ty.Contents (Elt F)) (w : R.shape.Idx → Elt F b.ty.elt) (x : R.shape.Idx) :
    ((Memref.whole b).access R).write (Elt F) f w Finset.univ (R.idx x) = w x := by
  have h := ((Memref.whole b).access R).write_emb_of_mem (Val := Elt F) f w (M := Finset.univ) (x := x) (Finset.mem_univ _)
  exact h
theorem write_out (R : Rect b.ty.shape) (f : b.ty.Contents (Elt F)) (w : R.shape.Idx → Elt F b.ty.elt) (i : b.ty.shape.Idx) (hi : i ∉ R.set) :
    ((Memref.whole b).access R).write (Elt F) f w Finset.univ i = f i := by
  refine View.write_of_not_mem _ _ _ fun h => hi ?_
  have e : ((Memref.whole b).access R).setOn Finset.univ = R.set := View.set_slice_whole b R
  rw [e] at h; exact h

theorem write_unit_in {off size : Fin b.ty.shape.rank → ℕ} {inb} (f : b.ty.Contents (Elt F)) (w : (Rect.unit off size inb).shape.Idx → Elt F b.ty.elt)
    (i : b.ty.shape.Idx) (h : ∀ a, off a ≤ (i a).val ∧ (i a).val < off a + size a) :
    ((Memref.whole b).access (Rect.unit off size inb)).write (Elt F) f w Finset.univ i = w (fun a => ⟨(i a).val - off a, by have := h a; simp only [Rect.size_unit]; omega⟩) := by
  rw [← write_in b (Rect.unit off size inb) f w]
  congr 1
  funext a
  refine Fin.ext ?_
  have := h a
  show (i a).val = off a + 1 * ((i a).val - off a)
  omega
theorem write_unit_out {off size : Fin b.ty.shape.rank → ℕ} {inb} (f : b.ty.Contents (Elt F)) (w : (Rect.unit off size inb).shape.Idx → Elt F b.ty.elt)
    (i : b.ty.shape.Idx) (h : ¬ ∀ a, off a ≤ (i a).val ∧ (i a).val < off a + size a) :
    ((Memref.whole b).access (Rect.unit off size inb)).write (Elt F) f w Finset.univ i = f i :=
  write_out b _ f w i fun hm => h (Rect.mem_set_unit.mp hm)
theorem readAt_whole (R : LoadRect b.ty.shape) (f : b.ty.Contents (Elt F)) (x : R.shape.Idx) :
    (Memref.whole b).view.readAt (Elt F) R f x = f (R.idx x) := rfl

theorem readAt_zero {off : Fin b.ty.shape.rank → ℕ} {inb} (h : ∀ a, off a = 0) (f : b.ty.Contents (Elt F)) :
    (Memref.whole b).view.readAt (Elt F) (Rect.unit off b.ty.shape.size inb).toLoadRect f = f := by
  funext x
  rw [readAt_whole]
  congr 1
  funext a
  refine Fin.ext ?_
  show off a + 1 * (x a).val = (x a).val
  rw [h a]; omega
theorem write_zero {off : Fin b.ty.shape.rank → ℕ} {inb} (h : ∀ a, off a = 0) (f : b.ty.Contents (Elt F)) (w : b.ty.shape.Idx → Elt F b.ty.elt) :
    ((Memref.whole b).access (Rect.unit off b.ty.shape.size inb)).write (Elt F) f w Finset.univ = w := by
  funext i
  rw [write_unit_in b f w i (fun a => by rw [h a]; exact ⟨Nat.zero_le _, by rw [Nat.zero_add]; exact (i a).isLt⟩)]
  congr 1
  funext a
  exact Fin.ext (by show (i a).val - off a = (i a).val; rw [h a]; omega)
end Acc

/-- An index of a rectangle of a 1024 × 1024 array. -/
theorem idx_unit {n w : ℕ} {off : Fin 2 → ℕ} {r k : ℕ} (ho : off = ![r, k]) (inb : ∀ a, off a + (![n, w] : Fin 2 → ℕ) a ≤ S1024x1024.size a) (i : (⟨2, ![n, w]⟩ : Shape).Idx) :
    (Rect.unit (s := S1024x1024) off ![n, w] inb).toLoadRect.idx i = ix (r + (i 0).val) (k + (i 1).val) := by
  subst ho
  have h0 := inb 0; have h1 := inb 1
  have l0 : (i 0).val < n := (i 0).isLt
  have l1 : (i 1).val < w := (i 1).isLt
  change r + n ≤ 1024 at h0; change k + w ≤ 1024 at h1
  refine idx_ext2 ?_ ?_
  · show r + 1 * (i 0).val = (r + (i 0).val) % 1024
    rw [Nat.mod_eq_of_lt (by omega)]; omega
  · show k + 1 * (i 1).val = (k + (i 1).val) % 1024
    rw [Nat.mod_eq_of_lt (by omega)]; omega

/-! ## A rectangle of the part array -/

/-- `f` holds `g` on the 512 columns of tree `t`, rows `r0` to `r0 + n`. -/
def On {α : Type} (f : S1024x1024.Idx → α) (g : ℕ → ℕ → α) (t : Fin 2) (r0 n : ℕ) : Prop :=
  ∀ i : S1024x1024.Idx, r0 ≤ (i 0).val → (i 0).val < r0 + n → (i 1).val / 512 = t.val → f i = g (i 0).val (i 1).val

theorem On.ix {α : Type} {f : S1024x1024.Idx → α} {g : ℕ → ℕ → α} {t : Fin 2} {r0 n : ℕ} (h : On f g t r0 n) {r k : ℕ} (h0 : r0 ≤ r) (h1 : r < r0 + n) (h2 : r < 1024)
    (hk : k < 512) : f (ix r (512 * t.val + k)) = g r (512 * t.val + k) := by
  have := t.isLt
  have e : (AR.ix r (512 * t.val + k) 0).val = r := Nat.mod_eq_of_lt h2
  have e' : (AR.ix r (512 * t.val + k) 1).val = 512 * t.val + k := Nat.mod_eq_of_lt (by omega)
  have := h (AR.ix r (512 * t.val + k)) (by omega) (by omega) (by omega)
  rw [e, e'] at this; exact this

theorem On.mono {α : Type} {f : S1024x1024.Idx → α} {g : ℕ → ℕ → α} {t : Fin 2} {r0 n r1 n' : ℕ} (h : On f g t r0 n) (h0 : r0 ≤ r1) (h1 : r1 + n' ≤ r0 + n) : On f g t r1 n' :=
  fun i a b => h i (by omega) (by omega)

/-- A store outside a rectangle keeps what the rectangle holds. -/
theorem On.write_other {f : (cc0_scratch4 : Ref sig .tc).ty.Contents (Elt F)} {g : ℕ → ℕ → F .f32} {t : Fin 2} {r0 n : ℕ} (h : On f g t r0 n)
    {off : Fin 2 → ℕ} {r k n' : ℕ} (ho : off = ![r, k]) {wd : ℕ} (inb : ∀ a, off a + (![n', wd] : Fin 2 → ℕ) a ≤ S1024x1024.size a)
    (w : (⟨2, ![n', wd]⟩ : Shape).Idx → F .f32) (hd : r0 + n ≤ r ∨ r + n' ≤ r0 ∨ (k + wd ≤ 512 * t.val ∨ 512 * t.val + 512 ≤ k)) :
    On (((Memref.whole cc0_scratch4 : Memref sig .tc .vmem S1024x1024 .f32).access (Rect.unit (s := S1024x1024) off ![n', wd] inb)).write (Elt F) f w Finset.univ) g t r0 n := by
  subst ho
  intro i a b e
  rw [← h i a b e]
  refine write_unit_out cc0_scratch4 f w i fun hm => ?_
  have m0 := hm 0; have m1 := hm 1
  change r ≤ (i 0).val ∧ (i 0).val < r + n' at m0
  change k ≤ (i 1).val ∧ (i 1).val < k + wd at m1
  omega

/-- One accumulation: what is held of step `s` on a rectangle, plus what came in, is what is held of step `s + 1`. -/
theorem On.acc {t : Fin 2} {s : ℕ} {c : Dev nD} {f : (cc0_scratch4 : Ref sig .tc).ty.Contents (Elt F)} {r n N : ℕ} (h : On f (T m t s c) t r n)
    {g : (⟨2, ![N, 512]⟩ : Shape).Idx → F .bf16} (hg : g = fun i => sv m t s (pr t s c) (i 0).val (i 1).val)
    (hs : sd t s (pr t s c) = kp t (s + 1) c) (hr : kp t (s + 1) c ≤ r)
    {off off' : Fin 2 → ℕ} (ho : off = ![r, 512 * t.val]) (inb : ∀ a, off a + (![n, 512] : Fin 2 → ℕ) a ≤ S1024x1024.size a)
    (ho' : off' = ![r - kp t (s + 1) c, 0]) (inb' : ∀ a, off' a + (![n, 512] : Fin 2 → ℕ) a ≤ (![N, 512] : Fin 2 → ℕ) a)
    (w : (⟨2, ![n, 512]⟩ : Shape).Idx → F .f32)
    (hw : w = fun i => FloatOps.addf (f ((Rect.unit (s := S1024x1024) off ![n, 512] inb).toLoadRect.idx i)) (ext (g ((Rect.unit (s := ⟨2, ![N, 512]⟩) off' ![n, 512] inb').toLoadRect.idx i)))) :
    On (((Memref.whole cc0_scratch4 : Memref sig .tc .vmem S1024x1024 .f32).access (Rect.unit (s := S1024x1024) off ![n, 512] inb)).write (Elt F) f w Finset.univ) (T m t (s + 1) c) t r n := by
  subst hg hw
  intro i a b e
  have hlt := (i 1).isLt
  have hm : ∀ x : Fin 2, off x ≤ (i x).val ∧ (i x).val < off x + (![n, 512] : Fin 2 → ℕ) x := by
    subst ho
    intro x
    match x with
    | ⟨0, _⟩ => exact ⟨a, b⟩
    | ⟨1, _⟩ => exact ⟨by show 512 * t.val ≤ (i 1).val; omega, by show (i 1).val < 512 * t.val + 512; omega⟩
  rw [write_unit_in cc0_scratch4 f _ i hm]
  simp only [idx_unit ho]
  have e0 : (i 0).val - off 0 = (i 0).val - r := by rw [ho]; rfl
  have e1 : (i 1).val - off 1 = (i 1).val - 512 * t.val := by rw [ho]; rfl
  show FloatOps.addf (f (AR.ix (r + ((i 0).val - off 0)) (512 * t.val + ((i 1).val - off 1)))) _ = _
  rw [e0, e1, show r + ((i 0).val - r) = (i 0).val by omega, show 512 * t.val + ((i 1).val - 512 * t.val) = (i 1).val by omega, ix_self, h i a b e]
  rw [T_succ]
  congr 2
  subst ho'
  show sv m t s (pr t s c) ((r - kp t (s + 1) c) + 1 * ((i 0).val - off 0)) (0 + 1 * ((i 1).val - off 1)) = _
  rw [e0, e1]
  unfold sv
  rw [hs, show kp t (s + 1) c + (r - kp t (s + 1) c + 1 * ((i 0).val - r)) = (i 0).val by omega, show 512 * t.val + (0 + 1 * ((i 1).val - 512 * t.val)) = (i 1).val by omega]

/-- The buffer sent: the rows sent, rounded. -/
theorem On.sent {t : Fin 2} {s : ℕ} {c : Dev nD} {f : (cc0_scratch4 : Ref sig .tc).ty.Contents (Elt F)} {n : ℕ} (h : On f (T m t s c) t (sd t s c) n)
    {off : Fin 2 → ℕ} (ho : off = ![sd t s c, 512 * t.val]) (inb : ∀ a, off a + (![n, 512] : Fin 2 → ℕ) a ≤ S1024x1024.size a)
    (w : (⟨2, ![n, 512]⟩ : Shape).Idx → F .bf16)
    (hw : w = fun i => tru (f ((Rect.unit (s := S1024x1024) off ![n, 512] inb).toLoadRect.idx i))) :
    w = fun i => sv m t s c (i 0).val (i 1).val := by
  subst hw
  funext i
  have h0 : sd t s c + n ≤ 1024 := by have := inb 0; rw [ho] at this; exact this
  have l0 : (i 0).val < n := (i 0).isLt
  have l1 : (i 1).val < 512 := (i 1).isLt
  rw [idx_unit ho]
  rw [h.ix (by omega) (by omega) (by omega) l1]
  rfl

end Cert.AR

end
-- ==== Proof.Proto.lean ====
/-
# The protocol of the 28 transfers

The semaphore cells of the barrier and of the transfers, what each hands over, what a device owes and at which level,
the state of a device's transfers between two operations, and one rule per kind of operation: a signal, the barrier
wait, sending transfer `k`, waiting for its departure, waiting for its arrival.
-/
module

public import proofs.«01_k».proof.Proof.Vals

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barS : Sem sig := (SemArray.scalar (sig.barrier 0 rfl) : Sems sig S_).sem
/-- A cell of a device: its barrier, or the departure (`false`) or arrival (`true`) of transfer `k`. -/
abbrev CI : Type := Option (Bool × Fin 30)
def csem : CI → SemLoc sig
  | none => .reg barS
  | some (false, k) => .dma (sSem k)
  | some (true, k) => .dma (rSem k)
theorem csem_s (k : Fin 30) : csem (some (false, k)) = .dma (sSem k) := rfl
theorem csem_r (k : Fin 30) : csem (some (true, k)) = .dma (rSem k) := rfl
theorem csem_n : csem none = .reg barS := rfl
abbrev kcell (ck : Dev nD × CI) : GSem nD τ sig := ((ck.1 : Thread nD τ), csem ck.2)
abbrev barCell (c : Dev nD) : GSem nD τ sig := ((c : Thread nD τ), .reg barS)
abbrev sCell (k : Fin 30) (c : Dev nD) : GSem nD τ sig := ((c : Thread nD τ), .dma (sSem k))
abbrev rCell (k : Fin 30) (c : Dev nD) : GSem nD τ sig := ((c : Thread nD τ), .dma (rSem k))

/-- The transfers the kernel makes (two of the thirty pairs of semaphores are never used). -/
def live : Finset (Fin 30) := Finset.univ.filter fun k => k.val < 28
theorem mem_live {k : Fin 30} : k ∈ live ↔ k.val < 28 := by simp [live]

/-- The direction transfer `k` goes. -/
def dir (k : Fin 30) : Fin 4 := dirOf (tr k) (stp k)
theorem pt_mv (k : Fin 30) (c : Dev nD) : pt k c = mv (dir k) c := rfl

/-- The units a transfer signals. -/
def nAG (s : Shape) : ℕ := sig.dmaCredit .tc (Kind.tc.table .vmem) (View.whole cc0_stg7_0).buf s .bf16
def N (k : Fin 30) : ℕ :=
  match k with
  | ⟨0, _⟩ | ⟨1, _⟩ => (Memref.whole cc0_scratch13 : Memref sig .tc .vmem S512x512 .bf16).view.dmaCredit
  | ⟨2, _⟩ | ⟨3, _⟩ => (Memref.whole cc0_scratch14 : Memref sig .tc .vmem S256x512 .bf16).view.dmaCredit
  | ⟨4, _⟩ | ⟨5, _⟩ => (Memref.whole cc0_scratch15 : Memref sig .tc .vmem S128x512 .bf16).view.dmaCredit
  | ⟨6, _⟩ | ⟨7, _⟩ => (Memref.whole cc0_scratch16 : Memref sig .tc .vmem S64x512 .bf16).view.dmaCredit
  | k => if k.val < 22 then nAG S64x512 else if k.val < 26 then nAG S128x512 else if k.val < 28 then nAG S256x512 else 0

/-! ## What the transfers carry -/

/-- The rows `r0 … r0 + n` of column half `t` of the result. -/
def reg (t : Fin 2) (r0 n : ℕ) : Finset S1024x1024.Idx :=
  Finset.univ.filter fun i => r0 ≤ (i 0).val ∧ (i 0).val < r0 + n ∧ (i 1).val / 512 = t.val

/-- The whole of buffer `b` of device `c`, at contents `f`, and at some contents. -/
abbrev pts (b : Ref sig .tc) (c : Dev nD) (f : b.ty.Contents (Elt F)) : sProp 𝕄 := ((c : Thread nD τ).loc b) ↦{fullShare} (f : Buf (Elt F) ((c : Thread nD τ).loc b))
abbrev anyB (b : Ref sig .tc) (c : Dev nD) : sProp 𝕄 := iprop(∃ f : b.ty.Contents (Elt F), pts b c f)
/-- A region of the result buffer of device `c`, at share `q` and contents `f`. -/
abbrev outP (t : Fin 2) (r0 n : ℕ) (c : Dev nD) (q : PosShare TreeShare) (f : (cc0_stg7_0 : Ref sig .tc).ty.Contents (Elt F)) : sProp 𝕄 :=
  ((c : Thread nD τ).loc cc0_stg7_0) ↦[reg t r0 n]{q} (f : Buf (Elt F) ((c : Thread nD τ).loc cc0_stg7_0))

/-- The share of its source a broadcast transfer borrows. -/
def qs (k : Fin 30) : PosShare TreeShare :=
  if k.val ∈ [8, 12, 16, 19, 22, 24] then fullShare.left
  else if k.val ∈ [9, 13, 17, 20] then fullShare.right.left
  else if k.val ∈ [10, 14] then fullShare.right.right.left
  else if k.val ∈ [11, 15] then fullShare.right.right.right
  else if k.val ∈ [18, 21] then fullShare.right.right
  else if k.val ∈ [23, 25] then fullShare.right
  else fullShare

/-- What a departure gives back to its sender `c`. -/
def sPay (k : Fin 30) (c : Dev nD) : sProp 𝕄 :=
  match k with
  | ⟨0, _⟩ => anyB cc0_scratch5 c
  | ⟨1, _⟩ => anyB cc0_scratch9 c
  | ⟨2, _⟩ => anyB cc0_scratch6 c
  | ⟨3, _⟩ => anyB cc0_scratch10 c
  | ⟨4, _⟩ => anyB cc0_scratch7 c
  | ⟨5, _⟩ => anyB cc0_scratch11 c
  | ⟨6, _⟩ => anyB cc0_scratch8 c
  | ⟨7, _⟩ => anyB cc0_scratch12 c
  | k => outP (tr k) (fr k c) (fn k) c (qs k) (Ov m)

/-- What an arrival hands its receiver `c`. -/
def rPay (k : Fin 30) (c : Dev nD) : sProp 𝕄 :=
  match k with
  | ⟨0, _⟩ => pts cc0_scratch13 c (fun i : S512x512.Idx => sv m 0 0 (pt 0 c) (i 0).val (i 1).val)
  | ⟨1, _⟩ => pts cc0_scratch17 c (fun i : S512x512.Idx => sv m 1 0 (pt 1 c) (i 0).val (i 1).val)
  | ⟨2, _⟩ => pts cc0_scratch14 c (fun i : S256x512.Idx => sv m 0 1 (pt 2 c) (i 0).val (i 1).val)
  | ⟨3, _⟩ => pts cc0_scratch18 c (fun i : S256x512.Idx => sv m 1 1 (pt 3 c) (i 0).val (i 1).val)
  | ⟨4, _⟩ => pts cc0_scratch15 c (fun i : S128x512.Idx => sv m 0 2 (pt 4 c) (i 0).val (i 1).val)
  | ⟨5, _⟩ => pts cc0_scratch19 c (fun i : S128x512.Idx => sv m 1 2 (pt 5 c) (i 0).val (i 1).val)
  | ⟨6, _⟩ => pts cc0_scratch16 c (fun i : S64x512.Idx => sv m 0 3 (pt 6 c) (i 0).val (i 1).val)
  | ⟨7, _⟩ => pts cc0_scratch20 c (fun i : S64x512.Idx => sv m 1 3 (pt 7 c) (i 0).val (i 1).val)
  | k => outP (tr k) (fr k (pt k c)) (fn k) c fullShare (Ov m)

/-- The place on device `c` where the transfer `k` reaching it lands. -/
def land (k : Fin 30) (c : Dev nD) : sProp 𝕄 :=
  match k with
  | ⟨0, _⟩ => anyB cc0_scratch13 c
  | ⟨1, _⟩ => anyB cc0_scratch17 c
  | ⟨2, _⟩ => anyB cc0_scratch14 c
  | ⟨3, _⟩ => anyB cc0_scratch18 c
  | ⟨4, _⟩ => anyB cc0_scratch15 c
  | ⟨5, _⟩ => anyB cc0_scratch19 c
  | ⟨6, _⟩ => anyB cc0_scratch16 c
  | ⟨7, _⟩ => anyB cc0_scratch20 c
  | k => iprop(∃ f, outP (tr k) (fr k (pt k c)) (fn k) c fullShare f)

/-- The landing places on `c` of the transfers that come along direction `d`. -/
def share (d : Fin 4) (c : Dev nD) : sProp 𝕄 := bigSep live fun k => if dir k = d then land (F := F) k c else iprop(emp)

omit [FloatOps F] in
instance land_storable (k : Fin 30) (c : Dev nD) : BI.Storable (upEmb : UEmb _ 𝕄) (land (F := F) k c) := by
  unfold land; split <;> infer_instance
instance sPay_storable (k : Fin 30) (c : Dev nD) : BI.Storable (upEmb : UEmb _ 𝕄) (sPay m k c) := by
  unfold sPay; split <;> infer_instance
instance rPay_storable (k : Fin 30) (c : Dev nD) : BI.Storable (upEmb : UEmb _ 𝕄) (rPay m k c) := by
  unfold rPay; split <;> infer_instance
omit [FloatOps F] in
instance share_storable (d : Fin 4) (c : Dev nD) : BI.Storable (upEmb : UEmb _ 𝕄) (share (F := F) d c) := by
  have (k : Fin 30) : BI.Storable (upEmb : UEmb _ 𝕄) (if dir k = d then land (F := F) k c else iprop(emp)) := by split <;> infer_instance
  unfold share; infer_instance

/-! ## The schedule: one round -/

theorem N_pos (k : Fin 30) (h : k ∈ live) : 0 < N k := by
  have hk := mem_live.mp h
  unfold N nAG
  split
  case h_9 => split_ifs <;> exact sig.dmaCredit_pos _ _ _ _ _ (by decide)
  all_goals exact View.dmaCredit_pos _ (by decide)

/-- Which cell a semaphore is. -/
def cellOfSem (sm : SemLoc sig) : Option CI :=
  match sm with
  | .reg r => if r = barS then some none else none
  | .dma i => (semKind i).map some
theorem cellOfSem_csem (i : CI) : cellOfSem (csem i) = some i := by
  match i with
  | none => show (if barS = barS then some none else none) = _; rw [if_pos rfl]
  | some (false, k) => show (semKind (sIx k)).map some = _; rw [semKind_s]; rfl
  | some (true, k) => show (semKind (rIx k)).map some = _; rw [semKind_r]; rfl
theorem csem_injective : Function.Injective csem := fun i j h => Option.some.inj (by rw [← cellOfSem_csem i, ← cellOfSem_csem j, h])

/-- The duties of one cell in its one round. -/
def dutiesOf : Option CI → Finset (Fin 4)
  | some none => Finset.univ
  | some (some (_, k)) => if k ∈ live then {0} else ∅
  | none => ∅
def amountOf' : Option CI → ℕ
  | some none => 1
  | some (some (_, k)) => N k
  | none => 0
def payOf (c : Dev nD) (d : Fin 4) : Option CI → sProp 𝕄
  | some none => share d (mv d c)
  | some (some (false, k)) => sPay m k c
  | some (some (true, k)) => rPay m k c
  | none => iprop(emp)
instance payOf_storable (c : Dev nD) (d : Fin 4) (i : Option CI) : BI.Storable (upEmb : UEmb _ 𝕄) (payOf m c d i) := by
  unfold payOf; split <;> infer_instance

theorem amountOf'_pos (i : Option CI) (d : Fin 4) (h : d ∈ dutiesOf i) : 0 < amountOf' i := by
  match i with
  | some none => exact Nat.one_pos
  | some (some (_, k)) =>
    by_cases hk : k ∈ live
    · exact N_pos k hk
    · rw [show dutiesOf (some (some (_, k))) = ∅ from if_neg hk] at h; exact absurd h (Finset.notMem_empty _)
  | none => exact absurd h (Finset.notMem_empty _)

/-- One round: a barrier cell has a duty of one unit per direction, a departure or arrival cell the one duty of its
    transfer's units. -/
def Rd : Rounds.Schedule (GSem nD τ sig) (Fin 4) 𝕄 where
  duties g r := if r = 0 ∧ g.1.2 = .tc then dutiesOf (cellOfSem g.2) else ∅
  unitless _ := False
  amount g _ _ := amountOf' (cellOfSem g.2)
  payload g _ d := payOf m g.1.1 d (cellOfSem g.2)
  amount_pos g r d h := by
    by_cases hr : r = 0 ∧ g.1.2 = .tc
    · rw [if_pos hr] at h; exact amountOf'_pos _ d h
    · rw [if_neg hr] at h; exact absurd h (Finset.notMem_empty _)

instance Rd_payload_storable (g : GSem nD τ sig) (r : ℕ) (d : Fin 4) :
    BI.Storable (upEmb : UEmb _ 𝕄) ((Rd m).payload g r d) := payOf_storable m _ _ _

theorem duties_cell (ck : Dev nD × CI) : (Rd m).duties (kcell ck) 0 = dutiesOf (some ck.2) := by
  rw [← cellOfSem_csem ck.2]
  exact if_pos (c := 0 = 0 ∧ (kcell ck).1.2 = .tc) (e := (∅ : Finset (Fin 4))) ⟨rfl, rfl⟩
theorem amount_cell (ck : Dev nD × CI) (d : Fin 4) : (Rd m).amount (kcell ck) 0 d = amountOf' (some ck.2) := by
  show amountOf' (cellOfSem (csem ck.2)) = _
  rw [cellOfSem_csem]
theorem payload_cell (ck : Dev nD × CI) (d : Fin 4) : (Rd m).payload (kcell ck) 0 d = payOf m ck.1 d (some ck.2) := by
  show payOf m ck.1 d (cellOfSem (csem ck.2)) = _
  rw [cellOfSem_csem]
theorem duties_later (g : GSem nD τ sig) : ∀ r, 1 ≤ r → (Rd m).duties g r = ∅ := fun r hr => if_neg fun h => by omega
theorem duties_dead (k : Fin 30) (hk : k ∉ live) (b : Bool) (c : Dev nD) : ∀ r, 0 ≤ r → (Rd m).duties (kcell (c, some (b, k))) r = ∅ := fun r _ => by
  rcases Nat.eq_zero_or_pos r with rfl | h
  · rw [duties_cell]; exact if_neg hk
  · exact duties_later m _ r h

section Live
variable {k : Fin 30} (hk : k ∈ live) (c : Dev nD)
include hk
theorem duties_s : (Rd m).duties (sCell k c) 0 = {0} := (duties_cell m (c, some (false, k))).trans (if_pos hk)
theorem duties_r : (Rd m).duties (rCell k c) 0 = {0} := (duties_cell m (c, some (true, k))).trans (if_pos hk)
theorem mem_duties_s : (0 : Fin 4) ∈ (Rd m).duties (sCell k c) 0 := by rw [duties_s m hk]; exact Finset.mem_singleton_self _
theorem mem_duties_r : (0 : Fin 4) ∈ (Rd m).duties (rCell k c) 0 := by rw [duties_r m hk]; exact Finset.mem_singleton_self _
omit hk in
theorem amount_s : (Rd m).amount (sCell k c) 0 0 = N k := amount_cell m (c, some (false, k)) 0
omit hk in
theorem amount_r : (Rd m).amount (rCell k c) 0 0 = N k := amount_cell m (c, some (true, k)) 0
omit hk in
theorem payload_s : (Rd m).payload (sCell k c) 0 0 = sPay m k c := payload_cell m (c, some (false, k)) 0
omit hk in
theorem payload_r : (Rd m).payload (rCell k c) 0 0 = rPay m k c := payload_cell m (c, some (true, k)) 0
theorem expect_s : (Rd m).expect (sCell k c) 0 = N k := by
  unfold Schedule.expect Schedule.amountOf; rw [duties_s m hk, Finset.sum_singleton, amount_s]
theorem expect_r : (Rd m).expect (rCell k c) 0 = N k := by
  unfold Schedule.expect Schedule.amountOf; rw [duties_r m hk, Finset.sum_singleton, amount_r]
theorem rest_s : bigSep ((Rd m).duties (sCell k c) 0 \ ∅) (fun d => (Rd m).payload (sCell k c) 0 d) = sPay m k c := by
  rw [Finset.sdiff_empty, duties_s m hk, bigSep_singleton, payload_s]
theorem rest_r : bigSep ((Rd m).duties (rCell k c) 0 \ ∅) (fun d => (Rd m).payload (rCell k c) 0 d) = rPay m k c := by
  rw [Finset.sdiff_empty, duties_r m hk, bigSep_singleton, payload_r]
end Live

theorem duties_bar (c : Dev nD) : (Rd m).duties (barCell c) 0 = Finset.univ := duties_cell m (c, none)
theorem amount_bar (c : Dev nD) (d : Fin 4) : (Rd m).amount (barCell c) 0 d = 1 := amount_cell m (c, none) d
theorem payload_bar (c : Dev nD) (d : Fin 4) : (Rd m).payload (barCell c) 0 d = share d (mv d c) := payload_cell m (c, none) d
theorem expect_bar (c : Dev nD) : (Rd m).expect (barCell c) 0 = 4 := by
  unfold Schedule.expect Schedule.amountOf
  rw [duties_bar, Finset.sum_congr rfl fun d _ => amount_bar m c d, Finset.sum_const, Finset.card_univ, Fintype.card_fin, smul_eq_mul]

omit [FloatOps F] in
/-- A family over the transfers, sorted by their directions. -/
theorem bigSep_dir (Φ : Fin 30 → sProp 𝕄) :
    bigSep Finset.univ (fun d : Fin 4 => bigSep live fun k => if dir k = d then Φ k else iprop(emp)) = bigSep live Φ := by
  have h4 (Ψ : Fin 4 → sProp 𝕄) : bigSep Finset.univ Ψ = iprop(Ψ 0 ∗ Ψ 1 ∗ Ψ 2 ∗ Ψ 3) := by
    rw [bigSep_univ_eq_bigSepL [0, 1, 2, 3] (by decide) (by decide), bigSepL_cons_cons, bigSepL_cons_cons, bigSepL_cons_cons, bigSepL_singleton]
    rfl
  rw [h4]
  have hs (A B : Fin 30 → sProp 𝕄) : iprop(bigSep live A ∗ bigSep live B) = bigSep live fun k => iprop(A k ∗ B k) := (bigSep_sep live A B).symm
  rw [hs, hs, hs]
  refine bigSep_congr fun k _ => ?_
  generalize dir k = e
  have e1 (P : sProp 𝕄) : iprop(emp ∗ P) = P := equiv_iff.mp BI.emp_sep
  have e2 (P : sProp 𝕄) : iprop(P ∗ emp) = P := equiv_iff.mp BI.sep_emp
  match e with
  | 0 => simp [e1, e2]
  | 1 => simp [e1, e2]
  | 2 => simp [e1, e2]
  | 3 => simp [e1, e2]

/-- The landing places sorted by direction, as the barrier hands them over and as the transfers want them. -/
theorem share_all (c : Dev nD) : bigSep Finset.univ (fun d => share (F := F) d c) = bigSep live fun k => land (F := F) k c := bigSep_dir _
theorem rest_bar (c : Dev nD) : bigSep ((Rd m).duties (barCell c) 0 \ ∅) (fun d => (Rd m).payload (barCell c) 0 d) = bigSep live fun k => land (F := F) k (pt k c) := by
  rw [Finset.sdiff_empty, duties_bar, ← bigSep_dir]
  refine bigSep_congr fun d _ => ?_
  rw [payload_bar]
  unfold share
  refine bigSep_congr fun k _ => ?_
  by_cases h : dir k = d
  · rw [if_pos h, if_pos h, pt_mv, h]
  · rw [if_neg h, if_neg h]

/-! ## What is owed, and the levels -/

/-- After sending the transfers before `n`, a device owes the arrivals of the others. -/
def O (c : Dev nD) (n : ℕ) : CellTallies nD τ sig Unit := ∑ k ∈ live.filter (fun k => n ≤ k.val), tallyAt (rCell k (pt k c)) () (N k)
theorem O_succ (c : Dev nD) {k : Fin 30} (hk : k ∈ live) : O c k.val = O c (k.val + 1) + tallyAt (rCell k (pt k c)) () (N k) := by
  unfold O
  rw [add_comm, ← Finset.sum_insert (s := live.filter fun j => k.val + 1 ≤ j.val) (a := k) (f := fun k => tallyAt (rCell k (pt k c)) () (N k)) (by simp)]
  congr 1
  ext j
  simp only [Finset.mem_filter, Finset.mem_insert]
  constructor
  · rintro ⟨h1, h2⟩
    rcases Nat.eq_or_lt_of_le h2 with h | h
    · exact .inl (Fin.ext h.symm)
    · exact .inr ⟨h1, h⟩
  · rintro (rfl | ⟨h1, h2⟩)
    · exact ⟨hk, le_refl _⟩
    · exact ⟨h1, by omega⟩
theorem O_end (c : Dev nD) : O c 28 = 0 := Finset.sum_eq_zero fun k h => absurd (Finset.mem_filter.mp h).2 (by have := mem_live.mp (Finset.mem_filter.mp h).1; omega)

/-- With the units of the four barriers a device signals, after signalling the first `j`. -/
def OB (c : Dev nD) : ℕ → CellTallies nD τ sig Unit
  | 4 => O c 0
  | 3 => O c 0 + tallyAt (barCell (mv 3 c)) () 1
  | 2 => O c 0 + tallyAt (barCell (mv 3 c)) () 1 + tallyAt (barCell (mv 2 c)) () 1
  | 1 => O c 0 + tallyAt (barCell (mv 3 c)) () 1 + tallyAt (barCell (mv 2 c)) () 1 + tallyAt (barCell (mv 1 c)) () 1
  | _ => O c 0 + tallyAt (barCell (mv 3 c)) () 1 + tallyAt (barCell (mv 2 c)) () 1 + tallyAt (barCell (mv 1 c)) () 1 + tallyAt (barCell (mv 0 c)) () 1
abbrev O₀ (c : Dev nD) : CellTallies nD τ sig Unit := OB c 0

def L (g : GSem nD τ sig) : Finset Unit := if g.1.2 = .tc then {()} else ∅
def levOf : Option CI → ℕ
  | some none => 1
  | some (some (true, k)) => 2 + k.val
  | _ => 0
/-- Departures lowest, the barriers next, then the arrivals in the order of the transfers. -/
def lv (g : GSem nD τ sig) (_ : Unit) : ℕ := levOf (cellOfSem g.2)
theorem L_of_ne (g : GSem nD τ sig) (h : g.1.2 ≠ .tc) : L g = ∅ := if_neg h
theorem L_tc (c : Dev nD) (sm : SemLoc sig) : L ((c : Thread nD τ), sm) = {()} := if_pos rfl
theorem lv_cell (ck : Dev nD × CI) : lv (kcell ck) () = levOf (some ck.2) := by
  show levOf (cellOfSem (csem ck.2)) = _; rw [cellOfSem_csem]

theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h
theorem add_pos' {A B : CellTallies nD τ sig Unit} {g : GSem nD τ sig} {u : Unit} (h : 0 < (A + B) g u) : 0 < A g u ∨ 0 < B g u := by
  rw [Pi.add_apply, Finsupp.add_apply] at h; omega
theorem sum_pos' {s : Finset (Fin 30)} {A : Fin 30 → CellTallies nD τ sig Unit} {g : GSem nD τ sig} {u : Unit} (h : 0 < (∑ k ∈ s, A k) g u) : ∃ k ∈ s, 0 < A k g u := by
  induction s using Finset.induction_on with
  | empty => rw [Finset.sum_empty] at h; exact absurd h (Nat.lt_irrefl 0)
  | insert a s ha ih =>
    rw [Finset.sum_insert ha] at h
    rcases add_pos' h with h | h
    · exact ⟨a, Finset.mem_insert_self _ _, h⟩
    · obtain ⟨k, hk, h⟩ := ih h; exact ⟨k, Finset.mem_insert_of_mem hk, h⟩
theorem O_pos {c : Dev nD} {n : ℕ} {g : GSem nD τ sig} {u : Unit} (h : 0 < O c n g u) : ∃ k : Fin 30, n ≤ k.val ∧ g = rCell k (pt k c) := by
  obtain ⟨k, hk, h⟩ := sum_pos' h
  exact ⟨k, (Finset.mem_filter.mp hk).2, tallyAt_pos h⟩
theorem O₀_pos {c : Dev nD} {g : GSem nD τ sig} {u : Unit} (h : 0 < O₀ c g u) : (∃ k : Fin 30, g = rCell k (pt k c)) ∨ ∃ d, g = barCell (mv d c) := by
  rcases add_pos' h with h | h
  · rcases add_pos' h with h | h
    · rcases add_pos' h with h | h
      · rcases add_pos' h with h | h
        · obtain ⟨k, -, h⟩ := O_pos h; exact .inl ⟨k, h⟩
        · exact .inr ⟨_, tallyAt_pos h⟩
      · exact .inr ⟨_, tallyAt_pos h⟩
    · exact .inr ⟨_, tallyAt_pos h⟩
  · exact .inr ⟨_, tallyAt_pos h⟩

omit [FloatOps F] in
/-- A wait is allowed when every arrival still owed lies above it. -/
theorem mayWait_O (c : Dev nD) (sm : SemLoc sig) (i : CI) (hs : csem i = sm) (n : ℕ) (h : levOf (some i) < 2 + n) :
    (levAts L lv : sProp 𝕄) ⊢ MayWait (c : Thread nD τ) sm () (O c n) := by
  subst hs
  exact MayOwe.of_cut (L := L) (lev := lv) (levOf (some i)) (fun p hp => by rw [Finset.mem_singleton.mp hp, L_tc]; exact Finset.mem_singleton_self _)
    (fun g u hg => by obtain ⟨k, -, rfl⟩ := O_pos hg; exact Finset.mem_singleton_self _)
    (fun p hp => by rw [Finset.mem_singleton.mp hp]; exact (lv_cell (c, i)).le)
    (fun g u hg => by
      obtain ⟨k, hk, rfl⟩ := O_pos hg
      rw [show lv (rCell k (pt k c)) u = 2 + k.val from lv_cell (pt k c, some (true, k))]
      omega)

omit [FloatOps F] in
/-- The staging semaphores lie below everything owed at the start. -/
theorem mayWait_stage (c : Dev nD) (q : DmaSem sig) (hq : cellOfSem (.dma q) = none) (O' : CellTallies nD τ sig Unit) (hO : O' = O₀ c ∨ O' = 0) :
    (levAts L lv : sProp 𝕄) ⊢ MayWait (c : Thread nD τ) (.dma q) () O' := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> exact Finset.mem_singleton_self _)
      (fun p hp => by rw [Finset.mem_singleton.mp hp]; show levOf (cellOfSem (.dma q)) ≤ 0; rw [hq]; exact le_refl _)
      (fun g u hg => by
        rcases O₀_pos hg with ⟨k, rfl⟩ | ⟨d, rfl⟩
        · rw [show lv (rCell k (pt k c)) u = 2 + k.val from lv_cell (pt k c, some (true, k))]; omega
        · rw [show lv (barCell (mv d c)) u = 1 from lv_cell (mv d c, none)]; omega)
  · rw [MayWait_zero]; iintro -; iempintro

/-! ## The shared facts and the state of a device's transfers -/

variable (K : Dev nD × CI → ℕ)

/-- What every device may use at any time: the cells' invariants, that every cell is at round 0 or later, the levels. -/
def Env : sProp 𝕄 :=
  iprop(bigSep Finset.univ (fun ck => cellInv ER (Rd m) (K ck) (kcell ck)) ∗ bigSep Finset.univ (fun ck : Dev nD × CI => reached ER (kcell ck) 0) ∗ levAts L lv)
instance Env_persistent : BI.Persistent (Env m K) := by unfold Env; infer_instance
theorem Env_inv (ck : Dev nD × CI) : Env m K ⊢ cellInv ER (Rd m) (K ck) (kcell ck) := by
  unfold Env; exact sep_elim_left.trans (bigSep_elim (Finset.mem_univ ck))
theorem Env_reached (ck : Dev nD × CI) : Env m K ⊢ reached ER (kcell ck) 0 := by
  unfold Env; exact (sep_elim_right.trans sep_elim_left).trans (bigSep_elim (Finset.mem_univ ck))
theorem Env_invS (k : Fin 30) (c : Dev nD) : Env m K ⊢ cellInv ER (Rd m) (K (c, some (false, k))) (sCell k c) := Env_inv m K (c, some (false, k))
theorem Env_invR (k : Fin 30) (c : Dev nD) : Env m K ⊢ cellInv ER (Rd m) (K (c, some (true, k))) (rCell k c) := Env_inv m K (c, some (true, k))
theorem Env_reachedS (k : Fin 30) (c : Dev nD) : Env m K ⊢ reached ER (sCell k c) 0 := Env_reached m K (c, some (false, k))
theorem Env_reachedR (k : Fin 30) (c : Dev nD) : Env m K ⊢ reached ER (rCell k c) 0 := Env_reached m K (c, some (true, k))
theorem Env_invB (c : Dev nD) : Env m K ⊢ cellInv ER (Rd m) (K (c, none)) (barCell c) := Env_inv m K (c, none)
theorem Env_reachedB (c : Dev nD) : Env m K ⊢ reached ER (barCell c) 0 := Env_reached m K (c, none)
theorem Env_lev : Env m K ⊢ levAts L lv := by
  unfold Env; iintro ⟨-, -, #H⟩; iexact H

set_option maxRecDepth 20000 in
theorem Env_waitS (k : Fin 30) (c : Dev nD) (n : ℕ) : Env m K ⊢ MayWait (c : Thread nD τ) (.dma (sSem k)) () (O c n) :=
  (Env_lev m K).trans (mayWait_O c _ (some (false, k)) (csem_s k) n (by rw [show levOf (some (some (false, k))) = 0 from rfl]; omega))
set_option maxRecDepth 20000 in
theorem Env_waitR (k : Fin 30) (c : Dev nD) (n : ℕ) (h : k.val < n) : Env m K ⊢ MayWait (c : Thread nD τ) (.dma (rSem k)) () (O c n) :=
  (Env_lev m K).trans (mayWait_O c _ (some (true, k)) (csem_r k) n (by rw [show levOf (some (some (true, k))) = 2 + k.val from rfl]; omega))
set_option maxRecDepth 20000 in
theorem Env_waitB (c : Dev nD) : Env m K ⊢ MayWait (c : Thread nD τ) (.reg barS) () (O c 0) :=
  (Env_lev m K).trans (mayWait_O c _ none csem_n 0 (by rw [show levOf (some none) = 1 from rfl]; omega))

/-- Transfer `k` of device `c`, the transfers before `n` sent and the first `j` waits done: its departure cell … -/
def laneS (c : Dev nD) (n j : ℕ) (k : Fin 30) : sProp 𝕄 :=
  if 2 * wr k < j then iprop(semVal (sCell k c) 0 ∗ sPay m k c)
  else if k.val < n then iprop(atPos ER (sCell k c) 0 ∅ 0 ∗ cred (tallyAt (sCell k c) () (N k)))
  else iprop(atPos ER (sCell k c) 0 ∅ 0 ∗ dutyTok ER (sCell k c) 0 0 ∗ dutyTok ER (rCell k (pt k c)) 0 0 ∗ land (F := F) k (pt k c))
/-- … and its arrival cell. -/
def laneR (c : Dev nD) (j : ℕ) (k : Fin 30) : sProp 𝕄 :=
  if 2 * wr k + 1 < j then semVal (rCell k c) 0 else iprop(atPos ER (rCell k c) 0 ∅ 0 ∗ cred (tallyAt (rCell k c) () (N k)))
def St (c : Dev nD) (n j : ℕ) : sProp 𝕄 :=
  iprop((∃ W, owes (c : Thread nD τ) (O c n) W) ∗ bigSep live (laneS m c n j) ∗ bigSep live (laneR (F := F) c j))

abbrev 𝒱₀ : Variants := Variants.none
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
theorem lanes_eq {Φ Ψ : Fin 30 → sProp 𝕄} {k : Fin 30} (h : ∀ i, i ≠ k → Φ i = Ψ i) : bigSep (live.erase k) Φ = bigSep (live.erase k) Ψ :=
  bigSep_congr fun i hi => h i (Finset.ne_of_mem_erase hi)
omit [FloatOps F] in
theorem lanes_take {k : Fin 30} (hk : k ∈ live) (Φ : Fin 30 → sProp 𝕄) : bigSep live Φ = iprop(Φ k ∗ bigSep (live.erase k) Φ) := bigSep_erase hk

section Rules
variable {k : Fin 30} (hk : k ∈ live) (c : Dev nD)
include hk

/-- Sending transfer `k`: its source goes in, the state moves on. -/
theorem wp_xfer {j : ℕ} (hj : j ≤ 2 * wr k) {sp sp' : Space} {s : Shape} {e : EltTy} {src : Memref sig .tc sp s e} (n : Dev nD) (hn : n = pt k c)
    {dst : Memref sig .tc sp' s e} {sS sR : SemLoc sig} (hS : sS = .dma (sSem k)) (hR : sR = .dma (rSem k))
    {hsc : (show Memref sig (Dev.tc n : Thread nD τ).2.kind sp' s e from dst).view.ref.isScScratch = false} {hsrc : src.view.WordExact} {hdst : dst.view.WordExact}
    {hsem : DmaTarget.Typed sp sR (.remote (Dev.tc n : Thread nD τ) dst sS hsc)}
    {α : Type} {Q : α → sProp 𝕄} {kk : PUnit → Prog (TpuEff nD τ sig (Elt F) Λ₀ .tc) α}
    (hN : dst.view.dmaCredit = N k) (q : PosShare TreeShare) (fs : Buf (Elt F) (src.view.loc (c : Thread nD τ)))
    (hP : (src.view.loc (c : Thread nD τ) ↦[src.view.set]{q} fs) ⊢ sPay m k c)
    (hL : land (F := F) k (pt k c) ⊢ iprop(∃ fd : Buf (Elt F) (dst.view.loc (pt k c : Thread nD τ)), dst.view.loc (pt k c : Thread nD τ) ↦[dst.view.set]{fullShare} fd))
    (hV : ∀ fd : Buf (Elt F) (dst.view.loc (pt k c : Thread nD τ)),
      (dst.view.loc (pt k c : Thread nD τ) ↦[dst.view.set]{fullShare} (dst.view.write (Elt F) fd (src.view.read (Elt F) fs) Finset.univ)) ⊢ rPay m k (pt k c)) :
    iprop(Env m K ∗ St m c k.val j ∗ (src.view.loc (c : Thread nD τ) ↦[src.view.set]{q} fs))
      ⊢ iprop((St m c (k.val + 1) j -∗ WP c (kk ⟨⟩) Q) -∗ WP c (.op (.enqueueDma src (.remote (Dev.tc n : Thread nD τ) dst sS hsc) sR hsrc hdst hsem) kk) Q) := by
  subst hn hS hR
  unfold St
  rw [lanes_take hk (laneS m c k.val j), lanes_take hk (laneS m c (k.val + 1) j),
    lanes_eq (k := k) (Φ := laneS m c k.val j) (Ψ := laneS m c (k.val + 1) j) (fun i hi => by
      have : i.val ≠ k.val := fun h => hi (Fin.ext h)
      unfold laneS
      by_cases h : i.val < k.val
      · rw [if_pos h, if_pos (show i.val < k.val + 1 by omega)]
      · rw [if_neg h, if_neg (show ¬ i.val < k.val + 1 by omega)])]
  rw [show laneS m c k.val j k = _ from (if_neg (by omega)).trans (if_neg (by omega)), show laneS m c (k.val + 1) j k = _ from (if_neg (by omega)).trans (if_pos (by omega))]
  iintro ⟨#HE, ⟨⟨%W, HO⟩, ⟨⟨Hat, HtS, HtR, Hl⟩, Hrest⟩, HR⟩, Hsrc⟩ Hk
  ihave Hl' := hL $$ Hl
  icases Hl' with ⟨%fd, Hl⟩
  iapply (Rounds.wp_send_pointsTo 𝒱₀ ER (Rd m) (c : Thread nD τ) none (κ₁ := K (c, some (false, k))) (κ₂ := K (pt k c, some (true, k)))
    (r₁ := 0) (r₂ := 0) (d₁ := 0) (d₂ := 0) (fd := fd)
    (mem_duties_s m hk c) (mem_duties_r m hk (pt k c))
    () () (N k) hN (amount_s m c) (amount_r m (pt k c)) (O c (k.val + 1)) (O_succ c hk) (W := W)
    (hP.trans (Entails.of_eq (payload_s m c).symm)) ((hV fd).trans (Entails.of_eq (payload_r m (pt k c)).symm))) $$ [Hsrc Hl HO HtS HtR]
  · isplitr; · iapply (Env_invS m K k c); iexact HE
    isplitr; · iapply (Env_invR m K k (pt k c)); iexact HE
    isplitl [Hsrc]; · iexact Hsrc
    isplitl [Hl]; · iexact Hl
    isplitl [HO]; · iexact HO
    isplitl [HtS]; · iexact HtS
    isplitr; · iapply (Env_reachedS m K k c); iexact HE
    isplitl [HtR]; · iexact HtR
    iapply (Env_reachedR m K k (pt k c)); iexact HE
  iintro ⟨Hc, HO⟩
  iapply Hk
  isplitl [HO]; · iexists W; iexact HO
  isplitr [HR]
  · isplitr [Hrest]
    · isplitl [Hat]; · iexact Hat
      iexact Hc
    · iexact Hrest
  · iexact HR

/-- Waiting for the departure of transfer `k`. -/
theorem wp_waitS {n j : ℕ} (hj : j = 2 * wr k) (hn : k.val < n) {sp sp' : Space} {s s' : Shape} {e e' : EltTy} {src : Memref sig .tc sp s e} {dst : Memref sig .tc sp' s' e'}
    {sm : DmaSem sig} (hS : sm = sSem k) {hsrc : src.view.WordExact} {hdst : dst.view.WordExact}
    {α : Type} {Q : α → sProp 𝕄} {kk : PUnit → Prog (TpuEff nD τ sig (Elt F) Λ₀ .tc) α} (hN : dst.view.dmaCredit = N k) :
    iprop(Env m K ∗ St m c n j)
      ⊢ iprop((St m c n (j + 1) -∗ WP c (kk ⟨⟩) Q) -∗ WP c (.op (.waitDma2 sm src dst hsrc hdst) kk) Q) := by
  subst hS hj
  unfold St
  rw [lanes_take hk (laneS m c n (2 * wr k)), lanes_take hk (laneS m c n (2 * wr k + 1)),
    lanes_eq (k := k) (Φ := laneS m c n (2 * wr k)) (Ψ := laneS m c n (2 * wr k + 1)) (fun i hi => by
      have : wr i ≠ wr k := fun h => hi (wr_inj _ _ h)
      unfold laneS
      by_cases h : 2 * wr i < 2 * wr k
      · rw [if_pos h, if_pos (show 2 * wr i < 2 * wr k + 1 by omega)]
      · rw [if_neg h, if_neg (show ¬ 2 * wr i < 2 * wr k + 1 by omega)]),
    show laneR (F := F) c (2 * wr k) = laneR c (2 * wr k + 1) from funext fun i => by
      unfold laneR
      by_cases h : 2 * wr i + 1 < 2 * wr k
      · rw [if_pos h, if_pos (show 2 * wr i + 1 < 2 * wr k + 1 by omega)]
      · rw [if_neg h, if_neg (show ¬ 2 * wr i + 1 < 2 * wr k + 1 by omega)]]
  rw [show laneS m c n (2 * wr k) k = _ from (if_neg (by omega)).trans (if_pos hn), show laneS m c n (2 * wr k + 1) k = _ from if_pos (by omega)]
  iintro ⟨#HE, ⟨%W, HO⟩, ⟨⟨Hat, Hc⟩, Hrest⟩, HR⟩ Hk
  iapply (Rounds.wp_wait_rest_token 𝒱₀ ER (Rd m) (c : Thread nD τ) none (κ := K (c, some (false, k)))
      (wpE_waitDma2_eq 𝒱₀ (c : Thread nD τ) none Set.univ) (Set.mem_univ _) () (O := O c n) (W := W) (R := 0) (m := 0) (T := ∅)
      (by rw [Nat.zero_add, hN]; exact (expect_s m hk c).symm)) $$ [Hc HO Hat]
  · isplitr; · iapply (Env_invS m K k c); iexact HE
    isplitl [Hc]; · rw [hN]; iexact Hc
    isplitl [HO]; · iexact HO
    isplitr; · iapply (Env_waitS m K k c n); iexact HE
    iexact Hat
  iintro ⟨HO, Hat, -, Hpay⟩
  ihave Hp := (Entails.of_eq (rest_s m hk c)) $$ Hpay
  imod (Rounds.cell_close ER (Rd m) (Set.mem_univ (K (c, some (false, k)))) (fun h => h) (R := 0 + 1) (duties_later m (sCell k c))) $$ [Hat] with Hz
  · isplitr; · iapply (Env_invS m K k c); iexact HE
    iexact Hat
  iapply Hk
  isplitl [HO]; · iexists _; iexact HO
  isplitr [HR]
  · isplitr [Hrest]
    · isplitl [Hz]; · iexact Hz
      iexact Hp
    · iexact Hrest
  · iexact HR

/-- Waiting for the arrival of transfer `k`: what it carried is in hand. -/
theorem wp_waitR {n j : ℕ} (hj : j = 2 * wr k + 1) (hn : k.val < n) {sp sp' : Space} {s s' : Shape} {e e' : EltTy} {src : Memref sig .tc sp s e} {dst : Memref sig .tc sp' s' e'}
    {sm : DmaSem sig} (hS : sm = rSem k) {hsrc : src.view.WordExact} {hdst : dst.view.WordExact}
    {α : Type} {Q : α → sProp 𝕄} {kk : PUnit → Prog (TpuEff nD τ sig (Elt F) Λ₀ .tc) α} (hN : dst.view.dmaCredit = N k) :
    iprop(Env m K ∗ St m c n j)
      ⊢ iprop((iprop(St m c n (j + 1) ∗ rPay m k c) -∗ WP c (kk ⟨⟩) Q) -∗ WP c (.op (.waitDma2 sm src dst hsrc hdst) kk) Q) := by
  subst hS hj
  unfold St
  rw [lanes_take hk (laneR (F := F) c (2 * wr k + 1)), lanes_take hk (laneR (F := F) c (2 * wr k + 1 + 1)),
    lanes_eq (k := k) (Φ := laneR (F := F) c (2 * wr k + 1)) (Ψ := laneR (F := F) c (2 * wr k + 1 + 1)) (fun i hi => by
      have : wr i ≠ wr k := fun h => hi (wr_inj _ _ h)
      unfold laneR
      by_cases h : 2 * wr i + 1 < 2 * wr k + 1
      · rw [if_pos h, if_pos (show 2 * wr i + 1 < 2 * wr k + 1 + 1 by omega)]
      · rw [if_neg h, if_neg (show ¬ 2 * wr i + 1 < 2 * wr k + 1 + 1 by omega)]),
    show laneS m c n (2 * wr k + 1) = laneS m c n (2 * wr k + 1 + 1) from funext fun i => by
      unfold laneS
      by_cases h : 2 * wr i < 2 * wr k + 1
      · rw [if_pos h, if_pos (show 2 * wr i < 2 * wr k + 1 + 1 by omega)]
      · rw [if_neg h, if_neg (show ¬ 2 * wr i < 2 * wr k + 1 + 1 by omega)]]
  rw [show laneR (F := F) c (2 * wr k + 1) k = _ from if_neg (by omega), show laneR (F := F) c (2 * wr k + 1 + 1) k = _ from if_pos (by omega)]
  iintro ⟨#HE, ⟨%W, HO⟩, HR, ⟨⟨Hat, Hc⟩, Hrest⟩⟩ Hk
  iapply (Rounds.wp_wait_rest_token 𝒱₀ ER (Rd m) (c : Thread nD τ) none (κ := K (c, some (true, k)))
      (wpE_waitDma2_eq 𝒱₀ (c : Thread nD τ) none Set.univ) (Set.mem_univ _) () (O := O c n) (W := W) (R := 0) (m := 0) (T := ∅)
      (by rw [Nat.zero_add, hN]; exact (expect_r m hk c).symm)) $$ [Hc HO Hat]
  · isplitr; · iapply (Env_invR m K k c); iexact HE
    isplitl [Hc]; · rw [hN]; iexact Hc
    isplitl [HO]; · iexact HO
    isplitr; · iapply (Env_waitR m K k c n hn); iexact HE
    iexact Hat
  iintro ⟨HO, Hat, -, Hpay⟩
  ihave Hp := (Entails.of_eq (rest_r m hk c)) $$ Hpay
  imod (Rounds.cell_close ER (Rd m) (Set.mem_univ (K (c, some (true, k)))) (fun h => h) (R := 0 + 1) (duties_later m (rCell k c))) $$ [Hat] with Hz
  · isplitr; · iapply (Env_invR m K k c); iexact HE
    iexact Hat
  iapply Hk
  isplitr [Hp]
  · isplitl [HO]; · iexists _; iexact HO
    isplitl [HR]; · iexact HR
    isplitl [Hz]; · iexact Hz
    iexact Hrest
  · iexact Hp

end Rules

end Cert.AR
-- ==== Proof.Parts1.lean ====
/-
# The first operations of the body

The kernel's pieces at its own buffers, the signals to the four neighbours and the wait at the barrier, from which a
device holds the landing places of its transfers, and the loads of the inputs.
-/
module

public import proofs.«01_k».proof.Proof.Proto

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- A piece of the body at the kernel's own buffers and semaphores. -/
abbrev onArgs.{u} {β : Sort u} (f : (arg0 : Memref sig .tc .vmem S1024x1024 .f32) → (harg0 : arg0.IsWhole) → (arg1 : Memref sig .tc .vmem S1024x1024 .f32) → (harg1 : arg1.IsWhole) → (arg2 : Memref sig .tc .vmem S1024x1024 .f32) → (harg2 : arg2.IsWhole) → (arg3 : Memref sig .tc .vmem S1024x1024 .f32) → (harg3 : arg3.IsWhole) → (arg4 : Memref sig .tc .vmem S1024x1024 .f32) → (harg4 : arg4.IsWhole) → (arg5 : Memref sig .tc .vmem S1024x128 .f32) → (harg5 : arg5.IsWhole) → (arg6 : Memref sig .tc .vmem S1024x128 .f32) → (harg6 : arg6.IsWhole) → (arg7 : Memref sig .tc .vmem S1024x1024 .bf16) → (harg7 : arg7.IsWhole) → (arg8 : Memref sig .tc .vmem S1024x1024 .bf16) → (harg8 : arg8.IsWhole) → (arg9 : Memref sig .tc .vmem S1024x1024 .bf16) → (harg9 : arg9.IsWhole) → (arg10 : Memref sig .tc .vmem S1024x1024 .bf16) → (harg10 : arg10.IsWhole) → (arg11 : Memref sig .tc .vmem S512x1024 .bf16) → (harg11 : arg11.IsWhole) → (arg12 : Memref sig .tc .vmem S1024x1024 .f32) → (harg12 : arg12.IsWhole) → (arg13 : Memref sig .tc .vmem S512x512 .bf16) → (harg13 : arg13.IsWhole) → (arg14 : Memref sig .tc .vmem S256x512 .bf16) → (harg14 : arg14.IsWhole) → (arg15 : Memref sig .tc .vmem S128x512 .bf16) → (harg15 : arg15.IsWhole) → (arg16 : Memref sig .tc .vmem S64x512 .bf16) → (harg16 : arg16.IsWhole) → (arg17 : Memref sig .tc .vmem S512x512 .bf16) → (harg17 : arg17.IsWhole) → (arg18 : Memref sig .tc .vmem S256x512 .bf16) → (harg18 : arg18.IsWhole) → (arg19 : Memref sig .tc .vmem S128x512 .bf16) → (harg19 : arg19.IsWhole) → (arg20 : Memref sig .tc .vmem S64x512 .bf16) → (harg20 : arg20.IsWhole) → (arg21 : Memref sig .tc .vmem S512x512 .bf16) → (harg21 : arg21.IsWhole) → (arg22 : Memref sig .tc .vmem S256x512 .bf16) → (harg22 : arg22.IsWhole) → (arg23 : Memref sig .tc .vmem S128x512 .bf16) → (harg23 : arg23.IsWhole) → (arg24 : Memref sig .tc .vmem S64x512 .bf16) → (harg24 : arg24.IsWhole) → (arg25 : Memref sig .tc .vmem S512x512 .bf16) → (harg25 : arg25.IsWhole) → (arg26 : Memref sig .tc .vmem S256x512 .bf16) → (harg26 : arg26.IsWhole) → (arg27 : Memref sig .tc .vmem S128x512 .bf16) → (harg27 : arg27.IsWhole) → (arg28 : Memref sig .tc .vmem S64x512 .bf16) → (harg28 : arg28.IsWhole) → (arg29 : DmaSems sig S2x5) → (arg30 : DmaSems sig S2x5) → (arg31 : DmaSems sig S2x10) → (arg32 : DmaSems sig S2x10) → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24

/-- A load from a buffer held whole. -/
theorem wp_ld (c : Dev nD) {s : Shape} {e : EltTy} (mm : Memref sig .tc .vmem s e) {r : LoadRect s} {hl : mm.view.LoadsAt r} {f : Buf (Elt F) (mm.view.loc (c : Thread nD τ))}
    {α : Type _} {Q : α → sProp 𝕄} {kk : (r.shape.Idx → Elt F e) → Prog (TpuEff nD τ sig (Elt F) Λ₀ .tc) α} :
    (mm.view.loc (c : Thread nD τ) ↦{fullShare} f) ⊢ iprop(((mm.view.loc (c : Thread nD τ) ↦{fullShare} f) -∗ WP c (kk (mm.view.readAt (Elt F) r f)) Q) -∗ WP c (.op (.load mm r hl) kk) Q) :=
  wp_load 𝒱₀ (c : Thread nD τ) none Set.univ (m := mm) (Finset.subset_univ _)
/-- A store into a buffer held whole. -/
theorem wp_st (c : Dev nD) {s : Shape} {e : EltTy} (mm : Memref sig .tc .vmem s e) {r : Rect s} {hl hl'} {w : r.shape.Idx → Elt F e} {f : Buf (Elt F) (mm.view.loc (c : Thread nD τ))}
    {α : Type _} {Q : α → sProp 𝕄} {kk : PUnit → Prog (TpuEff nD τ sig (Elt F) Λ₀ .tc) α} :
    (mm.view.loc (c : Thread nD τ) ↦{fullShare} f) ⊢ iprop(((mm.view.loc (c : Thread nD τ) ↦{fullShare} ((mm.access r).write (Elt F) f w Finset.univ)) -∗ WP c (kk ⟨⟩) Q) -∗ WP c (.op (.store mm r w Finset.univ hl hl') kk) Q) :=
  wp_store 𝒱₀ (c : Thread nD τ) none Set.univ (m := mm) (r := r) (Mk := Finset.univ) (Finset.subset_univ _)

theorem wp_done {c : Dev nD} {α : Type _} (x : α) {Q : α → sProp 𝕄} : Q x ⊢ WP (F := F) c (.ret x) Q := by
  rw [WP, wp_ret]; iintro H; imodintro; iexact H

/-- Signalling a neighbour's barrier hands it the landing places of the transfers from it. -/
theorem wp_sig (d : Fin 4) (c n : Dev nD) (hn : n = mv d c) {O1 : CellTallies nD τ sig Unit} (O2 : CellTallies nD τ sig Unit) (hO : O1 = O2 + tallyAt (barCell (mv d c)) () 1)
    {sm : Sem sig} (hs : sm = barS) {i : ℤ} (hi : i = 1)
    {α : Type _} {Q : α → sProp 𝕄} {kk : PUnit → Prog (TpuEff nD τ sig (Elt F) Λ₀ .tc) α} :
    iprop(Env m K ∗ (∃ W, owes (c : Thread nD τ) O1 W) ∗ dutyTok ER (barCell (mv d c)) 0 d ∗ share (F := F) d c)
      ⊢ iprop(((∃ W, owes (c : Thread nD τ) O2 W) -∗ WP c (kk ⟨⟩) Q) -∗ WP c (.op (.semSignal ((n, Proc.tc) : Thread nD τ) sm i) kk) Q) := by
  subst hn hs hi
  iintro ⟨#HE, ⟨%W, HO⟩, Ht, Hp⟩ Hk
  iapply (Rounds.wp_signal 𝒱₀ ER (Rd m) (c : Thread nD τ) none (dst := (mv d c : Thread nD τ)) (κ := K (mv d c, none))
      (d := d) (by rw [duties_bar]; exact Finset.mem_univ _) ((amount_bar m (mv d c) d).trans (by decide)) () O2 hO)
    $$ [HO Ht Hp]
  · isplitr; · iapply (Env_invB m K (mv d c)); iexact HE
    isplitl [HO]; · iexact HO
    isplitl [Ht]; · iexact Ht
    isplitl [Hp]; · rw [payload_bar, mv_mv]; iexact Hp
    iapply (Env_reachedB m K (mv d c)); iexact HE
  iintro HO
  iapply Hk; iexists W; iexact HO

/-- The wait at the barrier hands a device the landing places of its own transfers. -/
theorem wp_bar (c : Dev nD) {sm : Sem sig} (hs : sm = barS) {i : ℤ} (hi : i = 4) {α : Type _} {Q : α → sProp 𝕄} {kk : PUnit → Prog (TpuEff nD τ sig (Elt F) Λ₀ .tc) α} :
    iprop(Env m K ∗ (∃ W, owes (c : Thread nD τ) (O c 0) W) ∗ cred (tallyAt (barCell c) () 4) ∗ atPos ER (barCell c) 0 ∅ 0)
      ⊢ iprop((iprop((∃ W, owes (c : Thread nD τ) (O c 0) W) ∗ semVal (barCell c) 0 ∗ bigSep live fun k => land (F := F) k (pt k c)) -∗ WP c (kk ⟨⟩) Q)
        -∗ WP c (.op (.semWait sm i) kk) Q) := by
  subst hs hi
  iintro ⟨#HE, ⟨%W, HO⟩, Hc, Hat⟩ Hk
  iapply (Rounds.wp_wait_rest_token 𝒱₀ ER (Rd m) (c : Thread nD τ) none (κ := K (c, none))
      (wpE_semWait_eq 𝒱₀ (c : Thread nD τ) none Set.univ) (Set.mem_univ _) () (O := O c 0) (W := W) (R := 0) (m := 0) (T := ∅)
      (by rw [expect_bar])) $$ [Hc HO Hat]
  · isplitr; · iapply (Env_invB m K c); iexact HE
    isplitl [Hc]; · iexact Hc
    isplitl [HO]; · iexact HO
    isplitr; · iapply (Env_waitB m K c); iexact HE
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (Env_invB m K c); iexact HE
    iexact Hat
  iapply Hk
  isplitl [HO]; · iexists _; iexact HO
  isplitl [Hz]; · iexact Hz
  iexact Hp

theorem part1 (c : Dev nD) {Q} : iprop(∀ w1 w2 w3 w4, Q ⟨c, w1, w2, w3, w4⟩) ⊢ WP (F := F) c (onArgs k0_part1) Q := by
  rw [k0_part1_eq_skeleton]; unfold k0_part1_skel onArgs
  simp only [Prog.lift, Prog.bind_op, Prog.bind_ret, Prog.pure_eq_ret, wp_deviceId]
  iintro H; iapply wp_done; iapply H

theorem part2 (c : Dev nD) (w1 w2 w3 w4 : BitVec 32) {Q} : iprop(∀ w1 w2 w3 w4 w5 w6, Q ⟨w1, w2, w3, w4, w5, w6⟩) ⊢ WP (F := F) c (onArgs k0_part2 w1 w2 w3 w4) Q := by
  rw [k0_part2_eq_skeleton]; unfold k0_part2_skel onArgs
  simp only [Prog.pure_eq_ret]
  iintro H; iapply wp_done; iapply H

theorem part3 (c : Dev nD) (w1 w2 w3 w4 w5 w6 w7 w8 : BitVec 32) {Q} : iprop(∀ w1 w2 w3 w4 w5 w6 w7 w8 w9, Q ⟨w1, w2, w3, w4, w5, w6, w7, w8, w9⟩) ⊢ WP (F := F) c (onArgs k0_part3 w1 w2 w3 w4 w5 w6 w7 w8) Q := by
  rw [k0_part3_eq_skeleton]; unfold k0_part3_skel onArgs
  simp only [Prog.pure_eq_ret]
  iintro H; iapply wp_done; iapply H

theorem part4 (c : Dev nD) (w1 w2 w3 w4 w5 w6 w7 w8 w9 : BitVec 32) {Q} :
   iprop(Env m K ∗ (∃ W, owes (c : Thread nD τ) (OB c 0) W) ∗ dutyTok ER (barCell (mv 0 c)) 0 0 ∗ dutyTok ER (barCell (mv 1 c)) 0 1 ∗ share (F := F) 0 c ∗ share (F := F) 1 c)
   ⊢ iprop((∀ w1 w2 w3 w4 w5 w6 w7 w8 w9 w10 w11 w12, (∃ W, owes (c : Thread nD τ) (OB c 2) W) -∗ Q ⟨w1, w2, w3, w4, w5, w6, w7, w8, w9, w10, w11, SemArray.scalar (sig.barrier 0 rfl), w12⟩)
     -∗ WP c (onArgs k0_part4 c w1 w2 w3 w4 w5 w6 w7 w8 w9) Q) := by
  rw [k0_part4_eq_skeleton]; unfold k0_part4_skel onArgs
  simp only [semSignalWord, semWaitWord, Prog.lift, Prog.bind_op, Prog.bind_ret, Prog.pure_eq_ret, wp_deviceId]
  iintro ⟨#HE, HO, Ht0, Ht1, Hs0, Hs1⟩ Hk
  iapply (wp_sig m K 0 c _ (dev1_eq c) (O1 := OB c 0) (OB c 1) rfl rfl (by decide)) $$ [HO Ht0 Hs0]
  · isplitr; · iexact HE
    isplitl [HO]; · iexact HO
    isplitl [Ht0]; · iexact Ht0
    iexact Hs0
  iintro HO
  iapply (wp_sig m K 1 c _ (dev2_eq c) (O1 := OB c 1) (OB c 2) rfl rfl (by decide)) $$ [HO Ht1 Hs1]
  · isplitr; · iexact HE
    isplitl [HO]; · iexact HO
    isplitl [Ht1]; · iexact Ht1
    iexact Hs1
  iintro HO
  iapply wp_done
  iapply Hk
  iexact HO

section
variable (c : Dev nD)
theorem rd_x {f} : (Memref.whole cc0_stg0_0 : Memref sig .tc .vmem S1024x1024 .f32).view.readAt (Elt F) (Rect.unit (s := S1024x1024) ![0, 0] S1024x1024.size inb_S1024x1024_S1024x1024_0_0).toLoadRect f = f := readAt_zero cc0_stg0_0 (by decide) f
theorem rd_q {f} : (Memref.whole cc0_stg1_0 : Memref sig .tc .vmem S1024x1024 .f32).view.readAt (Elt F) (Rect.unit (s := S1024x1024) ![0, 0] S1024x1024.size inb_S1024x1024_S1024x1024_0_0).toLoadRect f = f := readAt_zero cc0_stg1_0 (by decide) f
theorem rd_k {f} : (Memref.whole cc0_stg2_0 : Memref sig .tc .vmem S1024x1024 .f32).view.readAt (Elt F) (Rect.unit (s := S1024x1024) ![0, 0] S1024x1024.size inb_S1024x1024_S1024x1024_0_0).toLoadRect f = f := readAt_zero cc0_stg2_0 (by decide) f
theorem rd_v {f} : (Memref.whole cc0_stg3_0 : Memref sig .tc .vmem S1024x1024 .f32).view.readAt (Elt F) (Rect.unit (s := S1024x1024) ![0, 0] S1024x1024.size inb_S1024x1024_S1024x1024_0_0).toLoadRect f = f := readAt_zero cc0_stg3_0 (by decide) f
theorem rd_o {f} : (Memref.whole cc0_stg4_0 : Memref sig .tc .vmem S1024x1024 .f32).view.readAt (Elt F) (Rect.unit (s := S1024x1024) ![0, 0] S1024x1024.size inb_S1024x1024_S1024x1024_0_0).toLoadRect f = f := readAt_zero cc0_stg4_0 (by decide) f
theorem rd_cos {f} : (Memref.whole cc0_stg5_0 : Memref sig .tc .vmem S1024x128 .f32).view.readAt (Elt F) (Rect.unit (s := S1024x128) ![0, 0] S1024x128.size inb_S1024x128_S1024x128_0_0).toLoadRect f = f := readAt_zero cc0_stg5_0 (by decide) f
theorem rd_sin {f} : (Memref.whole cc0_stg6_0 : Memref sig .tc .vmem S1024x128 .f32).view.readAt (Elt F) (Rect.unit (s := S1024x128) ![0, 0] S1024x128.size inb_S1024x128_S1024x128_0_0).toLoadRect f = f := readAt_zero cc0_stg6_0 (by decide) f
end

/-- The staged inputs the projections read. -/
def inA (c : Dev nD) : sProp 𝕄 := iprop(pts cc0_stg0_0 c (xV m c) ∗ pts cc0_stg5_0 c (cosV m c) ∗ pts cc0_stg6_0 c (sinV m c) ∗ pts cc0_stg1_0 c (wqV m c))

theorem part5 (c : Dev nD) (w1 w2 w3 : BitVec 32) {Q} :
   iprop(Env m K ∗ (∃ W, owes (c : Thread nD τ) (OB c 2) W) ∗ dutyTok ER (barCell (mv 2 c)) 0 2 ∗ dutyTok ER (barCell (mv 3 c)) 0 3 ∗ share (F := F) 2 c ∗ share (F := F) 3 c
     ∗ cred (tallyAt (barCell c) () 4) ∗ atPos ER (barCell c) 0 ∅ 0 ∗ inA m c)
   ⊢ iprop((((∃ W, owes (c : Thread nD τ) (O c 0) W) ∗ semVal (barCell c) 0 ∗ (bigSep live fun k => land (F := F) k (pt k c)) ∗ inA m c)
        -∗ Q ⟨k0_pay1 (cosV m c), k0_pay2 (sinV m c), k0_pay3, k0_pay4 (xV m c), k0_pay5 (wqV m c), constant S1024x1024 .f32 0x00000000#32⟩)
     -∗ WP c (onArgs k0_part5 c w1 w2 (SemArray.scalar (sig.barrier 0 rfl)) w3) Q) := by
  rw [k0_part5_eq_skeleton]; unfold k0_part5_skel onArgs inA
  simp only [semSignalWord, semWaitWord, Prog.lift, Prog.bind_op, Prog.bind_ret, Prog.pure_eq_ret, wp_deviceId]
  iintro ⟨#HE, HO, Ht0, Ht1, Hs0, Hs1, Hc, Hat, Hx, Hcos, Hsin, Hq⟩ Hk
  iapply (wp_sig m K 2 c _ (dev3_eq c) (O1 := OB c 2) (OB c 3) rfl rfl (by decide)) $$ [HO Ht0 Hs0]
  · isplitr; · iexact HE
    isplitl [HO]; · iexact HO
    isplitl [Ht0]; · iexact Ht0
    iexact Hs0
  iintro HO
  iapply (wp_sig m K 3 c _ (dev4_eq c) (O1 := OB c 3) (OB c 4) rfl rfl (by decide)) $$ [HO Ht1 Hs1]
  · isplitr; · iexact HE
    isplitl [HO]; · iexact HO
    isplitl [Ht1]; · iexact Ht1
    iexact Hs1
  iintro HO
  iapply (wp_bar m K c rfl (by decide)) $$ [HO Hc Hat]
  · isplitr; · iexact HE
    isplitl [HO]; · iexact HO
    isplitl [Hc]; · iexact Hc
    iexact Hat
  iintro ⟨HO, Hz, Hl⟩
  iapply (wp_ld c (Memref.whole cc0_stg0_0)) $$ Hx; iintro Hx
  iapply (wp_ld c (Memref.whole cc0_stg5_0)) $$ Hcos; iintro Hcos
  iapply (wp_ld c (Memref.whole cc0_stg6_0)) $$ Hsin; iintro Hsin
  iapply (wp_ld c (Memref.whole cc0_stg1_0)) $$ Hq; iintro Hq
  rw [rd_x, rd_q, rd_cos, rd_sin]
  iapply wp_done
  iapply Hk
  isplitl [HO]; · iexact HO
  isplitl [Hz]; · iexact Hz
  isplitl [Hl]; · iexact Hl
  isplitl [Hx]; · iexact Hx
  isplitl [Hcos]; · iexact Hcos
  isplitl [Hsin]; · iexact Hsin
  iexact Hq

end Cert.AR
-- ==== Proof.Parts2.lean ====
/-
# Each head's attention, and the product with the output weights

The pieces of the body that fill the query, key and value buffers, the attention rows head by head, and the part array.
-/
module

public import proofs.«01_k».proof.Proof.Parts1

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

abbrev ldE {s : Shape} {e : EltTy} (mm : Memref sig .tc .vmem s e) (r : LoadRect s) (l : mm.view.LoadsAt r) : TpuEff nD τ sig (Elt F) Λ₀ .tc (r.shape.Idx → Elt F e) := .load mm r l
abbrev stE {s : Shape} {e : EltTy} (mm : Memref sig .tc .vmem s e) (r : Rect s) (w : r.shape.Idx → Elt F e) (h : (mm.access r).Stores Finset.univ)
    (h' : (Finset.univ : Finset r.shape.Idx) = Finset.univ ∨ ∀ a, r.stride a = 1) : TpuEff nD τ sig (Elt F) Λ₀ .tc PUnit := .store mm r w Finset.univ h h'

/-! ## The queries, the keys and the values -/

/-- The query, key and value buffers, filled. -/
def qkv (c : Dev nD) : sProp 𝕄 := iprop(pts cc0_scratch0 c (Qv m c) ∗ pts cc0_scratch1 c (Kv m c) ∗ pts cc0_scratch2 c (Vv m c))

theorem part6 (c : Dev nD) (w1 : BitVec 32) {Q} :
   iprop(pts cc0_stg2_0 c (wkV m c) ∗ pts cc0_stg3_0 c (wvV m c) ∗ anyB (F := F) cc0_scratch0 c ∗ anyB (F := F) cc0_scratch1 c ∗ anyB (F := F) cc0_scratch2 c)
   ⊢ iprop(((qkv m c ∗ pts cc0_stg2_0 c (wkV m c) ∗ pts cc0_stg3_0 c (wvV m c)) -∗ Q ⟨⟩)
     -∗ WP c (onArgs k0_part6 w1 (k0_pay1 (cosV m c)) (k0_pay2 (sinV m c)) k0_pay3 (k0_pay4 (xV m c)) (k0_pay5 (wqV m c)) (constant S1024x1024 .f32 0x00000000#32)) Q) := by
  rw [k0_part6_eq_skeleton]; unfold k0_part6_skel onArgs anyB qkv
  simp only [Prog.lift, Prog.bind_op, Prog.bind_ret, Prog.pure_eq_ret]
  iintro ⟨Hk, Hv, ⟨%f0, H0⟩, ⟨%f1, H1⟩, ⟨%f2, H2⟩⟩ Hcont
  iapply (wp_ld c (Memref.whole cc0_scratch0)) $$ H0; iintro H0
  iapply (wp_st c (Memref.whole cc0_scratch0)) $$ H0; iintro H0
  iapply (wp_ld c (Memref.whole cc0_stg2_0)) $$ Hk; iintro Hk
  iapply (wp_ld c (Memref.whole cc0_scratch1)) $$ H1; iintro H1
  iapply (wp_st c (Memref.whole cc0_scratch1)) $$ H1; iintro H1
  iapply (wp_ld c (Memref.whole cc0_stg3_0)) $$ Hv; iintro Hv
  iapply (wp_ld c (Memref.whole cc0_scratch2)) $$ H2; iintro H2
  iapply (wp_st c (Memref.whole cc0_scratch2)) $$ H2; iintro H2
  rw [rd_k, rd_v]
  iapply wp_done
  iapply Hcont
  isplitl [H0 H1 H2]
  · isplitl [H0]
    · have e := write_zero cc0_scratch0 (inb := inb_S1024x1024_S1024x1024_0_0) (by decide) f0 (Qv m c)
      rw [← e]; iexact H0
    isplitl [H1]
    · have e := write_zero cc0_scratch1 (inb := inb_S1024x1024_S1024x1024_0_0) (by decide) f1 (Kv m c)
      rw [← e]; iexact H1
    · have e := write_zero cc0_scratch2 (inb := inb_S1024x1024_S1024x1024_0_0) (by decide) f2 (Vv m c)
      rw [← e]; iexact H2
  isplitl [Hk]; · iexact Hk
  iexact Hv

/-! ## The attention rows, head by head -/

/-- The heads before `h` are done. -/
def CtxOn (c : Dev nD) (r0 h : ℕ) (f : (cc0_scratch3 : Ref sig .tc).ty.Contents (Elt F)) : Prop := ∀ i : S512x1024.Idx, (i 1).val < 128 * h → f i = ctxV m c r0 i

/-- The attention buffer with the heads before `h` done. -/
def ctxS (c : Dev nD) (r0 h : ℕ) : sProp 𝕄 := iprop(∃ f : (cc0_scratch3 : Ref sig .tc).ty.Contents (Elt F), ⌜CtxOn m c r0 h f⌝ ∗ pts cc0_scratch3 c f)

theorem CtxOn.step {c : Dev nD} {r0 h : ℕ} {f : (cc0_scratch3 : Ref sig .tc).ty.Contents (Elt F)} (hf : CtxOn m c r0 h f) {off : Fin 2 → ℕ} (ho : off = ![0, 128 * h])
    (inb : ∀ a, off a + (![512, 128] : Fin 2 → ℕ) a ≤ S512x1024.size a) (w : (⟨2, ![512, 128]⟩ : Shape).Idx → F .bf16) (hw : w = headV m c r0 h) :
    CtxOn m c r0 (h + 1) (((Memref.whole cc0_scratch3 : Memref sig .tc .vmem S512x1024 .bf16).access (Rect.unit (s := S512x1024) off ![512, 128] inb)).write (Elt F) f w Finset.univ) := by
  subst ho hw
  intro i hi
  by_cases hlt : (i 1).val < 128 * h
  · rw [← hf i hlt]
    refine write_unit_out cc0_scratch3 f _ i fun hm => ?_
    have m1 := hm 1
    change 128 * h ≤ (i 1).val ∧ (i 1).val < 128 * h + 128 at m1
    omega
  · have l0 : (i 0).val < 512 := (i 0).isLt
    have hm : ∀ x : Fin 2, (![0, 128 * h] : Fin 2 → ℕ) x ≤ (i x).val ∧ (i x).val < (![0, 128 * h] : Fin 2 → ℕ) x + (![512, 128] : Fin 2 → ℕ) x := by
      intro x
      match x with
      | ⟨0, _⟩ => exact ⟨Nat.zero_le _, by show (i 0).val < 0 + 512; omega⟩
      | ⟨1, _⟩ => exact ⟨by show 128 * h ≤ (i 1).val; omega, by show (i 1).val < 128 * h + 128; omega⟩
    rw [write_unit_in cc0_scratch3 f _ i hm]
    have e : (i 1).val / 128 = h := by omega
    unfold ctxV
    rw [e]
    congr 1
    refine idx_ext2 ?_ ?_
    · show (i 0).val - 0 = (i 0).val % 512
      omega
    · show (i 1).val - 128 * h = (i 1).val % 128 % 128
      omega

theorem ctxS_full (c : Dev nD) (r0 : ℕ) : ctxS m c r0 8 ⊢ pts cc0_scratch3 c (ctxV m c r0) := by
  unfold ctxS
  iintro ⟨%f, %hf, H⟩
  have e : f = ctxV m c r0 := funext fun i => hf i (by have : (i 1).val < 1024 := (i 1).isLt; omega)
  subst e; iexact H
theorem ctxS_any (c : Dev nD) (r0 : ℕ) : anyB (F := F) cc0_scratch3 c ⊢ ctxS m c r0 0 := by
  unfold ctxS anyB
  iintro ⟨%f, H⟩
  iexists f
  isplitr; · ipureintro; intro i hi; exact absurd hi (by omega)
  iexact H

/-- The three loads of one head. -/
theorem wp_qkv (c : Dev nD) (r0 h : ℕ) {o1 o2 : Fin 2 → ℕ} (h1 : o1 = ![r0, 128 * h]) (h2 : o2 = ![0, 128 * h])
    (i1 : ∀ a, o1 a + (![512, 128] : Fin 2 → ℕ) a ≤ S1024x1024.size a) (i2 i3 : ∀ a, o2 a + (![1024, 128] : Fin 2 → ℕ) a ≤ S1024x1024.size a) {l1 l2 l3}
    {α : Type _} {Q : α → sProp 𝕄} {kk : ((Rect.unit (s := S1024x1024) o1 ![512, 128] i1).toLoadRect.shape.Idx → Elt F .bf16) → ((Rect.unit (s := S1024x1024) o2 ![1024, 128] i2).toLoadRect.shape.Idx → Elt F .bf16) → ((Rect.unit (s := S1024x1024) o2 ![1024, 128] i3).toLoadRect.shape.Idx → Elt F .bf16) → Prog (TpuEff nD τ sig (Elt F) Λ₀ .tc) α} :
    qkv m c ⊢ iprop((qkv m c -∗ WP c (kk (sub 512 128 (Qv m c) r0 (128 * h)) (sub 1024 128 (Kv m c) 0 (128 * h)) (sub 1024 128 (Vv m c) 0 (128 * h))) Q)
      -∗ WP c (.op (ldE (Memref.whole cc0_scratch0 : Memref sig .tc .vmem S1024x1024 .bf16) (Rect.unit (s := S1024x1024) o1 ![512, 128] i1).toLoadRect l1) fun a =>
        .op (ldE (Memref.whole cc0_scratch1 : Memref sig .tc .vmem S1024x1024 .bf16) (Rect.unit (s := S1024x1024) o2 ![1024, 128] i2).toLoadRect l2) fun b =>
        .op (ldE (Memref.whole cc0_scratch2 : Memref sig .tc .vmem S1024x1024 .bf16) (Rect.unit (s := S1024x1024) o2 ![1024, 128] i3).toLoadRect l3) fun d => kk a b d) Q) := by
  unfold qkv
  iintro ⟨H0, H1, H2⟩ Hk
  iapply (wp_ld c (Memref.whole cc0_scratch0)) $$ H0; iintro H0
  iapply (wp_ld c (Memref.whole cc0_scratch1)) $$ H1; iintro H1
  iapply (wp_ld c (Memref.whole cc0_scratch2)) $$ H2; iintro H2
  have e0 : (fun i : (⟨2, ![512, 128]⟩ : Shape).Idx => Qv m c ((Rect.unit (s := S1024x1024) o1 ![512, 128] i1).toLoadRect.idx i)) = sub 512 128 (Qv m c) r0 (128 * h) := by
    funext i; rw [idx_unit h1]; rfl
  have e1 : (fun i : (⟨2, ![1024, 128]⟩ : Shape).Idx => Kv m c ((Rect.unit (s := S1024x1024) o2 ![1024, 128] i2).toLoadRect.idx i)) = sub 1024 128 (Kv m c) 0 (128 * h) := by
    funext i; rw [idx_unit h2]; rfl
  have e2 : (fun i : (⟨2, ![1024, 128]⟩ : Shape).Idx => Vv m c ((Rect.unit (s := S1024x1024) o2 ![1024, 128] i3).toLoadRect.idx i)) = sub 1024 128 (Vv m c) 0 (128 * h) := by
    funext i; rw [idx_unit h2]; rfl
  rw [← e0, ← e1, ← e2]
  iapply Hk
  isplitl [H0]; · iexact H0
  isplitl [H1]; · iexact H1
  iexact H2

/-- The store of one head. -/
theorem wp_ctx (c : Dev nD) (r0 h : ℕ) {off : Fin 2 → ℕ} (ho : off = ![0, 128 * h]) (i1 i2 : ∀ a, off a + (![512, 128] : Fin 2 → ℕ) a ≤ S512x1024.size a) {l1 l2 l3}
    {w : (⟨2, ![512, 128]⟩ : Shape).Idx → F .bf16} (hw : w = headV m c r0 h)
    {α : Type _} {Q : α → sProp 𝕄} {kk : PUnit → Prog (TpuEff nD τ sig (Elt F) Λ₀ .tc) α} :
    ctxS m c r0 h ⊢ iprop((ctxS m c r0 (h + 1) -∗ WP c (kk ⟨⟩) Q)
      -∗ WP c (.op (ldE (Memref.whole cc0_scratch3 : Memref sig .tc .vmem S512x1024 .bf16) (Rect.unit (s := S512x1024) off ![512, 128] i1).toLoadRect l1) fun _ =>
        .op (stE (Memref.whole cc0_scratch3 : Memref sig .tc .vmem S512x1024 .bf16) (Rect.unit (s := S512x1024) off ![512, 128] i2) w l2 l3) kk) Q) := by
  iintro H Hk
  unfold ctxS
  icases H with ⟨%f, %hf, H⟩
  iapply (wp_ld c (Memref.whole cc0_scratch3)) $$ H; iintro H
  iapply (wp_st c (Memref.whole cc0_scratch3)) $$ H; iintro H
  iapply Hk
  iexists _
  isplitr
  swap; · iexact H
  ipureintro; exact hf.step m ho i2 w hw

/-- One head: its three loads and its store. -/
theorem wp_head (c : Dev nD) (r0 h : ℕ) {o1 o2 : Fin 2 → ℕ} (h1 : o1 = ![r0, 128 * h]) (h2 : o2 = ![0, 128 * h])
    (i1 : ∀ a, o1 a + (![512, 128] : Fin 2 → ℕ) a ≤ S1024x1024.size a) (i2 i3 : ∀ a, o2 a + (![1024, 128] : Fin 2 → ℕ) a ≤ S1024x1024.size a)
    (i4 i5 : ∀ a, o2 a + (![512, 128] : Fin 2 → ℕ) a ≤ S512x1024.size a) {l1 l2 l3 l4 l5 l6}
    {p : FVec F ⟨2, ![512, 128]⟩ .bf16 → FVec F ⟨2, ![1024, 128]⟩ .bf16 → FVec F ⟨2, ![1024, 128]⟩ .bf16 → FVec F ⟨2, ![512, 128]⟩ .bf16} (hp : ∀ a b d, p a b d = k0_pay9 a b d)
    {α : Type _} {Q : α → sProp 𝕄} {kk : PUnit → Prog (TpuEff nD τ sig (Elt F) Λ₀ .tc) α} :
    iprop(qkv m c ∗ ctxS m c r0 h) ⊢ iprop(((qkv m c ∗ ctxS m c r0 (h + 1)) -∗ WP c (kk ⟨⟩) Q)
      -∗ WP c (.op (ldE (Memref.whole cc0_scratch0 : Memref sig .tc .vmem S1024x1024 .bf16) (Rect.unit (s := S1024x1024) o1 ![512, 128] i1).toLoadRect l1) fun a =>
        .op (ldE (Memref.whole cc0_scratch1 : Memref sig .tc .vmem S1024x1024 .bf16) (Rect.unit (s := S1024x1024) o2 ![1024, 128] i2).toLoadRect l2) fun b =>
        .op (ldE (Memref.whole cc0_scratch2 : Memref sig .tc .vmem S1024x1024 .bf16) (Rect.unit (s := S1024x1024) o2 ![1024, 128] i3).toLoadRect l3) fun d =>
        .op (ldE (Memref.whole cc0_scratch3 : Memref sig .tc .vmem S512x1024 .bf16) (Rect.unit (s := S512x1024) o2 ![512, 128] i4).toLoadRect l4) fun _ =>
        .op (stE (Memref.whole cc0_scratch3 : Memref sig .tc .vmem S512x1024 .bf16) (Rect.unit (s := S512x1024) o2 ![512, 128] i5) (p a b d) l5 l6) kk) Q) := by
  iintro ⟨Hq, Hc⟩ Hk
  iapply (wp_qkv m c r0 h h1 h2) $$ Hq; iintro Hq
  iapply (wp_ctx m c r0 h h2 i4 i5 (hp _ _ _)) $$ Hc; iintro Hc
  iapply Hk
  isplitl [Hq]; · iexact Hq
  iexact Hc

theorem part7 (c : Dev nD) (w1 : BitVec 32) {Q} :
   iprop(qkv m c ∗ ctxS m c (sd 0 0 c) 0) ⊢ iprop(((qkv m c ∗ ctxS m c (sd 0 0 c) 2) -∗ Q ⟨⟩) -∗ WP c (onArgs k0_part7 c w1) Q) := by
  rw [k0_part7_eq_skeleton]; unfold k0_part7_skel onArgs
  simp only [Prog.lift, Prog.bind_op, Prog.bind_ret, Prog.pure_eq_ret]
  iintro H Hk
  iapply (wp_head m c (sd 0 0 c) 0 (off1_eq c) rfl _ _ _ _ _ (fun _ _ _ => rfl)) $$ H; iintro H
  iapply (wp_head m c (sd 0 0 c) 1 (off2_eq c) rfl _ _ _ _ _ (fun _ _ _ => rfl)) $$ H; iintro H
  iapply wp_done
  iapply Hk; iexact H

theorem part8 (c : Dev nD) (w1 : BitVec 32) {Q} :
   iprop(qkv m c ∗ ctxS m c (sd 0 0 c) 2) ⊢ iprop(((qkv m c ∗ ctxS m c (sd 0 0 c) 4) -∗ Q ⟨⟩) -∗ WP c (onArgs k0_part8 c w1) Q) := by
  rw [k0_part8_eq_skeleton]; unfold k0_part8_skel onArgs
  simp only [Prog.lift, Prog.bind_op, Prog.bind_ret, Prog.pure_eq_ret]
  iintro H Hk
  iapply (wp_head m c (sd 0 0 c) 2 (off3_eq c) rfl _ _ _ _ _ (fun _ _ _ => rfl)) $$ H; iintro H
  iapply (wp_head m c (sd 0 0 c) 3 (off4_eq c) rfl _ _ _ _ _ (fun _ _ _ => rfl)) $$ H; iintro H
  iapply wp_done
  iapply Hk; iexact H

theorem part9 (c : Dev nD) (w1 : BitVec 32) {Q} :
   iprop(qkv m c ∗ ctxS m c (sd 0 0 c) 4) ⊢ iprop(((qkv m c ∗ ctxS m c (sd 0 0 c) 6) -∗ Q ⟨⟩) -∗ WP c (onArgs k0_part9 c w1) Q) := by
  rw [k0_part9_eq_skeleton]; unfold k0_part9_skel onArgs
  simp only [Prog.lift, Prog.bind_op, Prog.bind_ret, Prog.pure_eq_ret]
  iintro H Hk
  iapply (wp_head m c (sd 0 0 c) 4 (off5_eq c) rfl _ _ _ _ _ (fun _ _ _ => rfl)) $$ H; iintro H
  iapply (wp_head m c (sd 0 0 c) 5 (off6_eq c) rfl _ _ _ _ _ (fun _ _ _ => rfl)) $$ H; iintro H
  iapply wp_done
  iapply Hk; iexact H

theorem part10 (c : Dev nD) (w1 : BitVec 32) {Q} :
   iprop(qkv m c ∗ ctxS m c (sd 0 0 c) 6) ⊢ iprop(((qkv m c ∗ ctxS m c (sd 0 0 c) 8) -∗ Q ⟨⟩) -∗ WP c (onArgs k0_part10 c w1) Q) := by
  rw [k0_part10_eq_skeleton]; unfold k0_part10_skel onArgs
  simp only [Prog.lift, Prog.bind_op, Prog.bind_ret, Prog.pure_eq_ret]
  iintro H Hk
  iapply (wp_head m c (sd 0 0 c) 6 (off7_eq c) rfl _ _ _ _ _ (fun _ _ _ => rfl)) $$ H; iintro H
  iapply (wp_head m c (sd 0 0 c) 7 (off8_eq c) rfl _ _ _ _ _ (fun _ _ _ => rfl)) $$ H; iintro H
  iapply wp_done
  iapply Hk; iexact H

/-! ## The part array -/

theorem sd0_blk (c : Dev nD) : 512 * (sd 0 0 c / 512) = sd 0 0 c ∧ sd 0 0 c ≤ 512 := by revert c; decide
theorem kp1_blk (c : Dev nD) : 512 * (kp 0 1 c / 512) = kp 0 1 c ∧ kp 0 1 c ≤ 512 := by revert c; decide
theorem sd_kp (c : Dev nD) : sd 0 0 c + 512 ≤ kp 0 1 c ∨ kp 0 1 c + 512 ≤ sd 0 0 c := by revert c; decide

/-- The product's rows as stored. -/
theorem On.part {t : Fin 2} {c : Dev nD} {f : (cc0_scratch4 : Ref sig .tc).ty.Contents (Elt F)} {r0 : ℕ} (hr : 512 * (r0 / 512) = r0 ∧ r0 ≤ 512)
    {off : Fin 2 → ℕ} (ho : off = ![r0, 0]) (inb : ∀ a, off a + (![512, 1024] : Fin 2 → ℕ) a ≤ S1024x1024.size a)
    (w : (⟨2, ![512, 1024]⟩ : Shape).Idx → F .f32) (hw : w = k0_pay17 (ctxV m c r0) (woV m c)) :
    On (((Memref.whole cc0_scratch4 : Memref sig .tc .vmem S1024x1024 .f32).access (Rect.unit (s := S1024x1024) off ![512, 1024] inb)).write (Elt F) f w Finset.univ) (T m t 0 c) t r0 512 := by
  subst ho hw
  intro i a b _
  have l1 : (i 1).val < 1024 := (i 1).isLt
  have hm : ∀ x : Fin 2, (![r0, 0] : Fin 2 → ℕ) x ≤ (i x).val ∧ (i x).val < (![r0, 0] : Fin 2 → ℕ) x + (![512, 1024] : Fin 2 → ℕ) x := by
    intro x
    match x with
    | ⟨0, _⟩ => exact ⟨a, b⟩
    | ⟨1, _⟩ => exact ⟨Nat.zero_le _, by show (i 1).val < 0 + 1024; omega⟩
  rw [write_unit_in cc0_scratch4 f _ i hm]
  show _ = Pv m c (i 0).val (i 1).val
  unfold Pv
  have hr' := hr.1
  have hr2 := hr.2
  rw [show 512 * ((i 0).val / 512) = r0 by omega]
  congr 1
  refine idx_ext2 ?_ ?_
  · show (i 0).val - r0 = (i 0).val % 512 % 512
    omega
  · show (i 1).val - 0 = (i 1).val % 1024
    omega

theorem rd_ctx {f} : (Memref.whole cc0_scratch3 : Memref sig .tc .vmem S512x1024 .bf16).view.readAt (Elt F) (Rect.unit (s := S512x1024) ![0, 0] S512x1024.size inb_S512x1024_S512x1024_0_0).toLoadRect f = f := readAt_zero cc0_scratch3 (by decide) f

/-- What device `c` sends at step `s` of tree `t`, as a buffer's contents. -/
def svB (n : ℕ) (t : Fin 2) (s : ℕ) (c : Dev nD) : FVec F ⟨2, ![n, 512]⟩ .bf16 := fun i => sv m t s c (i 0).val (i 1).val

end Cert.AR

end
-- ==== Proof.Parts3.lean ====
/-
# The product with the output weights, and the first exchanges

The pieces of the body that store the device's part of the output and send the first halves of its rows.
-/
module

public import Idealize.ShloMosaic.Lib.Pipeline.Value
public import proofs.«01_k».proof.Proof.Parts2

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- One head before its last rounding. -/
abbrev on3 (p : FVec F S512x128 .bf16 → FVec F S1024x128 .bf16 → FVec F S1024x128 .bf16 → FVec F S512x128 .f32) (c : Dev nD) (r0 h : ℕ) : FVec F S512x128 .f32 :=
  p (sub 512 128 (Qv m c) r0 (128 * h)) (sub 1024 128 (Kv m c) 0 (128 * h)) (sub 1024 128 (Vv m c) 0 (128 * h))

theorem any_intro (b : Ref sig .tc) (c : Dev nD) (f : Buf (Elt F) ((c : Thread nD τ).loc b)) : pts b c f ⊢ anyB (F := F) b c := by
  unfold anyB; iintro H; iexists f; iexact H

/-- Sending a whole buffer into a whole buffer. -/
theorem wp_xferB {k : Fin 30} (hk : k ∈ live) (c : Dev nD) {j : ℕ} (hj : j ≤ 2 * wr k) {s : Shape} {e : EltTy} (src dst : Memref sig .tc .vmem s e) (n : Dev nD) (hn : n = pt k c)
    {sS sR : SemLoc sig} (hS : sS = .dma (sSem k)) (hR : sR = .dma (rSem k))
    {hsc} {hsrc : src.view.WordExact} {hdst : dst.view.WordExact} {hsem : DmaTarget.Typed .vmem sR (.remote (Dev.tc n : Thread nD τ) dst sS hsc)}
    {α : Type} {Q : α → sProp 𝕄} {kk : PUnit → Prog (TpuEff nD τ sig (Elt F) Λ₀ .tc) α}
    (hN : dst.view.dmaCredit = N k) (fs : Buf (Elt F) (src.view.loc (c : Thread nD τ))) (hs : src.view.set = Finset.univ) (hd : dst.view.set = Finset.univ)
    (hP : (src.view.loc (c : Thread nD τ) ↦{fullShare} fs) ⊢ sPay m k c)
    (hL : land (F := F) k (pt k c) ⊢ iprop(∃ fd : Buf (Elt F) (dst.view.loc (pt k c : Thread nD τ)), dst.view.loc (pt k c : Thread nD τ) ↦{fullShare} fd))
    (hV : ∀ fd : Buf (Elt F) (dst.view.loc (pt k c : Thread nD τ)),
      (dst.view.loc (pt k c : Thread nD τ) ↦{fullShare} (dst.view.write (Elt F) fd (src.view.read (Elt F) fs) Finset.univ)) ⊢ rPay m k (pt k c)) :
    iprop(Env m K ∗ St m c k.val j ∗ (src.view.loc (c : Thread nD τ) ↦{fullShare} fs))
      ⊢ iprop((St m c (k.val + 1) j -∗ WP c (kk ⟨⟩) Q) -∗ WP c (.op (.enqueueDma src (.remote (Dev.tc n : Thread nD τ) dst sS hsc) sR hsrc hdst hsem) kk) Q) := by
  have h := wp_xfer m K hk c hj (src := src) n hn (dst := dst) hS hR (hsc := hsc) (hsrc := hsrc) (hdst := hdst) (hsem := hsem) (Q := Q) (kk := kk) hN fullShare fs
    (by rw [hs]; exact hP) (by rw [hd]; exact hL) (fun fd => by rw [hd]; exact hV fd)
  rw [hs] at h
  exact h

/-- What is stored into a buffer about to be sent. -/
theorem On.fill {t : Fin 2} {s : ℕ} {c : Dev nD} {f : (cc0_scratch4 : Ref sig .tc).ty.Contents (Elt F)} {n : ℕ} (h : On f (T m t s c) t (sd t s c) n)
    {off : Fin 2 → ℕ} (ho : off = ![sd t s c, 512 * t.val]) (inb : ∀ a, off a + (![n, 512] : Fin 2 → ℕ) a ≤ S1024x1024.size a)
    (p : FVec F ⟨2, ![n, 512]⟩ .f32 → FVec F ⟨2, ![n, 512]⟩ .bf16) (hp : ∀ v, p v = fun i => tru (v i)) :
    p ((Memref.whole cc0_scratch4 : Memref sig .tc .vmem S1024x1024 .f32).view.readAt (Elt F) (Rect.unit (s := S1024x1024) off ![n, 512] inb).toLoadRect f) = svB m n t s c :=
  h.sent m ho inb _ (hp _)

/-- The rows a device holds after step `s`, as read from a rectangle. -/
def TB (n : ℕ) (t : Fin 2) (s : ℕ) (c : Dev nD) (r : ℕ) : FVec F ⟨2, ![n, 512]⟩ .f32 := fun i => T m t s c (r + (i 0).val) (512 * t.val + (i 1).val)

/-- One accumulation: what is held of step `s` on a rectangle, plus what came in, is what is held of step `s + 1`. -/
theorem On.add {t : Fin 2} {s : ℕ} {c : Dev nD} {f : (cc0_scratch4 : Ref sig .tc).ty.Contents (Elt F)} {r n N : ℕ} (h : On f (T m t s c) t r n)
    (hs : sd t s (pr t s c) = kp t (s + 1) c) (hr : kp t (s + 1) c ≤ r)
    {off off' : Fin 2 → ℕ} (ho : off = ![r, 512 * t.val]) (inb : ∀ a, off a + (![n, 512] : Fin 2 → ℕ) a ≤ S1024x1024.size a)
    (ho' : off' = ![r - kp t (s + 1) c, 0]) (inb' : ∀ a, off' a + (![n, 512] : Fin 2 → ℕ) a ≤ (![N, 512] : Fin 2 → ℕ) a)
    (p : FVec F ⟨2, ![n, 512]⟩ .f32 → FVec F ⟨2, ![n, 512]⟩ .bf16 → FVec F ⟨2, ![n, 512]⟩ .f32) (hp : ∀ v g, p v g = fun i => FloatOps.addf (v i) (ext (g i))) :
    p ((Memref.whole cc0_scratch4 : Memref sig .tc .vmem S1024x1024 .f32).view.readAt (Elt F) (Rect.unit (s := S1024x1024) off ![n, 512] inb).toLoadRect f)
      (fun i => svB m N t s (pr t s c) ((Rect.unit (s := ⟨2, ![N, 512]⟩) off' ![n, 512] inb').toLoadRect.idx i)) = TB m n t (s + 1) c r := by
  rw [hp]
  funext i
  have h0 : r + n ≤ 1024 := by have := inb 0; rw [ho] at this; exact this
  have l0 : (i 0).val < n := (i 0).isLt
  have l1 : (i 1).val < 512 := (i 1).isLt
  show FloatOps.addf (f ((Rect.unit (s := S1024x1024) off ![n, 512] inb).toLoadRect.idx i)) _ = _
  rw [idx_unit ho, h.ix (by omega) (by omega) (by omega) l1]
  unfold TB
  rw [T_succ]
  congr 2
  subst ho'
  show sv m t s (pr t s c) ((r - kp t (s + 1) c) + 1 * (i 0).val) (0 + 1 * (i 1).val) = _
  unfold sv
  rw [hs, show kp t (s + 1) c + (r - kp t (s + 1) c + 1 * (i 0).val) = r + (i 0).val by omega, show 512 * t.val + (0 + 1 * (i 1).val) = 512 * t.val + (i 1).val by omega]

/-- Those rows stored. -/
theorem On.set {t : Fin 2} {s : ℕ} {c : Dev nD} {f : (cc0_scratch4 : Ref sig .tc).ty.Contents (Elt F)} {r n : ℕ}
    {off : Fin 2 → ℕ} (ho : off = ![r, 512 * t.val]) (inb : ∀ a, off a + (![n, 512] : Fin 2 → ℕ) a ≤ S1024x1024.size a)
    (w : (⟨2, ![n, 512]⟩ : Shape).Idx → F .f32) (hw : w = TB m n t s c r) :
    On (((Memref.whole cc0_scratch4 : Memref sig .tc .vmem S1024x1024 .f32).access (Rect.unit (s := S1024x1024) off ![n, 512] inb)).write (Elt F) f w Finset.univ) (T m t s c) t r n := by
  subst hw
  intro i a b e
  have hlt := (i 1).isLt
  have hm : ∀ x : Fin 2, off x ≤ (i x).val ∧ (i x).val < off x + (![n, 512] : Fin 2 → ℕ) x := by
    subst ho
    intro x
    match x with
    | ⟨0, _⟩ => exact ⟨a, b⟩
    | ⟨1, _⟩ => exact ⟨by show 512 * t.val ≤ (i 1).val; omega, by show (i 1).val < 512 * t.val + 512; omega⟩
  rw [write_unit_in cc0_scratch4 f _ i hm]
  have e0 : off 0 = r := by rw [ho]; rfl
  have e1 : off 1 = 512 * t.val := by rw [ho]; rfl
  show T m t s c (r + ((i 0).val - off 0)) (512 * t.val + ((i 1).val - off 1)) = _
  rw [e0, e1, show r + ((i 0).val - r) = (i 0).val by omega, show 512 * t.val + ((i 1).val - 512 * t.val) = (i 1).val by omega]

/-- The rows of `f'` are those of step `s` of tree `t` on the rectangle, and those of `f` elsewhere. -/
def Upd (t : Fin 2) (s : ℕ) (c : Dev nD) (r n : ℕ) (f f' : (cc0_scratch4 : Ref sig .tc).ty.Contents (Elt F)) : Prop :=
  On f' (T m t s c) t r n ∧ ∀ (t' : Fin 2) (g : ℕ → ℕ → F .f32) (r' n' : ℕ), On f g t' r' n' → (r' + n' ≤ r ∨ r + n ≤ r' ∨ t' ≠ t) → On f' g t' r' n'

/-- Storing rows of step `s`. -/
theorem wp_set (t : Fin 2) (s : ℕ) (c : Dev nD) (r n : ℕ) (f : (cc0_scratch4 : Ref sig .tc).ty.Contents (Elt F)) {off : Fin 2 → ℕ} (ho : off = ![r, 512 * t.val])
    (inb : ∀ a, off a + (![n, 512] : Fin 2 → ℕ) a ≤ S1024x1024.size a) {l2 l3} {w : (⟨2, ![n, 512]⟩ : Shape).Idx → F .f32} (hw : w = TB m n t s c r)
    {α : Type _} {Q : α → sProp 𝕄} {kk : PUnit → Prog (TpuEff nD τ sig (Elt F) Λ₀ .tc) α} :
    pts cc0_scratch4 c f ⊢ iprop((∀ f', ⌜Upd m t s c r n f f'⌝ -∗ pts cc0_scratch4 c f' -∗ WP c (kk ⟨⟩) Q)
      -∗ WP c (.op (stE (Memref.whole cc0_scratch4 : Memref sig .tc .vmem S1024x1024 .f32) (Rect.unit (s := S1024x1024) off ![n, 512] inb) w l2 l3) kk) Q) := by
  iintro H Hk
  iapply (wp_st c (Memref.whole cc0_scratch4)) $$ H; iintro H
  have hU : Upd m t s c r n f (((Memref.whole cc0_scratch4 : Memref sig .tc .vmem S1024x1024 .f32).access (Rect.unit (s := S1024x1024) off ![n, 512] inb)).write (Elt F) f w Finset.univ) := by
    refine ⟨On.set m ho inb w hw, fun t' g r' n' h hd => h.write_other ho inb w ?_⟩
    rcases hd with h | h | h
    · omega
    · omega
    · have : t'.val ≠ t.val := fun e => h (Fin.ext e)
      have := t.isLt; have := t'.isLt
      omega
  iapply Hk $$ %_ %hU
  iexact H

/-- One accumulation: the loads of the rows held and of what came in, and the store of their sum. -/
theorem wp_acc (t : Fin 2) (s : ℕ) (c : Dev nD) (r n N : ℕ) {f : (cc0_scratch4 : Ref sig .tc).ty.Contents (Elt F)} (h : On f (T m t s c) t r n)
    (hs : sd t s (pr t s c) = kp t (s + 1) c) (hr : kp t (s + 1) c ≤ r)
    {off off' : Fin 2 → ℕ} (ho : off = ![r, 512 * t.val]) (inb inb2 inb3 : ∀ a, off a + (![n, 512] : Fin 2 → ℕ) a ≤ S1024x1024.size a)
    (ho' : off' = ![r - kp t (s + 1) c, 0]) (inb' : ∀ a, off' a + (![n, 512] : Fin 2 → ℕ) a ≤ (![N, 512] : Fin 2 → ℕ) a)
    (mg : Memref sig .tc .vmem ⟨2, ![N, 512]⟩ .bf16) {g : Buf (Elt F) (mg.view.loc (c : Thread nD τ))} (hg : ∀ R, mg.view.readAt (Elt F) R g = fun i => svB m N t s (pr t s c) (R.idx i))
    {p : FVec F ⟨2, ![n, 512]⟩ .f32 → FVec F ⟨2, ![n, 512]⟩ .bf16 → FVec F ⟨2, ![n, 512]⟩ .f32} (hp : ∀ v g, p v g = fun i => FloatOps.addf (v i) (ext (g i))) {l0 l1 l2 l3 l4}
    {α : Type _} {Q : α → sProp 𝕄} {kk : PUnit → Prog (TpuEff nD τ sig (Elt F) Λ₀ .tc) α} :
    iprop(pts cc0_scratch4 c f ∗ mg.view.loc (c : Thread nD τ) ↦{fullShare} g) ⊢ iprop((∀ f', ⌜Upd m t (s + 1) c r n f f'⌝ -∗ (pts cc0_scratch4 c f' ∗ mg.view.loc (c : Thread nD τ) ↦{fullShare} g) -∗ WP c (kk ⟨⟩) Q)
      -∗ WP c (.op (ldE (Memref.whole cc0_scratch4 : Memref sig .tc .vmem S1024x1024 .f32) (Rect.unit (s := S1024x1024) off ![n, 512] inb).toLoadRect l0) fun v =>
         .op (ldE mg (Rect.unit (s := ⟨2, ![N, 512]⟩) off' ![n, 512] inb').toLoadRect l1) fun v' =>
         .op (ldE (Memref.whole cc0_scratch4 : Memref sig .tc .vmem S1024x1024 .f32) (Rect.unit (s := S1024x1024) off ![n, 512] inb2).toLoadRect l2) fun _ =>
         .op (stE (Memref.whole cc0_scratch4 : Memref sig .tc .vmem S1024x1024 .f32) (Rect.unit (s := S1024x1024) off ![n, 512] inb3) (p v v') l3 l4) kk) Q) := by
  iintro ⟨H, Hg⟩ Hk
  iapply (wp_ld c (Memref.whole cc0_scratch4)) $$ H; iintro H
  iapply (wp_ld c mg) $$ Hg; iintro Hg
  iapply (wp_ld c (Memref.whole cc0_scratch4)) $$ H; iintro H
  rw [hg]
  iapply (wp_set m t (s + 1) c r n f ho inb3 (h.add m hs hr ho inb ho' inb' p hp)) $$ H
  iintro %f' %hU H
  iapply Hk $$ %f' %hU
  isplitl [H]; · iexact H
  iexact Hg

theorem part11 (c : Dev nD) (w1 w2 w3 : BitVec 32) {Q} :
   iprop(Env m K ∗ St m c 0 0 ∗ qkv m c ∗ ctxS m c (sd 0 0 c) 8 ∗ pts cc0_stg4_0 c (woV m c) ∗ anyB (F := F) cc0_scratch4 c ∗ anyB (F := F) cc0_scratch5 c)
   ⊢ iprop((∀ v, ⌜k0_pay20 v = headV m c (kp 0 1 c) 0⌝ -∗ (St m c 1 0 ∗ qkv m c ∗ ctxS m c (kp 0 1 c) 0 ∗ pts cc0_stg4_0 c (woV m c)
        ∗ (∃ f : (cc0_scratch4 : Ref sig .tc).ty.Contents (Elt F), ⌜∀ t, On f (T m t 0 c) t (sd 0 0 c) 512⌝ ∗ pts cc0_scratch4 c f)) -∗ Q v)
     -∗ WP c (onArgs k0_part11 c w1 w2 w3) Q) := by
  rw [k0_part11_eq_skeleton]; unfold k0_part11_skel onArgs anyB
  simp only [Prog.lift, Prog.bind_op, Prog.bind_ret, Prog.pure_eq_ret]
  iintro ⟨#HE, HS, Hq, Hc, Ho, ⟨%f, Hp⟩, ⟨%g, Hg⟩⟩ Hk
  ihave Hc := ctxS_full m c (sd 0 0 c) $$ Hc
  iapply (wp_ld c (Memref.whole cc0_scratch3)) $$ Hc; iintro Hc
  iapply (wp_ld c (Memref.whole cc0_stg4_0)) $$ Ho; iintro Ho
  iapply (wp_ld c (Memref.whole cc0_scratch4)) $$ Hp; iintro Hp
  iapply (wp_st c (Memref.whole cc0_scratch4)) $$ Hp; iintro Hp
  rw [rd_ctx, rd_o]
  have h1 := fun t => On.part m (t := t) (c := c) (f := f) (sd0_blk c) (off9_eq c) (k0_off9_inb c) _ rfl
  iapply (wp_ld c (Memref.whole cc0_scratch4)) $$ Hp; iintro Hp
  iapply (wp_ld c (Memref.whole cc0_scratch5)) $$ Hg; iintro Hg
  iapply (wp_st c (Memref.whole cc0_scratch5)) $$ Hg; iintro Hg
  have h2 := (h1 0).fill m (off10_eq c) (k0_off10_inb c) k0_pay18 (fun _ => shapeCast_self _ _)
  have e2 := write_zero cc0_scratch5 (inb := inb_S512x512_S512x512_0_0) (by decide) g (svB m 512 0 0 c)
  iapply (wp_xferB m K (k := 0) (by decide) c (j := 0) (by decide) (Memref.whole cc0_scratch5) (Memref.whole cc0_scratch13) _ (dev5_eq c) ?hS ?hR rfl
    (svB m 512 0 0 c) (View.set_whole _) (View.set_whole _) (any_intro _ _ _) (Entails.refl _)
    (fun fd => by
      rw [View.write_whole_univ, View.read_whole]
      show _ ⊢ pts cc0_scratch13 (pt 0 c) _
      rw [pt_pt]; exact Entails.refl _)) $$ [HS Hg]
  case hS => rfl
  case hR => rfl
  · isplitr; · iexact HE
    isplitl [HS]; · iexact HS
    rw [← e2, ← h2]
    iexact Hg
  iintro HS
  iapply (wp_qkv m c (kp 0 1 c) 0 (off11_eq c) rfl) $$ Hq; iintro Hq
  iapply wp_done
  iapply Hk $$ %(on3 m k0_pay19 c (kp 0 1 c) 0) %rfl
  isplitl [HS]; · iexact HS
  isplitl [Hq]; · iexact Hq
  isplitl [Hc]
  · iapply (ctxS_any m c (kp 0 1 c)); iapply (any_intro cc0_scratch3 c); iexact Hc
  isplitl [Ho]; · iexact Ho
  iexists _
  isplitr
  swap; · iexact Hp
  ipureintro; exact h1

/-- A store of a whole buffer leaves what was stored. -/
theorem pts_fill (b : Ref sig .tc) (c : Dev nD) {off : Fin b.ty.shape.rank → ℕ} {inb} (h : ∀ a, off a = 0) (g : b.ty.Contents (Elt F)) {w w' : b.ty.shape.Idx → Elt F b.ty.elt} (hw : w = w') :
    pts b c (((Memref.whole b).access (Rect.unit off b.ty.shape.size inb)).write (Elt F) g w Finset.univ) ⊢ pts b c w' :=
  Entails.of_eq (by rw [hw, write_zero b h])

theorem part12 (c : Dev nD) (w1 : BitVec 32) (v : FVec F S512x128 .f32) (hv : k0_pay20 v = headV m c (kp 0 1 c) 0) {Q} :
   iprop(qkv m c ∗ ctxS m c (kp 0 1 c) 0) ⊢ iprop((∀ v, ⌜k0_pay23 v = headV m c (kp 0 1 c) 2⌝ -∗ (qkv m c ∗ ctxS m c (kp 0 1 c) 2) -∗ Q v) -∗ WP c (onArgs k0_part12 c w1 v) Q) := by
  rw [k0_part12_eq_skeleton]; unfold k0_part12_skel onArgs
  simp only [Prog.lift, Prog.bind_op, Prog.bind_ret, Prog.pure_eq_ret]
  iintro ⟨Hq, Hc⟩ Hk
  iapply (wp_ctx m c (kp 0 1 c) 0 rfl _ _ hv) $$ Hc; iintro Hc
  icombine Hq Hc as H
  iapply (wp_head m c (kp 0 1 c) 1 (off12_eq c) rfl _ _ _ _ _ (fun _ _ _ => rfl)) $$ H; iintro ⟨Hq, Hc⟩
  iapply (wp_qkv m c (kp 0 1 c) 2 (off13_eq c) rfl) $$ Hq; iintro Hq
  iapply wp_done
  iapply Hk $$ %(on3 m k0_pay22 c (kp 0 1 c) 2) %rfl
  isplitl [Hq]; · iexact Hq
  iexact Hc

theorem part13 (c : Dev nD) (w1 : BitVec 32) (v : FVec F S512x128 .f32) (hv : k0_pay23 v = headV m c (kp 0 1 c) 2) {Q} :
   iprop(qkv m c ∗ ctxS m c (kp 0 1 c) 2) ⊢ iprop((∀ v, ⌜k0_pay26 v = headV m c (kp 0 1 c) 4⌝ -∗ (qkv m c ∗ ctxS m c (kp 0 1 c) 4) -∗ Q v) -∗ WP c (onArgs k0_part13 c w1 v) Q) := by
  rw [k0_part13_eq_skeleton]; unfold k0_part13_skel onArgs
  simp only [Prog.lift, Prog.bind_op, Prog.bind_ret, Prog.pure_eq_ret]
  iintro ⟨Hq, Hc⟩ Hk
  iapply (wp_ctx m c (kp 0 1 c) 2 rfl _ _ hv) $$ Hc; iintro Hc
  icombine Hq Hc as H
  iapply (wp_head m c (kp 0 1 c) 3 (off14_eq c) rfl _ _ _ _ _ (fun _ _ _ => rfl)) $$ H; iintro ⟨Hq, Hc⟩
  iapply (wp_qkv m c (kp 0 1 c) 4 (off15_eq c) rfl) $$ Hq; iintro Hq
  iapply wp_done
  iapply Hk $$ %(on3 m k0_pay25 c (kp 0 1 c) 4) %rfl
  isplitl [Hq]; · iexact Hq
  iexact Hc

theorem part14 (c : Dev nD) (w1 : BitVec 32) (v : FVec F S512x128 .f32) (hv : k0_pay26 v = headV m c (kp 0 1 c) 4) {Q} :
   iprop(qkv m c ∗ ctxS m c (kp 0 1 c) 4) ⊢ iprop((∀ v, ⌜k0_pay29 v = headV m c (kp 0 1 c) 6⌝ -∗ (qkv m c ∗ ctxS m c (kp 0 1 c) 6) -∗ Q v) -∗ WP c (onArgs k0_part14 c w1 v) Q) := by
  rw [k0_part14_eq_skeleton]; unfold k0_part14_skel onArgs
  simp only [Prog.lift, Prog.bind_op, Prog.bind_ret, Prog.pure_eq_ret]
  iintro ⟨Hq, Hc⟩ Hk
  iapply (wp_ctx m c (kp 0 1 c) 4 rfl _ _ hv) $$ Hc; iintro Hc
  icombine Hq Hc as H
  iapply (wp_head m c (kp 0 1 c) 5 (off16_eq c) rfl _ _ _ _ _ (fun _ _ _ => rfl)) $$ H; iintro ⟨Hq, Hc⟩
  iapply (wp_qkv m c (kp 0 1 c) 6 (off17_eq c) rfl) $$ Hq; iintro Hq
  iapply wp_done
  iapply Hk $$ %(on3 m k0_pay28 c (kp 0 1 c) 6) %rfl
  isplitl [Hq]; · iexact Hq
  iexact Hc

theorem halves (c : Dev nD) : (sd 0 0 c = 0 ∧ kp 0 1 c = 512) ∨ (sd 0 0 c = 512 ∧ kp 0 1 c = 0) := by revert c; decide
theorem rows0 {t : Fin 2} {g : ℕ → ℕ → F .f32} {f : (cc0_scratch4 : Ref sig .tc).ty.Contents (Elt F)} {c : Dev nD} (h : On f g t (sd 0 0 c) 512) (h' : On f g t (kp 0 1 c) 512) : On f g t 0 1024 := by
  intro i a b e
  have hc := halves c
  by_cases hi : sd 0 0 c ≤ (i 0).val ∧ (i 0).val < sd 0 0 c + 512
  · exact h i hi.1 hi.2 e
  · exact h' i (by omega) (by omega) e

theorem part15 (c : Dev nD) (w1 w2 : BitVec 32) (v : FVec F S512x128 .f32) (hv : k0_pay29 v = headV m c (kp 0 1 c) 6) {Q} :
   iprop(qkv m c ∗ ctxS m c (kp 0 1 c) 6 ∗ pts cc0_stg4_0 c (woV m c) ∗ (∃ f : (cc0_scratch4 : Ref sig .tc).ty.Contents (Elt F), ⌜∀ t, On f (T m t 0 c) t (sd 0 0 c) 512⌝ ∗ pts cc0_scratch4 c f) ∗ anyB (F := F) cc0_scratch9 c)
   ⊢ iprop((∀ v v', ⌜k0_pay33 v = svB m 512 1 0 c⌝ -∗ (qkv m c ∗ anyB (F := F) cc0_scratch3 c ∗ pts cc0_stg4_0 c (woV m c) ∗ (∃ f : (cc0_scratch4 : Ref sig .tc).ty.Contents (Elt F), ⌜∀ t, On f (T m t 0 c) t 0 1024⌝ ∗ pts cc0_scratch4 c f) ∗ anyB (F := F) cc0_scratch9 c) -∗ Q ⟨v, v'⟩)
     -∗ WP c (onArgs k0_part15 c w1 w2 v) Q) := by
  rw [k0_part15_eq_skeleton]; unfold k0_part15_skel onArgs
  simp only [Prog.lift, Prog.bind_op, Prog.bind_ret, Prog.pure_eq_ret]
  iintro ⟨Hq, Hc, Ho, ⟨%f, %hf, Hp⟩, Hg⟩ Hk
  iapply (wp_ctx m c (kp 0 1 c) 6 rfl _ _ hv) $$ Hc; iintro Hc
  icombine Hq Hc as H
  iapply (wp_head m c (kp 0 1 c) 7 (off18_eq c) rfl _ _ _ _ _ (fun _ _ _ => rfl)) $$ H; iintro ⟨Hq, Hc⟩
  ihave Hc := ctxS_full m c (kp 0 1 c) $$ Hc
  unfold anyB
  icases Hg with ⟨%g, Hg⟩
  iapply (wp_ld c (Memref.whole cc0_scratch3)) $$ Hc; iintro Hc
  iapply (wp_ld c (Memref.whole cc0_stg4_0)) $$ Ho; iintro Ho
  iapply (wp_ld c (Memref.whole cc0_scratch4)) $$ Hp; iintro Hp
  iapply (wp_st c (Memref.whole cc0_scratch4)) $$ Hp; iintro Hp
  rw [rd_ctx, rd_o]
  have h1 : ∀ t, On _ (T m t 0 c) t 0 1024 := fun t => rows0 ((hf t).write_other (off19_eq c) (k0_off19_inb c) (k0_pay31 (ctxV m c (kp 0 1 c)) (woV m c)) (by have := sd_kp c; omega)) (On.part m (t := t) (c := c) (f := f) (kp1_blk c) (off19_eq c) (k0_off19_inb c) (k0_pay31 (ctxV m c (kp 0 1 c)) (woV m c)) rfl)
  iapply (wp_ld c (Memref.whole cc0_scratch4)) $$ Hp; iintro Hp
  iapply (wp_ld c (Memref.whole cc0_scratch9)) $$ Hg; iintro Hg
  have h2 := ((h1 1).mono (r1 := sd 1 0 c) (n' := 512) (by omega) (by have : sd 1 0 c + 512 ≤ 1024 := sd_le 1 0 c; omega)).fill m (off20_eq c) (k0_off20_inb c) (fun v => k0_pay33 (k0_pay32 v)) (fun _ => shapeCast_self _ _)
  iapply wp_done
  iapply Hk $$ %_ %_ %h2
  isplitl [Hq]; · iexact Hq
  isplitl [Hc]; · iexists _; iexact Hc
  isplitl [Ho]; · iexact Ho
  isplitl [Hp]
  · iexists _
    isplitr
    swap; · iexact Hp
    ipureintro; exact h1
  iexists _; iexact Hg

end Cert.AR

end
-- ==== Proof.Parts4.lean ====
/-
# The reduction

The pieces of the body that exchange halves of the rows with a neighbour and add what comes in, four times over for
each of the two column halves.
-/
module

public import Idealize.ShloMosaic.Lib.Pipeline.Value
public import proofs.«01_k».proof.Proof.Parts3

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

theorem sd_pr (t : Fin 2) (s : Fin 4) (c : Dev nD) : sd t s (pr t s c) = kp t (s + 1) c := by rw [sd_eq, pr_pr]
theorem kp_sd (t : Fin 2) (s : ℕ) (c : Dev nD) : kp t s c ≤ sd t s c := Nat.le_add_right _ _
theorem kp_kp (t : Fin 2) (s : ℕ) (c : Dev nD) : kp t s c ≤ kp t (s + 1) c := Nat.le_add_right _ _
/-- The rows kept at step `s` are those sent at the next step and those kept then. -/
theorem rows_sd (t : Fin 2) (s : Fin 4) (c : Dev nD) : sd t s c + sz s ≤ kp t s c + 2 * sz s := by have := kp_split t s c; omega
theorem rows_kp (t : Fin 2) (s : Fin 4) (c : Dev nD) : kp t (s + 1) c + sz s ≤ kp t s c + 2 * sz s := by have := kp_split t s c; omega
theorem rows_ne (t : Fin 2) (s : Fin 4) (c : Dev nD) : kp t (s + 1) c + sz s ≤ sd t s c ∨ sd t s c + sz s ≤ kp t (s + 1) c := by have := kp_split t s c; omega

section
variable {t : Fin 2} {g : ℕ → ℕ → F .f32} {f : (cc0_scratch4 : Ref sig .tc).ty.Contents (Elt F)} {c : Dev nD}
theorem On.toSd (s : Fin 4) {n n' : ℕ} (h : On f g t (kp t s c) n) (hn : n = 2 * sz s) (hn' : n' = sz s) : On f g t (sd t s c) n' :=
  h.mono (kp_sd t s c) (by have := rows_sd t s c; omega)
theorem On.toKp (s : Fin 4) {n n' : ℕ} (h : On f g t (kp t s c) n) (hn : n = 2 * sz s) (hn' : n' = sz s) : On f g t (kp t (s + 1) c) n' :=
  h.mono (kp_kp t s c) (by have := rows_kp t s c; omega)
end
/-- After an update of the rows sent, the rows kept are as before. -/
theorem Upd.kept {t : Fin 2} {s' : ℕ} {c : Dev nD} {n : ℕ} {f f' : (cc0_scratch4 : Ref sig .tc).ty.Contents (Elt F)} {s : Fin 4} (h : Upd m t s' c (sd t s c) n f f') (hn : n = sz s)
    {g : ℕ → ℕ → F .f32} (h' : On f g t (kp t (s + 1) c) n) : On f' g t (kp t (s + 1) c) n :=
  h.2 t g _ _ h' (by have := rows_ne t s c; omega)
theorem Upd.other {t t' : Fin 2} (ht : t' ≠ t) {s' : ℕ} {c : Dev nD} {r n r' n' : ℕ} {f f' : (cc0_scratch4 : Ref sig .tc).ty.Contents (Elt F)} (h : Upd m t s' c r n f f')
    {g : ℕ → ℕ → F .f32} (h' : On f g t' r' n') : On f' g t' r' n' :=
  h.2 t' g _ _ h' (Or.inr (Or.inr ht))

/-- The part array, with what is known of its two column halves. -/
def partS (c : Dev nD) (A : (cc0_scratch4 : Ref sig .tc).ty.Contents (Elt F) → Prop) : sProp 𝕄 := iprop(∃ f : (cc0_scratch4 : Ref sig .tc).ty.Contents (Elt F), ⌜A f⌝ ∗ pts cc0_scratch4 c f)

theorem On.addG {t : Fin 2} {s : ℕ} {c : Dev nD} {f : (cc0_scratch4 : Ref sig .tc).ty.Contents (Elt F)} {r N : ℕ} (n : ℕ) (h : On f (T m t s c) t r n)
    (hs : sd t s (pr t s c) = kp t (s + 1) c) (hr : kp t (s + 1) c ≤ r)
    {off off' : Fin 2 → ℕ} (ho : off = ![r, 512 * t.val]) (inb : ∀ a, off a + (![n, 512] : Fin 2 → ℕ) a ≤ S1024x1024.size a)
    (ho' : off' = ![r - kp t (s + 1) c, 0]) (inb' : ∀ a, off' a + (![n, 512] : Fin 2 → ℕ) a ≤ (![N, 512] : Fin 2 → ℕ) a)
    (mg : Memref sig .tc .vmem ⟨2, ![N, 512]⟩ .bf16) {g : Buf (Elt F) (mg.view.loc (c : Thread nD τ))} (hg : ∀ R, mg.view.readAt (Elt F) R g = fun i => svB m N t s (pr t s c) (R.idx i))
    (p : FVec F ⟨2, ![n, 512]⟩ .f32 → FVec F ⟨2, ![n, 512]⟩ .bf16 → FVec F ⟨2, ![n, 512]⟩ .f32) (hp : ∀ v g, p v g = fun i => FloatOps.addf (v i) (ext (g i))) :
    p ((Memref.whole cc0_scratch4 : Memref sig .tc .vmem S1024x1024 .f32).view.readAt (Elt F) (Rect.unit (s := S1024x1024) off ![n, 512] inb).toLoadRect f)
      (mg.view.readAt (Elt F) (Rect.unit (s := ⟨2, ![N, 512]⟩) off' ![n, 512] inb').toLoadRect g) = TB m n t (s + 1) c r := by
  rw [hg]; exact h.add m hs hr ho inb ho' inb' p hp

theorem part16 (c : Dev nD) (w1 w2 w3 w4 : BitVec 32) (v v' : FVec F S512x512 .bf16) (hv : k0_pay33 v = svB m 512 1 0 c) {Q} :
   iprop(Env m K ∗ St m c 1 0 ∗ partS c (fun f => ∀ t, On f (T m t 0 c) t 0 1024) ∗ anyB (F := F) cc0_scratch9 c ∗ anyB (F := F) cc0_scratch6 c)
   ⊢ iprop(((St m c 2 2 ∗ partS c (fun f => On f (T m 0 1 c) 0 (sd 0 1 c) 256 ∧ On f (T m 0 0 c) 0 (kp 0 2 c) 256 ∧ On f (T m 1 0 c) 1 (kp 1 1 c) 512) ∗ pts cc0_scratch13 c (svB m 512 0 0 (pr 0 0 c)) ∗ pts cc0_scratch6 c (svB m 256 0 1 c)) -∗ Q ⟨⟩) -∗ WP c (onArgs k0_part16 c w1 w2 w3 w4 v v') Q) := by
  rw [k0_part16_eq_skeleton]; unfold k0_part16_skel onArgs partS anyB
  simp only [Prog.lift, Prog.bind_op, Prog.bind_ret, Prog.pure_eq_ret]
  iintro ⟨#HE, HS, ⟨%f, %hf, Hp⟩, ⟨%g9, Hb⟩, Hb2⟩ Hk
  iapply (wp_st c (Memref.whole cc0_scratch9)) $$ Hb; iintro Hb
  ihave Hb := (pts_fill cc0_scratch9 c (inb := inb_S512x512_S512x512_0_0) (by decide) g9 hv) $$ Hb
  iapply (wp_xferB m K (k := 1) (by decide) c (j := 0) (by decide) (Memref.whole cc0_scratch9) (Memref.whole cc0_scratch17) _ (dev6_eq c) ?hS ?hR rfl
    (svB m 512 1 0 c) (View.set_whole _) (View.set_whole _) (any_intro _ _ _) (Entails.refl _)
    (fun fd => by
      rw [View.write_whole_univ, View.read_whole]
      show _ ⊢ pts cc0_scratch17 (pt 1 c) _
      rw [pt_pt]; exact Entails.refl _)) $$ [HS Hb]
  case hS => rfl
  case hR => rfl
  · isplitr; · iexact HE
    isplitl [HS]; · iexact HS
    iexact Hb
  iintro HS
  iapply (wp_waitS m K (k := 0) (by decide) c (n := 2) (j := 0) (by decide) (by decide) ?hS ?hN) $$ [HS]
  case hS => rfl
  case hN => rfl
  · isplitr; · iexact HE
    iexact HS
  iintro HS
  iapply (wp_waitR m K (k := 0) (by decide) c (n := 2) (j := 1) (by decide) (by decide) ?hS ?hN) $$ [HS]
  case hS => rfl
  case hN => rfl
  · isplitr; · iexact HE
    iexact HS
  iintro ⟨HS, Hr⟩
  ihave Hr := (show rPay m 0 c ⊢ pts cc0_scratch13 c (svB m 512 0 0 (pr 0 0 c)) from Entails.refl _) $$ Hr
  have ht := (hf 0).mono (r1 := kp 0 1 c) (n' := 512) (by omega) (by have : kp 0 1 c + 512 ≤ 1024 := kp_le 0 1 c; omega)
  have ht1 := (hf 1).mono (r1 := kp 1 1 c) (n' := 512) (by omega) (by have : kp 1 1 c + 512 ≤ 1024 := kp_le 1 1 c; omega)
  icombine Hp Hr as H
  iapply (wp_acc m 0 0 c (sd 0 1 c) 256 512 (ht.toSd 1 rfl rfl) (sd_pr 0 0 c) (kp_sd 0 1 c) (off21_eq c) _ _ _ (off22_eq c) _ (Memref.whole cc0_scratch13) (fun _ => rfl) (fun _ _ => shapeCast_self _ _)) $$ H
  iintro %f1 %hU1 ⟨Hp, Hr⟩
  irename Hb2 => Hb
  icases Hb with ⟨%g, Hb⟩
  iapply (wp_ld c (Memref.whole cc0_scratch4)) $$ Hp; iintro Hp
  iapply (wp_ld c (Memref.whole cc0_scratch6)) $$ Hb; iintro Hb
  iapply (wp_st c (Memref.whole cc0_scratch6)) $$ Hb; iintro Hb
  ihave Hb := (pts_fill cc0_scratch6 c (inb := inb_S256x512_S256x512_0_0) (by decide) g ((hU1.1).fill m (off21_eq c) (k0_off21_inb c) k0_pay35 (fun _ => shapeCast_self _ _))) $$ Hb
  iapply wp_done
  iapply Hk
  isplitl [HS]; · iexact HS
  isplitl [Hp]
  · iexists _
    isplitr
    swap; · iexact Hp
    ipureintro; exact ⟨hU1.1, Upd.kept (s := 1) m hU1 rfl (ht.toKp 1 rfl rfl), hU1.other m (by decide) ht1⟩
  isplitl [Hr]; · iexact Hr
  iexact Hb

theorem part17 (c : Dev nD) (w1 w2 w3 w4 w5 w6 : BitVec 32) {Q} :
   iprop(Env m K ∗ St m c 2 2 ∗ partS c (fun f => On f (T m 0 1 c) 0 (sd 0 1 c) 256 ∧ On f (T m 0 0 c) 0 (kp 0 2 c) 256 ∧ On f (T m 1 0 c) 1 (kp 1 1 c) 512) ∗ pts cc0_scratch13 c (svB m 512 0 0 (pr 0 0 c)) ∗ pts cc0_scratch6 c (svB m 256 0 1 c))
   ⊢ iprop((∀ v, ⌜k0_pay38 v = TB m 256 1 1 c (sd 1 1 c)⌝ -∗ (St m c 3 4 ∗ partS c (fun f => On f (T m 0 1 c) 0 (kp 0 2 c) 256 ∧ On f (T m 1 0 c) 1 (kp 1 2 c) 256) ∗ pts cc0_scratch13 c (svB m 512 0 0 (pr 0 0 c)) ∗ pts cc0_scratch17 c (svB m 512 1 0 (pr 1 0 c))) -∗ Q v) -∗ WP c (onArgs k0_part17 c w1 w2 w3 w4 w5 w6) Q) := by
  rw [k0_part17_eq_skeleton]; unfold k0_part17_skel onArgs partS
  simp only [Prog.lift, Prog.bind_op, Prog.bind_ret, Prog.pure_eq_ret]
  iintro ⟨#HE, HS, ⟨%f, %hf, Hp⟩, Hr0, Hb⟩ Hk
  obtain ⟨hA, hB, hC⟩ := hf
  iapply (wp_xferB m K (k := 2) (by decide) c (j := 2) (by decide) (Memref.whole cc0_scratch6) (Memref.whole cc0_scratch14) _ (dev7_eq c) ?hS ?hR rfl
    (svB m 256 0 1 c) (View.set_whole _) (View.set_whole _) (any_intro _ _ _) (Entails.refl _)
    (fun fd => by
      rw [View.write_whole_univ, View.read_whole]
      show _ ⊢ pts cc0_scratch14 (pt 2 c) _
      rw [pt_pt]; exact Entails.refl _)) $$ [HS Hb]
  case hS => rfl
  case hR => rfl
  · isplitr; · iexact HE
    isplitl [HS]; · iexact HS
    iexact Hb
  iintro HS
  icombine Hp Hr0 as H
  iapply (wp_acc m 0 0 c (kp 0 2 c) 256 512 hB (sd_pr 0 0 c) (kp_kp 0 1 c) (off23_eq c) _ _ _ (off24_eq c) _ (Memref.whole cc0_scratch13) (fun _ => rfl) (fun _ _ => shapeCast_self _ _)) $$ H
  iintro %f1 %hU1 ⟨Hp, Hr0⟩
  iapply (wp_waitS m K (k := 1) (by decide) c (n := 3) (j := 2) (by decide) (by decide) ?hS ?hN) $$ [HS]
  case hS => rfl
  case hN => rfl
  · isplitr; · iexact HE
    iexact HS
  iintro HS
  iapply (wp_waitR m K (k := 1) (by decide) c (n := 3) (j := 3) (by decide) (by decide) ?hS ?hN) $$ [HS]
  case hS => rfl
  case hN => rfl
  · isplitr; · iexact HE
    iexact HS
  iintro ⟨HS, Hr⟩
  ihave Hr := (show rPay m 1 c ⊢ pts cc0_scratch17 c (svB m 512 1 0 (pr 1 0 c)) from Entails.refl _) $$ Hr
  have hC1 := hU1.other m (by decide) hC
  have hv := On.addG m 256 (hC1.toSd 1 rfl rfl) (sd_pr 1 0 c) (kp_sd 1 1 c) (off25_eq c) (k0_off25_inb c) (off26_eq c) (k0_off26_inb c) (Memref.whole cc0_scratch17) (g := svB m 512 1 0 (pr 1 0 c)) (fun _ => rfl) (fun v g => k0_pay38 (k0_pay37 v g)) (fun _ _ => shapeCast_self _ _)
  iapply (wp_ld c (Memref.whole cc0_scratch4)) $$ Hp; iintro Hp
  iapply (wp_ld c (Memref.whole cc0_scratch17)) $$ Hr; iintro Hr
  iapply (wp_ld c (Memref.whole cc0_scratch4)) $$ Hp; iintro Hp
  iapply wp_done
  iapply Hk $$ %_ %hv
  isplitl [HS]; · iexact HS
  isplitl [Hp]
  · iexists _
    isplitr
    swap; · iexact Hp
    ipureintro; exact ⟨hU1.1, hC1.toKp 1 rfl rfl⟩
  isplitl [Hr0]; · iexact Hr0
  iexact Hr

theorem part18 (c : Dev nD) (w1 w2 w3 w4 w5 w6 w7 : BitVec 32) (v : FVec F S256x512 .f32) (hv : k0_pay38 v = TB m 256 1 1 c (sd 1 1 c)) {Q} :
   iprop(Env m K ∗ St m c 3 4 ∗ partS c (fun f => On f (T m 0 1 c) 0 (kp 0 2 c) 256 ∧ On f (T m 1 0 c) 1 (kp 1 2 c) 256) ∗ pts cc0_scratch17 c (svB m 512 1 0 (pr 1 0 c)) ∗ anyB (F := F) cc0_scratch10 c)
   ⊢ iprop((∀ w, (St m c 4 6 ∗ partS c (fun f => On f (T m 0 1 c) 0 (kp 0 2 c) 256 ∧ On f (T m 1 1 c) 1 (kp 1 2 c) 256) ∗ pts cc0_scratch17 c (svB m 512 1 0 (pr 1 0 c)) ∗ pts cc0_scratch14 c (svB m 256 0 1 (pr 0 1 c))) -∗ Q w) -∗ WP c (onArgs k0_part18 c w1 w2 w3 w4 w5 w6 w7 v) Q) := by
  rw [k0_part18_eq_skeleton]; unfold k0_part18_skel onArgs partS anyB
  simp only [Prog.lift, Prog.bind_op, Prog.bind_ret, Prog.pure_eq_ret]
  iintro ⟨#HE, HS, ⟨%f, %hf, Hp⟩, Hr1, Hb⟩ Hk
  obtain ⟨hA, hB⟩ := hf
  iapply (wp_set m 1 1 c (sd 1 1 c) 256 _ (off25_eq c) _ hv) $$ Hp
  iintro %f1 %hU1 Hp
  icases Hb with ⟨%g, Hb⟩
  iapply (wp_ld c (Memref.whole cc0_scratch4)) $$ Hp; iintro Hp
  iapply (wp_ld c (Memref.whole cc0_scratch10)) $$ Hb; iintro Hb
  iapply (wp_st c (Memref.whole cc0_scratch10)) $$ Hb; iintro Hb
  ihave Hb := (pts_fill cc0_scratch10 c (inb := inb_S256x512_S256x512_0_0) (by decide) g ((hU1.1).fill m (off25_eq c) (k0_off25_inb c) k0_pay39 (fun _ => shapeCast_self _ _))) $$ Hb
  iapply (wp_xferB m K (k := 3) (by decide) c (j := 4) (by decide) (Memref.whole cc0_scratch10) (Memref.whole cc0_scratch18) _ (dev8_eq c) ?hS ?hR rfl
    (svB m 256 1 1 c) (View.set_whole _) (View.set_whole _) (any_intro _ _ _) (Entails.refl _)
    (fun fd => by
      rw [View.write_whole_univ, View.read_whole]
      show _ ⊢ pts cc0_scratch18 (pt 3 c) _
      rw [pt_pt]; exact Entails.refl _)) $$ [HS Hb]
  case hS => rfl
  case hR => rfl
  · isplitr; · iexact HE
    isplitl [HS]; · iexact HS
    iexact Hb
  iintro HS
  icombine Hp Hr1 as H
  iapply (wp_acc m 1 0 c (kp 1 2 c) 256 512 (Upd.kept (s := 1) m hU1 rfl hB) (sd_pr 1 0 c) (kp_kp 1 1 c) (off27_eq c) _ _ _ (off28_eq c) _ (Memref.whole cc0_scratch17) (fun _ => rfl) (fun _ _ => shapeCast_self _ _)) $$ H
  iintro %f2 %hU2 ⟨Hp, Hr1⟩
  iapply (wp_waitS m K (k := 2) (by decide) c (n := 4) (j := 4) (by decide) (by decide) ?hS ?hN) $$ [HS]
  case hS => rfl
  case hN => rfl
  · isplitr; · iexact HE
    iexact HS
  iintro HS
  iapply (wp_waitR m K (k := 2) (by decide) c (n := 4) (j := 5) (by decide) (by decide) ?hS ?hN) $$ [HS]
  case hS => rfl
  case hN => rfl
  · isplitr; · iexact HE
    iexact HS
  iintro ⟨HS, Hr⟩
  ihave Hr := (show rPay m 2 c ⊢ pts cc0_scratch14 c (svB m 256 0 1 (pr 0 1 c)) from Entails.refl _) $$ Hr
  iapply wp_done
  iapply Hk
  isplitl [HS]; · iexact HS
  isplitl [Hp]
  · iexists _
    isplitr
    swap; · iexact Hp
    ipureintro; exact ⟨hU2.other m (by decide) (hU1.other m (by decide) hA), hU2.1⟩
  isplitl [Hr1]; · iexact Hr1
  iexact Hr

theorem part19 (c : Dev nD) (w1 w2 w3 w4 w5 : BitVec 32) {Q} :
   iprop(Env m K ∗ St m c 4 6 ∗ partS c (fun f => On f (T m 0 1 c) 0 (kp 0 2 c) 256 ∧ On f (T m 1 1 c) 1 (kp 1 2 c) 256) ∗ pts cc0_scratch14 c (svB m 256 0 1 (pr 0 1 c)) ∗ anyB (F := F) cc0_scratch7 c)
   ⊢ iprop(((St m c 5 7 ∗ partS c (fun f => On f (T m 0 2 c) 0 (kp 0 3 c) 128 ∧ On f (T m 1 1 c) 1 (kp 1 2 c) 256) ∗ pts cc0_scratch14 c (svB m 256 0 1 (pr 0 1 c))) -∗ Q ⟨⟩) -∗ WP c (onArgs k0_part19 c w1 w2 w3 w4 w5) Q) := by
  rw [k0_part19_eq_skeleton]; unfold k0_part19_skel onArgs partS anyB
  simp only [Prog.lift, Prog.bind_op, Prog.bind_ret, Prog.pure_eq_ret]
  iintro ⟨#HE, HS, ⟨%f, %hf, Hp⟩, Hr, Hb⟩ Hk
  obtain ⟨hA, hB⟩ := hf
  icombine Hp Hr as H
  iapply (wp_acc m 0 1 c (sd 0 2 c) 128 256 (hA.toSd 2 rfl rfl) (sd_pr 0 1 c) (kp_sd 0 2 c) (off29_eq c) _ _ _ (off30_eq c) _ (Memref.whole cc0_scratch14) (fun _ => rfl) (fun _ _ => shapeCast_self _ _)) $$ H
  iintro %f1 %hU1 ⟨Hp, Hr⟩
  icases Hb with ⟨%g, Hb⟩
  iapply (wp_ld c (Memref.whole cc0_scratch4)) $$ Hp; iintro Hp
  iapply (wp_ld c (Memref.whole cc0_scratch7)) $$ Hb; iintro Hb
  iapply (wp_st c (Memref.whole cc0_scratch7)) $$ Hb; iintro Hb
  ihave Hb := (pts_fill cc0_scratch7 c (inb := inb_S128x512_S128x512_0_0) (by decide) g ((hU1.1).fill m (off29_eq c) (k0_off29_inb c) k0_pay42 (fun _ => shapeCast_self _ _))) $$ Hb
  iapply (wp_xferB m K (k := 4) (by decide) c (j := 6) (by decide) (Memref.whole cc0_scratch7) (Memref.whole cc0_scratch15) _ (dev9_eq c) ?hS ?hR rfl
    (svB m 128 0 2 c) (View.set_whole _) (View.set_whole _) (any_intro _ _ _) (Entails.refl _)
    (fun fd => by
      rw [View.write_whole_univ, View.read_whole]
      show _ ⊢ pts cc0_scratch15 (pt 4 c) _
      rw [pt_pt]; exact Entails.refl _)) $$ [HS Hb]
  case hS => rfl
  case hR => rfl
  · isplitr; · iexact HE
    isplitl [HS]; · iexact HS
    iexact Hb
  iintro HS
  icombine Hp Hr as H
  iapply (wp_acc m 0 1 c (kp 0 3 c) 128 256 (Upd.kept (s := 2) m hU1 rfl (hA.toKp 2 rfl rfl)) (sd_pr 0 1 c) (kp_kp 0 2 c) (off31_eq c) _ _ _ (off32_eq c) _ (Memref.whole cc0_scratch14) (fun _ => rfl) (fun _ _ => shapeCast_self _ _)) $$ H
  iintro %f2 %hU2 ⟨Hp, Hr⟩
  iapply (wp_waitS m K (k := 3) (by decide) c (n := 5) (j := 6) (by decide) (by decide) ?hS ?hN) $$ [HS]
  case hS => rfl
  case hN => rfl
  · isplitr; · iexact HE
    iexact HS
  iintro HS
  iapply wp_done
  iapply Hk
  isplitl [HS]; · iexact HS
  isplitl [Hp]
  · iexists _
    isplitr
    swap; · iexact Hp
    ipureintro; exact ⟨hU2.1, hU2.other m (by decide) (hU1.other m (by decide) hB)⟩
  iexact Hr

theorem part20 (c : Dev nD) (w1 w2 w3 w4 w5 : BitVec 32) {Q} :
   iprop(Env m K ∗ St m c 5 7 ∗ partS c (fun f => On f (T m 0 2 c) 0 (kp 0 3 c) 128 ∧ On f (T m 1 1 c) 1 (kp 1 2 c) 256) ∗ anyB (F := F) cc0_scratch11 c)
   ⊢ iprop((∀ v, ⌜k0_pay47 v = TB m 128 1 2 c (kp 1 3 c)⌝ -∗ (St m c 6 8 ∗ partS c (fun f => On f (T m 0 2 c) 0 (kp 0 3 c) 128) ∗ pts cc0_scratch18 c (svB m 256 1 1 (pr 1 1 c))) -∗ Q v) -∗ WP c (onArgs k0_part20 c w1 w2 w3 w4 w5) Q) := by
  rw [k0_part20_eq_skeleton]; unfold k0_part20_skel onArgs partS anyB
  simp only [Prog.lift, Prog.bind_op, Prog.bind_ret, Prog.pure_eq_ret]
  iintro ⟨#HE, HS, ⟨%f, %hf, Hp⟩, Hb⟩ Hk
  obtain ⟨hA, hB⟩ := hf
  iapply (wp_waitR m K (k := 3) (by decide) c (n := 5) (j := 7) (by decide) (by decide) ?hS ?hN) $$ [HS]
  case hS => rfl
  case hN => rfl
  · isplitr; · iexact HE
    iexact HS
  iintro ⟨HS, Hr⟩
  ihave Hr := (show rPay m 3 c ⊢ pts cc0_scratch18 c (svB m 256 1 1 (pr 1 1 c)) from Entails.refl _) $$ Hr
  icombine Hp Hr as H
  iapply (wp_acc m 1 1 c (sd 1 2 c) 128 256 (hB.toSd 2 rfl rfl) (sd_pr 1 1 c) (kp_sd 1 2 c) (off33_eq c) _ _ _ (off34_eq c) _ (Memref.whole cc0_scratch18) (fun _ => rfl) (fun _ _ => shapeCast_self _ _)) $$ H
  iintro %f1 %hU1 ⟨Hp, Hr⟩
  icases Hb with ⟨%g, Hb⟩
  iapply (wp_ld c (Memref.whole cc0_scratch4)) $$ Hp; iintro Hp
  iapply (wp_ld c (Memref.whole cc0_scratch11)) $$ Hb; iintro Hb
  iapply (wp_st c (Memref.whole cc0_scratch11)) $$ Hb; iintro Hb
  ihave Hb := (pts_fill cc0_scratch11 c (inb := inb_S128x512_S128x512_0_0) (by decide) g ((hU1.1).fill m (off33_eq c) (k0_off33_inb c) k0_pay45 (fun _ => shapeCast_self _ _))) $$ Hb
  iapply (wp_xferB m K (k := 5) (by decide) c (j := 8) (by decide) (Memref.whole cc0_scratch11) (Memref.whole cc0_scratch19) _ (dev10_eq c) ?hS ?hR rfl
    (svB m 128 1 2 c) (View.set_whole _) (View.set_whole _) (any_intro _ _ _) (Entails.refl _)
    (fun fd => by
      rw [View.write_whole_univ, View.read_whole]
      show _ ⊢ pts cc0_scratch19 (pt 5 c) _
      rw [pt_pt]; exact Entails.refl _)) $$ [HS Hb]
  case hS => rfl
  case hR => rfl
  · isplitr; · iexact HE
    isplitl [HS]; · iexact HS
    iexact Hb
  iintro HS
  have hB1 := Upd.kept (s := 2) m hU1 rfl (hB.toKp 2 rfl rfl)
  have hv := On.addG m 128 hB1 (sd_pr 1 1 c) (kp_kp 1 2 c) (off35_eq c) (k0_off35_inb c) (off36_eq c) (k0_off36_inb c) (Memref.whole cc0_scratch18) (g := svB m 256 1 1 (pr 1 1 c)) (fun _ => rfl) (fun v g => k0_pay47 (k0_pay46 v g)) (fun _ _ => shapeCast_self _ _)
  iapply (wp_ld c (Memref.whole cc0_scratch4)) $$ Hp; iintro Hp
  iapply (wp_ld c (Memref.whole cc0_scratch18)) $$ Hr; iintro Hr
  iapply wp_done
  iapply Hk $$ %_ %hv
  isplitl [HS]; · iexact HS
  isplitl [Hp]
  · iexists _
    isplitr
    swap; · iexact Hp
    ipureintro; exact hU1.other m (by decide) hA
  iexact Hr

theorem part21 (c : Dev nD) (w1 w2 w3 w4 : BitVec 32) (v : FVec F S128x512 .f32) (hv : k0_pay47 v = TB m 128 1 2 c (kp 1 3 c)) {Q} :
   iprop(Env m K ∗ St m c 6 8 ∗ partS c (fun f => On f (T m 0 2 c) 0 (kp 0 3 c) 128) ∗ anyB (F := F) cc0_scratch8 c)
   ⊢ iprop(((St m c 6 10 ∗ partS c (fun f => On f (T m 0 2 c) 0 (kp 0 4 c) 64 ∧ On f (T m 1 2 c) 1 (kp 1 3 c) 128) ∗ pts cc0_scratch15 c (svB m 128 0 2 (pr 0 2 c)) ∗ pts cc0_scratch8 c (svB m 64 0 3 c)) -∗ Q ⟨⟩) -∗ WP c (onArgs k0_part21 c w1 w2 w3 w4 v) Q) := by
  rw [k0_part21_eq_skeleton]; unfold k0_part21_skel onArgs partS anyB
  simp only [Prog.lift, Prog.bind_op, Prog.bind_ret, Prog.pure_eq_ret]
  iintro ⟨#HE, HS, ⟨%f, %hf, Hp⟩, Hb⟩ Hk
  iapply (wp_ld c (Memref.whole cc0_scratch4)) $$ Hp; iintro Hp
  iapply (wp_set m 1 2 c (kp 1 3 c) 128 _ (off35_eq c) _ hv) $$ Hp
  iintro %f1 %hU1 Hp
  iapply (wp_waitS m K (k := 4) (by decide) c (n := 6) (j := 8) (by decide) (by decide) ?hS ?hN) $$ [HS]
  case hS => rfl
  case hN => rfl
  · isplitr; · iexact HE
    iexact HS
  iintro HS
  iapply (wp_waitR m K (k := 4) (by decide) c (n := 6) (j := 9) (by decide) (by decide) ?hS ?hN) $$ [HS]
  case hS => rfl
  case hN => rfl
  · isplitr; · iexact HE
    iexact HS
  iintro ⟨HS, Hr⟩
  ihave Hr := (show rPay m 4 c ⊢ pts cc0_scratch15 c (svB m 128 0 2 (pr 0 2 c)) from Entails.refl _) $$ Hr
  have hA := hU1.other m (by decide) hf
  icombine Hp Hr as H
  iapply (wp_acc m 0 2 c (sd 0 3 c) 64 128 (hA.toSd 3 rfl rfl) (sd_pr 0 2 c) (kp_sd 0 3 c) (off37_eq c) _ _ _ (off38_eq c) _ (Memref.whole cc0_scratch15) (fun _ => rfl) (fun _ _ => shapeCast_self _ _)) $$ H
  iintro %f2 %hU2 ⟨Hp, Hr⟩
  icases Hb with ⟨%g, Hb⟩
  iapply (wp_ld c (Memref.whole cc0_scratch4)) $$ Hp; iintro Hp
  iapply (wp_ld c (Memref.whole cc0_scratch8)) $$ Hb; iintro Hb
  iapply (wp_st c (Memref.whole cc0_scratch8)) $$ Hb; iintro Hb
  ihave Hb := (pts_fill cc0_scratch8 c (inb := inb_S64x512_S64x512_0_0) (by decide) g ((hU2.1).fill m (off37_eq c) (k0_off37_inb c) k0_pay49 (fun _ => shapeCast_self _ _))) $$ Hb
  iapply wp_done
  iapply Hk
  isplitl [HS]; · iexact HS
  isplitl [Hp]
  · iexists _
    isplitr
    swap; · iexact Hp
    ipureintro; exact ⟨Upd.kept (s := 3) m hU2 rfl (hA.toKp 3 rfl rfl), hU2.other m (by decide) hU1.1⟩
  isplitl [Hr]; · iexact Hr
  iexact Hb

theorem part22 (c : Dev nD) (w1 w2 w3 w4 w5 : BitVec 32) {Q} :
   iprop(Env m K ∗ St m c 6 10 ∗ partS c (fun f => On f (T m 0 2 c) 0 (kp 0 4 c) 64 ∧ On f (T m 1 2 c) 1 (kp 1 3 c) 128) ∗ pts cc0_scratch15 c (svB m 128 0 2 (pr 0 2 c)) ∗ pts cc0_scratch8 c (svB m 64 0 3 c) ∗ anyB (F := F) cc0_scratch12 c)
   ⊢ iprop(((St m c 7 12 ∗ partS c (fun f => On f (T m 0 3 c) 0 (kp 0 4 c) 64 ∧ On f (T m 1 2 c) 1 (kp 1 4 c) 64) ∗ pts cc0_scratch15 c (svB m 128 0 2 (pr 0 2 c)) ∗ pts cc0_scratch19 c (svB m 128 1 2 (pr 1 2 c)) ∗ pts cc0_scratch12 c (svB m 64 1 3 c)) -∗ Q ⟨⟩) -∗ WP c (onArgs k0_part22 c w1 w2 w3 w4 w5) Q) := by
  rw [k0_part22_eq_skeleton]; unfold k0_part22_skel onArgs partS anyB
  simp only [Prog.lift, Prog.bind_op, Prog.bind_ret, Prog.pure_eq_ret]
  iintro ⟨#HE, HS, ⟨%f, %hf, Hp⟩, Hr4, Hb, Hb7⟩ Hk
  obtain ⟨hA, hB⟩ := hf
  iapply (wp_xferB m K (k := 6) (by decide) c (j := 10) (by decide) (Memref.whole cc0_scratch8) (Memref.whole cc0_scratch16) _ (dev11_eq c) ?hS ?hR rfl
    (svB m 64 0 3 c) (View.set_whole _) (View.set_whole _) (any_intro _ _ _) (Entails.refl _)
    (fun fd => by
      rw [View.write_whole_univ, View.read_whole]
      show _ ⊢ pts cc0_scratch16 (pt 6 c) _
      rw [pt_pt]; exact Entails.refl _)) $$ [HS Hb]
  case hS => rfl
  case hR => rfl
  · isplitr; · iexact HE
    isplitl [HS]; · iexact HS
    iexact Hb
  iintro HS
  icombine Hp Hr4 as H
  iapply (wp_acc m 0 2 c (kp 0 4 c) 64 128 hA (sd_pr 0 2 c) (kp_kp 0 3 c) (off39_eq c) _ _ _ (off40_eq c) _ (Memref.whole cc0_scratch15) (fun _ => rfl) (fun _ _ => shapeCast_self _ _)) $$ H
  iintro %f1 %hU1 ⟨Hp, Hr4⟩
  iapply (wp_waitS m K (k := 5) (by decide) c (n := 7) (j := 10) (by decide) (by decide) ?hS ?hN) $$ [HS]
  case hS => rfl
  case hN => rfl
  · isplitr; · iexact HE
    iexact HS
  iintro HS
  iapply (wp_waitR m K (k := 5) (by decide) c (n := 7) (j := 11) (by decide) (by decide) ?hS ?hN) $$ [HS]
  case hS => rfl
  case hN => rfl
  · isplitr; · iexact HE
    iexact HS
  iintro ⟨HS, Hr⟩
  ihave Hr := (show rPay m 5 c ⊢ pts cc0_scratch19 c (svB m 128 1 2 (pr 1 2 c)) from Entails.refl _) $$ Hr
  have hB1 := hU1.other m (by decide) hB
  icombine Hp Hr as H
  iapply (wp_acc m 1 2 c (sd 1 3 c) 64 128 (hB1.toSd 3 rfl rfl) (sd_pr 1 2 c) (kp_sd 1 3 c) (off41_eq c) _ _ _ (off42_eq c) _ (Memref.whole cc0_scratch19) (fun _ => rfl) (fun _ _ => shapeCast_self _ _)) $$ H
  iintro %f2 %hU2 ⟨Hp, Hr⟩
  irename Hb7 => Hb
  icases Hb with ⟨%g, Hb⟩
  iapply (wp_ld c (Memref.whole cc0_scratch4)) $$ Hp; iintro Hp
  iapply (wp_ld c (Memref.whole cc0_scratch12)) $$ Hb; iintro Hb
  iapply (wp_st c (Memref.whole cc0_scratch12)) $$ Hb; iintro Hb
  ihave Hb := (pts_fill cc0_scratch12 c (inb := inb_S64x512_S64x512_0_0) (by decide) g ((hU2.1).fill m (off41_eq c) (k0_off41_inb c) k0_pay52 (fun _ => shapeCast_self _ _))) $$ Hb
  iapply wp_done
  iapply Hk
  isplitl [HS]; · iexact HS
  isplitl [Hp]
  · iexists _
    isplitr
    swap; · iexact Hp
    ipureintro; exact ⟨hU2.other m (by decide) hU1.1, Upd.kept (s := 3) m hU2 rfl (hB1.toKp 3 rfl rfl)⟩
  isplitl [Hr4]; · iexact Hr4
  isplitl [Hr]; · iexact Hr
  iexact Hb

theorem part23 (c : Dev nD) (w1 w2 w3 w4 : BitVec 32) {Q} :
   iprop(Env m K ∗ St m c 7 12 ∗ partS c (fun f => On f (T m 0 3 c) 0 (kp 0 4 c) 64 ∧ On f (T m 1 2 c) 1 (kp 1 4 c) 64) ∗ pts cc0_scratch19 c (svB m 128 1 2 (pr 1 2 c)) ∗ pts cc0_scratch12 c (svB m 64 1 3 c))
   ⊢ iprop((∀ v, ⌜k0_pay55 v = TB m 64 0 4 c (kp 0 4 c)⌝ -∗ (St m c 8 14 ∗ partS c (fun f => On f (T m 1 3 c) 1 (kp 1 4 c) 64) ∗ pts cc0_scratch19 c (svB m 128 1 2 (pr 1 2 c)) ∗ pts cc0_scratch16 c (svB m 64 0 3 (pr 0 3 c))) -∗ Q v) -∗ WP c (onArgs k0_part23 c w1 w2 w3 w4) Q) := by
  rw [k0_part23_eq_skeleton]; unfold k0_part23_skel onArgs partS
  simp only [Prog.lift, Prog.bind_op, Prog.bind_ret, Prog.pure_eq_ret]
  iintro ⟨#HE, HS, ⟨%f, %hf, Hp⟩, Hr5, Hb⟩ Hk
  obtain ⟨hA, hB⟩ := hf
  iapply (wp_xferB m K (k := 7) (by decide) c (j := 12) (by decide) (Memref.whole cc0_scratch12) (Memref.whole cc0_scratch20) _ (dev12_eq c) ?hS ?hR rfl
    (svB m 64 1 3 c) (View.set_whole _) (View.set_whole _) (any_intro _ _ _) (Entails.refl _)
    (fun fd => by
      rw [View.write_whole_univ, View.read_whole]
      show _ ⊢ pts cc0_scratch20 (pt 7 c) _
      rw [pt_pt]; exact Entails.refl _)) $$ [HS Hb]
  case hS => rfl
  case hR => rfl
  · isplitr; · iexact HE
    isplitl [HS]; · iexact HS
    iexact Hb
  iintro HS
  icombine Hp Hr5 as H
  iapply (wp_acc m 1 2 c (kp 1 4 c) 64 128 hB (sd_pr 1 2 c) (kp_kp 1 3 c) (off43_eq c) _ _ _ (off44_eq c) _ (Memref.whole cc0_scratch19) (fun _ => rfl) (fun _ _ => shapeCast_self _ _)) $$ H
  iintro %f1 %hU1 ⟨Hp, Hr5⟩
  iapply (wp_waitS m K (k := 6) (by decide) c (n := 8) (j := 12) (by decide) (by decide) ?hS ?hN) $$ [HS]
  case hS => rfl
  case hN => rfl
  · isplitr; · iexact HE
    iexact HS
  iintro HS
  iapply (wp_waitR m K (k := 6) (by decide) c (n := 8) (j := 13) (by decide) (by decide) ?hS ?hN) $$ [HS]
  case hS => rfl
  case hN => rfl
  · isplitr; · iexact HE
    iexact HS
  iintro ⟨HS, Hr⟩
  ihave Hr := (show rPay m 6 c ⊢ pts cc0_scratch16 c (svB m 64 0 3 (pr 0 3 c)) from Entails.refl _) $$ Hr
  have hA1 := hU1.other m (by decide) hA
  have hv := On.addG m 64 hA1 (sd_pr 0 3 c) (Nat.le_refl _) (off39_eq c) (k0_off39_inb c) (off45_eq c) (k0_off45_inb c) (Memref.whole cc0_scratch16) (g := svB m 64 0 3 (pr 0 3 c)) (fun _ => rfl) (fun v g => k0_pay55 (k0_pay54 v g)) (fun _ _ => shapeCast_self _ _)
  iapply (wp_ld c (Memref.whole cc0_scratch4)) $$ Hp; iintro Hp
  iapply (wp_ld c (Memref.whole cc0_scratch16)) $$ Hr; iintro Hr
  iapply (wp_ld c (Memref.whole cc0_scratch4)) $$ Hp; iintro Hp
  iapply wp_done
  iapply Hk $$ %_ %hv
  isplitl [HS]; · iexact HS
  isplitl [Hp]
  · iexists _
    isplitr
    swap; · iexact Hp
    ipureintro; exact hU1.1
  isplitl [Hr5]; · iexact Hr5
  iexact Hr

end Cert.AR

end
-- ==== Proof.Parts5.lean ====
/-
# The gather: what each piece of it does

The regions of the result buffer, their shares, and the store, the send and the wait of one region.
-/
module

public import proofs.«01_k».proof.Proof.Parts4

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

theorem mem_reg {t : Fin 2} {r n : ℕ} {i : S1024x1024.Idx} : i ∈ reg t r n ↔ r ≤ (i 0).val ∧ (i 0).val < r + n ∧ (i 1).val / 512 = t.val := by
  unfold reg; simp only [Finset.mem_filter, Finset.mem_univ, true_and]

/-- A rectangle of one column half is a region. -/
theorem rect_reg {t : Fin 2} {r n : ℕ} {off : Fin 2 → ℕ} (ho : off = ![r, 512 * t.val]) (inb : ∀ a, off a + (![n, 512] : Fin 2 → ℕ) a ≤ S1024x1024.size a) :
    (Rect.unit (s := S1024x1024) off ![n, 512] inb).set = reg t r n := by
  subst ho
  ext i
  rw [mem_reg, Rect.mem_set_unit]
  have l1 : (i 1).val < 1024 := (i 1).isLt
  have := t.isLt
  constructor
  · intro h
    have h0 := h 0; have h1 := h 1
    change r ≤ (i 0).val ∧ (i 0).val < r + n at h0
    change 512 * t.val ≤ (i 1).val ∧ (i 1).val < 512 * t.val + 512 at h1
    omega
  · rintro ⟨a, b, e⟩ x
    match x with
    | ⟨0, _⟩ => exact ⟨a, b⟩
    | ⟨1, _⟩ => exact ⟨by show 512 * t.val ≤ (i 1).val; omega, by show (i 1).val < 512 * t.val + 512; omega⟩

/-- The part of the result buffer a transfer reads or writes. -/
abbrev outR (off : Fin 2 → ℕ) (n : ℕ) (inb : ∀ a, off a + (![n, 512] : Fin 2 → ℕ) a ≤ S1024x1024.size a) : Memref sig .tc .vmem ⟨2, ![n, 512]⟩ .bf16 :=
  (Memref.whole cc0_stg7_0 : Memref sig .tc .vmem S1024x1024 .bf16).slice (Rect.unit (s := S1024x1024) off ![n, 512] inb) (fun _ => rfl)

theorem outR_set {t : Fin 2} {r n : ℕ} {off : Fin 2 → ℕ} (ho : off = ![r, 512 * t.val]) (inb : ∀ a, off a + (![n, 512] : Fin 2 → ℕ) a ≤ S1024x1024.size a) :
    (outR off n inb).view.set = reg t r n :=
  (View.set_slice_whole cc0_stg7_0 (Rect.unit (s := S1024x1024) off ![n, 512] inb)).trans (rect_reg ho inb)

/-! ## Regions side by side, and shares of a region -/

theorem out_join {t : Fin 2} {a b r n n' : ℕ} (h : (a = r ∧ b = r + n) ∨ (b = r ∧ a = r + n')) {c : Dev nD} {q : PosShare TreeShare} {f : (cc0_stg7_0 : Ref sig .tc).ty.Contents (Elt F)} {N : ℕ} (hN : N = n + n') :
    outP t r N c q f ⊣⊢ iprop(outP t a n c q f ∗ outP t b n' c q f) := by
  subst hN
  have e : reg t r (n + n') = reg t a n ∪ reg t b n' := by
    ext i; rw [Finset.mem_union, mem_reg, mem_reg, mem_reg]; omega
  have hd : Disjoint (reg t a n) (reg t b n') := by
    rw [Finset.disjoint_left]; intro i h1 h2; rw [mem_reg] at h1 h2; omega
  unfold outP
  rw [e]
  exact pointsTo_union hd

theorem out_halves {t : Fin 2} {r n : ℕ} {c : Dev nD} {q : PosShare TreeShare} {f : (cc0_stg7_0 : Ref sig .tc).ty.Contents (Elt F)} :
    outP t r n c q f ⊣⊢ iprop(outP t r n c q.left f ∗ outP t r n c q.right f) :=
  pointsTo_share (PosShare.mem_left_op_right q)

/-! ## The store, the send and the waits of a region -/

theorem sPay_ag {k : Fin 30} (hk : 8 ≤ k.val) (c : Dev nD) : sPay m k c = outP (tr k) (fr k c) (fn k) c (qs k) (Ov m) := by
  match k, hk with | ⟨n + 8, h⟩, _ => rfl
theorem rPay_ag {k : Fin 30} (hk : 8 ≤ k.val) (c : Dev nD) : rPay m k c = outP (tr k) (fr k (pt k c)) (fn k) c fullShare (Ov m) := by
  match k, hk with | ⟨n + 8, h⟩, _ => rfl
omit [FloatOps F] in
theorem land_ag {k : Fin 30} (hk : 8 ≤ k.val) (c : Dev nD) : land (F := F) k c = iprop(∃ f, outP (tr k) (fr k (pt k c)) (fn k) c fullShare f) := by
  match k, hk with | ⟨n + 8, h⟩, _ => rfl

/-- Sending a region of the result. -/
theorem wp_xferO {k : Fin 30} (hk : k ∈ live) (hk8 : 8 ≤ k.val) (c : Dev nD) {j : ℕ} (hj : j ≤ 2 * wr k) (t : Fin 2) (r nn : ℕ) (q : PosShare TreeShare)
    (ht : tr k = t) (hr : fr k c = r) (hnn : fn k = nn) (hq : qs k = q)
    {off : Fin 2 → ℕ} (ho : off = ![r, 512 * t.val]) {inb : ∀ a, off a + (![nn, 512] : Fin 2 → ℕ) a ≤ S1024x1024.size a}
    (n : Dev nD) (hn : n = pt k c) {sS sR : SemLoc sig} (hS : sS = .dma (sSem k)) (hR : sR = .dma (rSem k))
    {hsc} {hsrc : (outR off nn inb).view.WordExact} {hdst : (outR off nn inb).view.WordExact} {hsem : DmaTarget.Typed .vmem sR (.remote (Dev.tc n : Thread nD τ) (outR off nn inb) sS hsc)}
    {α : Type} {Q : α → sProp 𝕄} {kk : PUnit → Prog (TpuEff nD τ sig (Elt F) Λ₀ .tc) α}
    (hN : (outR off nn inb).view.dmaCredit = N k) :
    iprop(Env m K ∗ St m c k.val j ∗ outP t r nn c q (Ov m))
      ⊢ iprop((St m c (k.val + 1) j -∗ WP c (kk ⟨⟩) Q) -∗ WP c (.op (.enqueueDma (outR off nn inb) (.remote (Dev.tc n : Thread nD τ) (outR off nn inb) sS hsc) sR hsrc hdst hsem) kk) Q) := by
  subst ht hr hnn hq
  have hset := outR_set ho inb
  have h := wp_xfer m K hk c hj (src := outR off (fn k) inb) n hn (dst := outR off (fn k) inb) hS hR (hsc := hsc) (hsrc := hsrc) (hdst := hdst) (hsem := hsem) (Q := Q) (kk := kk) hN (qs k) (Ov m)
    (by rw [hset, sPay_ag m hk8])
    (by rw [hset, land_ag hk8, pt_pt])
    (fun fd => by
      rw [hset, rPay_ag m hk8, pt_pt]
      unfold outP
      refine (BIBase.BiEntails.of_eq (pointsTo_congr fun i hi => ?_)).1
      exact (congrFun (View.write_read_eq_piecewise (v := (outR off (fn k) inb).view) fd (Ov m) Finset.univ) i).trans (Finset.piecewise_eq_of_mem _ _ _ (by rw [View.setOn_univ, hset]; exact hi)))
  rw [hset] at h
  exact h

theorem wp_ldO (c : Dev nD) (t : Fin 2) (r n : ℕ) (f : (cc0_stg7_0 : Ref sig .tc).ty.Contents (Elt F)) {off : Fin 2 → ℕ} (ho : off = ![r, 512 * t.val]) {inb : ∀ a, off a + (![n, 512] : Fin 2 → ℕ) a ≤ S1024x1024.size a} {hl}
    {α : Type} {Q : α → sProp 𝕄} {kk : ((Rect.unit (s := S1024x1024) off ![n, 512] inb).toLoadRect.shape.Idx → Elt F .bf16) → Prog (TpuEff nD τ sig (Elt F) Λ₀ .tc) α} :
    outP t r n c fullShare f ⊢ iprop((∀ v, outP t r n c fullShare f -∗ WP c (kk v) Q)
      -∗ WP c (.op (.load (Memref.whole cc0_stg7_0 : Memref sig .tc .vmem S1024x1024 .bf16) (Rect.unit (s := S1024x1024) off ![n, 512] inb).toLoadRect hl) kk) Q) := by
  iintro H Hk
  iapply (wp_load 𝒱₀ (c : Thread nD τ) none Set.univ (m := (Memref.whole cc0_stg7_0 : Memref sig .tc .vmem S1024x1024 .bf16)) (S := reg t r n)
    (by rw [← rect_reg ho inb]; exact le_of_eq Finset.map_refl)) $$ H
  iintro H
  iapply Hk $$ %_ H

theorem two_cases (t : Fin 2) : t = 0 ∨ t = 1 := by revert t; decide

theorem own_val (c : Dev nD) (t : Fin 2) (f : (cc0_stg7_0 : Ref sig .tc).ty.Contents (Elt F)) {off : Fin 2 → ℕ} (ho : off = ![kp t 4 c, 512 * t.val]) {inb : ∀ a, off a + (![64, 512] : Fin 2 → ℕ) a ≤ S1024x1024.size a}
    {w : (⟨2, ![64, 512]⟩ : Shape).Idx → F .bf16} (hw : w = fun i => tru (TB m 64 t 4 c (kp t 4 c) i)) {i : S1024x1024.Idx} (hi : i ∈ reg t (kp t 4 c) 64) :
    ((Memref.whole cc0_stg7_0 : Memref sig .tc .vmem S1024x1024 .bf16).access (Rect.unit (s := S1024x1024) off ![64, 512] inb)).write (Elt F) f w Finset.univ i = Ov m i := by
  subst ho
  have hi' := mem_reg.mp hi
  have htl := t.isLt
  have hm : ∀ a : Fin 2, (![kp t 4 c, 512 * t.val] : Fin 2 → ℕ) a ≤ (i a).val ∧ (i a).val < (![kp t 4 c, 512 * t.val] : Fin 2 → ℕ) a + (![64, 512] : Fin 2 → ℕ) a := fun a => by
    match a with
    | ⟨0, _⟩ => exact ⟨hi'.1, hi'.2.1⟩
    | ⟨1, _⟩ => exact ⟨by show 512 * t.val ≤ (i 1).val; omega, by show (i 1).val < 512 * t.val + 512; omega⟩
  refine (write_unit_in cc0_stg7_0 f w i hm).trans ?_
  rw [hw]
  obtain ⟨o1, o2⟩ := owner_kp t c
  have e : (i 0).val / 64 = kp t 4 c / 64 := by omega
  show tru (T m t 4 c (kp t 4 c + ((i 0).val - kp t 4 c)) (512 * t.val + ((i 1).val - 512 * t.val))) = _
  rw [show kp t 4 c + ((i 0).val - kp t 4 c) = (i 0).val by omega, show 512 * t.val + ((i 1).val - 512 * t.val) = (i 1).val by omega]
  unfold Ov
  refine congrArg tru ?_
  rcases two_cases t with rfl | rfl
  · have h1 : (i 1).val < 512 := by have := hi'.2.2; change _ = 0 at this; omega
    rw [if_pos h1, e, o1]
  · have h1 : ¬ (i 1).val < 512 := by have := hi'.2.2; change _ = 1 at this; omega
    rw [if_neg h1, e, o1]

omit [FloatOps F] in
theorem out_congr {t : Fin 2} {r n : ℕ} (c : Dev nD) {q : PosShare TreeShare} {f g : (cc0_stg7_0 : Ref sig .tc).ty.Contents (Elt F)} (h : ∀ i ∈ reg t r n, f i = g i) :
    outP t r n c q f ⊢ outP t r n c q g := (BIBase.BiEntails.of_eq (pointsTo_congr h)).1

/-- Storing a device's own rows: they are then the result. -/
theorem wp_stO (c : Dev nD) (t : Fin 2) (f : (cc0_stg7_0 : Ref sig .tc).ty.Contents (Elt F)) {off : Fin 2 → ℕ} (ho : off = ![kp t 4 c, 512 * t.val]) {inb : ∀ a, off a + (![64, 512] : Fin 2 → ℕ) a ≤ S1024x1024.size a} {hl hl'}
    {w : (⟨2, ![64, 512]⟩ : Shape).Idx → F .bf16} (hw : w = fun i => tru (TB m 64 t 4 c (kp t 4 c) i))
    {α : Type} {Q : α → sProp 𝕄} {kk : PUnit → Prog (TpuEff nD τ sig (Elt F) Λ₀ .tc) α} :
    outP t (kp t 4 c) 64 c fullShare f ⊢ iprop((outP t (kp t 4 c) 64 c fullShare (Ov m) -∗ WP c (kk ⟨⟩) Q)
      -∗ WP c (.op (.store (Memref.whole cc0_stg7_0 : Memref sig .tc .vmem S1024x1024 .bf16) (Rect.unit (s := S1024x1024) off ![64, 512] inb) w Finset.univ hl hl') kk) Q) := by
  iintro H Hk
  iapply (wp_store 𝒱₀ (c : Thread nD τ) none Set.univ (m := (Memref.whole cc0_stg7_0 : Memref sig .tc .vmem S1024x1024 .bf16)) (r := Rect.unit (s := S1024x1024) off ![64, 512] inb) (Mk := Finset.univ) (S := reg t (kp t 4 c) 64)
    (by rw [← rect_reg ho inb]; exact le_of_eq (View.set_slice_whole cc0_stg7_0 _))) $$ H
  iintro H
  iapply Hk
  ihave H := (out_congr c fun i hi => own_val m c t f ho hw hi) $$ H
  iexact H

theorem rPay_to {k : Fin 30} (hk : 8 ≤ k.val) (c : Dev nD) (t : Fin 2) (r nn : ℕ) (ht : tr k = t) (hr : fr k (pt k c) = r) (hnn : fn k = nn) :
    rPay m k c ⊢ outP t r nn c fullShare (Ov m) := by
  subst ht hr hnn; rw [rPay_ag m hk]

/-- The rows of step `s` of device `d` are those of step `s + 1` and those sent. -/
theorem out_kp (t : Fin 2) (s : Fin 4) (d c : Dev nD) {q : PosShare TreeShare} {f : (cc0_stg7_0 : Ref sig .tc).ty.Contents (Elt F)} {N n : ℕ} (hN : N = n + n) (hn : n = sz s) :
    outP t (kp t s d) N c q f ⊣⊢ iprop(outP t (kp t (s + 1) d) n c q f ∗ outP t (sd t s d) n c q f) :=
  out_join (by have := kp_split t s d; omega) hN

theorem out_four {t : Fin 2} {r n : ℕ} {c : Dev nD} {f : (cc0_stg7_0 : Ref sig .tc).ty.Contents (Elt F)} :
    outP t r n c fullShare f ⊣⊢ iprop(outP t r n c fullShare.left f ∗ outP t r n c fullShare.right.left f ∗ outP t r n c fullShare.right.right.left f ∗ outP t r n c fullShare.right.right.right f) :=
  (out_halves).trans (sep_congr_right ((out_halves).trans (sep_congr_right out_halves)))
theorem out_three {t : Fin 2} {r n : ℕ} {c : Dev nD} {f : (cc0_stg7_0 : Ref sig .tc).ty.Contents (Elt F)} :
    outP t r n c fullShare f ⊣⊢ iprop(outP t r n c fullShare.left f ∗ outP t r n c fullShare.right.left f ∗ outP t r n c fullShare.right.right f) :=
  (out_halves).trans (sep_congr_right out_halves)
/-- The rows sent at step 2, from what came in. -/
theorem out_send2 (t : Fin 2) (c : Dev nD) {q : PosShare TreeShare} {f : (cc0_stg7_0 : Ref sig .tc).ty.Contents (Elt F)} :
    outP t (sd t 2 c) 128 c q f ⊣⊢ iprop(outP t (kp t 4 (pr t 2 c)) 64 c q f ∗ outP t (sd t 3 (pr t 2 c)) 64 c q f) := by
  rw [show sd t 2 c = kp t 3 (pr t 2 c) from sd_eq t 2 c]; exact out_kp t 3 (pr t 2 c) c rfl rfl
/-- The rows sent at step 1, from what came in. -/
theorem out_send1 (t : Fin 2) (c : Dev nD) {q : PosShare TreeShare} {f : (cc0_stg7_0 : Ref sig .tc).ty.Contents (Elt F)} :
    outP t (sd t 1 c) 256 c q f ⊣⊢ iprop((outP t (kp t 4 (pr t 1 c)) 64 c q f ∗ outP t (sd t 3 (pr t 1 c)) 64 c q f) ∗ outP t (sd t 2 (pr t 1 c)) 128 c q f) := by
  rw [show sd t 1 c = kp t 2 (pr t 1 c) from sd_eq t 1 c]; exact (out_kp t 2 (pr t 1 c) c rfl rfl).trans (sep_congr_left (out_kp t 3 (pr t 1 c) c rfl rfl))
/-- The rows of step 0, from what came in last. -/
theorem out_send0 (t : Fin 2) (c : Dev nD) {q : PosShare TreeShare} {f : (cc0_stg7_0 : Ref sig .tc).ty.Contents (Elt F)} :
    outP t (sd t 0 c) 512 c q f ⊣⊢ iprop(((outP t (kp t 4 (pr t 0 c)) 64 c q f ∗ outP t (sd t 3 (pr t 0 c)) 64 c q f) ∗ outP t (sd t 2 (pr t 0 c)) 128 c q f) ∗ outP t (sd t 1 (pr t 0 c)) 256 c q f) := by
  rw [show sd t 0 c = kp t 1 (pr t 0 c) from sd_eq t 0 c]
  exact (out_kp t 1 (pr t 0 c) c rfl rfl).trans (sep_congr_left ((out_kp t 2 (pr t 0 c) c rfl rfl).trans (sep_congr_left (out_kp t 3 (pr t 0 c) c rfl rfl))))
/-- The rows of a column half: a device's own, and those sent at the four steps. -/
theorem out_all (t : Fin 2) (c : Dev nD) {q : PosShare TreeShare} {f : (cc0_stg7_0 : Ref sig .tc).ty.Contents (Elt F)} :
    outP t 0 1024 c q f ⊣⊢ iprop((((outP t (kp t 4 c) 64 c q f ∗ outP t (sd t 3 c) 64 c q f) ∗ outP t (sd t 2 c) 128 c q f) ∗ outP t (sd t 1 c) 256 c q f) ∗ outP t (sd t 0 c) 512 c q f) := by
  have h0 : kp t 0 c = 0 := rfl
  rw [← h0]
  exact (out_kp t 0 c c rfl rfl).trans (sep_congr_left ((out_kp t 1 c c rfl rfl).trans (sep_congr_left ((out_kp t 2 c c rfl rfl).trans (sep_congr_left (out_kp t 3 c c rfl rfl))))))

end Cert.AR

end
-- ==== Proof.Parts6.lean ====
/-
# The gather

The pieces of the body that hand the finished rows round: a device's own rows go to its four neighbours, and what
comes in is handed on.
-/
module

public import Idealize.ShloMosaic.Lib.Pipeline.Value
public import proofs.«01_k».proof.Proof.Parts5

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)
/-- A device's own finished rows, rounded for the result. -/
theorem On.own {t : Fin 2} {c : Dev nD} {f : (cc0_scratch4 : Ref sig .tc).ty.Contents (Elt F)} (h : On f (T m t 4 c) t (kp t 4 c) 64)
    {off : Fin 2 → ℕ} (ho : off = ![kp t 4 c, 512 * t.val]) (inb : ∀ a, off a + (![64, 512] : Fin 2 → ℕ) a ≤ S1024x1024.size a)
    (p : FVec F ⟨2, ![64, 512]⟩ .f32 → FVec F ⟨2, ![64, 512]⟩ .bf16) (hp : ∀ v, p v = fun i => tru (v i)) :
    p ((Memref.whole cc0_scratch4 : Memref sig .tc .vmem S1024x1024 .f32).view.readAt (Elt F) (Rect.unit (s := S1024x1024) off ![64, 512] inb).toLoadRect f) = fun i => tru (TB m 64 t 4 c (kp t 4 c) i) := by
  rw [hp]
  funext i
  refine congrArg tru ?_
  rw [readAt_whole]
  show f ((Rect.unit (s := S1024x1024) off ![64, 512] inb).toLoadRect.idx i) = _
  rw [idx_unit ho inb i]
  have l0 : (i 0).val < 64 := (i 0).isLt
  have l1 : (i 1).val < 512 := (i 1).isLt
  have hk : kp t 4 c + 64 ≤ 1024 := by have : kp t 4 c + 2 * 32 ≤ 1024 := kp_le t 4 c; omega
  have htl := t.isLt
  exact h.ix (by omega) (by omega) (by omega) l1

theorem part24 (c : Dev nD) (w1 w2 w3 w4 : BitVec 32) (v : FVec F S64x512 .f32) (hv : k0_pay55 v = TB m 64 0 4 c (kp 0 4 c)) {Q} :
   iprop(Env m K ∗ St m c 8 14 ∗ partS c (fun f => On f (T m 1 3 c) 1 (kp 1 4 c) 64) ∗ (∃ g, outP 0 (kp 0 4 c) 64 c fullShare g))
   ⊢ iprop(((St m c 10 14 ∗ partS c (fun f => On f (T m 1 3 c) 1 (kp 1 4 c) 64) ∗ outP 0 (kp 0 4 c) 64 c fullShare.right.right.left (Ov m) ∗ outP 0 (kp 0 4 c) 64 c fullShare.right.right.right (Ov m)) -∗ Q ⟨⟩) -∗ WP c (onArgs k0_part24 c w1 w2 w3 w4 v) Q) := by
  rw [k0_part24_eq_skeleton]; unfold k0_part24_skel onArgs partS
  simp only [Prog.lift, Prog.bind_op, Prog.bind_ret, Prog.pure_eq_ret]
  iintro ⟨#HE, HS, ⟨%f, %hf, Hp⟩, ⟨%g, Ho⟩⟩ Hk
  iapply (wp_set m 0 4 c (kp 0 4 c) 64 _ (off39_eq c) _ hv) $$ Hp
  iintro %f1 %hU1 Hp
  iapply (wp_ld c (Memref.whole cc0_scratch4)) $$ Hp; iintro Hp
  iapply (wp_ldO c 0 (kp 0 4 c) 64 g (off39_eq c)) $$ Ho; iintro %_ Ho
  iapply (wp_stO m c 0 g (off39_eq c) (On.own m hU1.1 (off39_eq c) (k0_off39_inb c) k0_pay56 (fun _ => rfl))) $$ Ho; iintro Ho
  ihave Ho := (out_four).1 $$ Ho
  icases Ho with ⟨O8, O9, O10, O11⟩
  iapply (wp_xferO m K (k := 8) (by decide) (by decide) c (j := 14) (by decide) 0 (kp 0 4 c) 64 fullShare.left rfl rfl rfl rfl (off46_eq c) _ (dev13_eq c) ?hS ?hR rfl) $$ [HS O8]
  case hS => rfl
  case hR => rfl
  · isplitr; · iexact HE
    isplitl [HS]; · iexact HS
    iexact O8
  iintro HS
  iapply (wp_xferO m K (k := 9) (by decide) (by decide) c (j := 14) (by decide) 0 (kp 0 4 c) 64 fullShare.right.left rfl rfl rfl rfl (off46_eq c) _ (dev14_eq c) ?hS ?hR rfl) $$ [HS O9]
  case hS => rfl
  case hR => rfl
  · isplitr; · iexact HE
    isplitl [HS]; · iexact HS
    iexact O9
  iintro HS
  iapply wp_done
  iapply Hk
  isplitl [HS]; · iexact HS
  isplitl [Hp]
  · iexists _
    isplitr
    swap; · iexact Hp
    ipureintro; exact hU1.other m (by decide) hf
  isplitl [O10]; · iexact O10
  iexact O11

theorem part25 (c : Dev nD) (w1 w2 w3 : BitVec 32) {Q} :
   iprop(Env m K ∗ St m c 10 14 ∗ partS c (fun f => On f (T m 1 3 c) 1 (kp 1 4 c) 64) ∗ outP 0 (kp 0 4 c) 64 c fullShare.right.right.left (Ov m) ∗ outP 0 (kp 0 4 c) 64 c fullShare.right.right.right (Ov m) ∗ (∃ g, outP 1 (kp 1 4 c) 64 c fullShare g))
   ⊢ iprop(((St m c 12 16 ∗ anyB (F := F) cc0_scratch4 c ∗ outP 1 (kp 1 4 c) 64 c fullShare (Ov m) ∗ pts cc0_scratch20 c (svB m 64 1 3 (pr 1 3 c))) -∗ Q ⟨⟩) -∗ WP c (onArgs k0_part25 c w1 w2 w3) Q) := by
  rw [k0_part25_eq_skeleton]; unfold k0_part25_skel onArgs partS anyB
  simp only [Prog.lift, Prog.bind_op, Prog.bind_ret, Prog.pure_eq_ret]
  iintro ⟨#HE, HS, ⟨%f, %hf, Hp⟩, O10, O11, ⟨%g, Ho⟩⟩ Hk
  iapply (wp_xferO m K (k := 10) (by decide) (by decide) c (j := 14) (by decide) 0 (kp 0 4 c) 64 fullShare.right.right.left rfl rfl rfl rfl (off46_eq c) _ (dev15_eq c) ?hS ?hR rfl) $$ [HS O10]
  case hS => rfl
  case hR => rfl
  · isplitr; · iexact HE
    isplitl [HS]; · iexact HS
    iexact O10
  iintro HS
  iapply (wp_xferO m K (k := 11) (by decide) (by decide) c (j := 14) (by decide) 0 (kp 0 4 c) 64 fullShare.right.right.right rfl rfl rfl rfl (off46_eq c) _ (dev16_eq c) ?hS ?hR rfl) $$ [HS O11]
  case hS => rfl
  case hR => rfl
  · isplitr; · iexact HE
    isplitl [HS]; · iexact HS
    iexact O11
  iintro HS
  iapply (wp_waitS m K (k := 7) (by decide) c (n := 12) (j := 14) (by decide) (by decide) ?hS ?hN) $$ [HS]
  case hS => rfl
  case hN => rfl
  · isplitr; · iexact HE
    iexact HS
  iintro HS
  iapply (wp_waitR m K (k := 7) (by decide) c (n := 12) (j := 15) (by decide) (by decide) ?hS ?hN) $$ [HS]
  case hS => rfl
  case hN => rfl
  · isplitr; · iexact HE
    iexact HS
  iintro ⟨HS, Hr⟩
  ihave Hr := (show rPay m 7 c ⊢ pts cc0_scratch20 c (svB m 64 1 3 (pr 1 3 c)) from Entails.refl _) $$ Hr
  icombine Hp Hr as H
  iapply (wp_acc m 1 3 c (kp 1 4 c) 64 64 hf (sd_pr 1 3 c) (Nat.le_refl _) (off43_eq c) _ _ _ (off47_eq c) _ (Memref.whole cc0_scratch20) (fun _ => rfl) (fun _ _ => shapeCast_self _ _)) $$ H
  iintro %f1 %hU1 ⟨Hp, Hr⟩
  iapply (wp_ld c (Memref.whole cc0_scratch4)) $$ Hp; iintro Hp
  iapply (wp_ldO c 1 (kp 1 4 c) 64 g (off43_eq c)) $$ Ho; iintro %_ Ho
  iapply (wp_stO m c 1 g (off43_eq c) (On.own m hU1.1 (off43_eq c) (k0_off43_inb c) k0_pay58 (fun _ => rfl))) $$ Ho; iintro Ho
  iapply wp_done
  iapply Hk
  isplitl [HS]; · iexact HS
  isplitl [Hp]; · iexists _; iexact Hp
  isplitl [Ho]; · iexact Ho
  iexact Hr

theorem part26 (c : Dev nD) (w1 w2 w3 w4 : BitVec 32) {Q} :
   iprop(Env m K ∗ St m c 12 16 ∗ outP 1 (kp 1 4 c) 64 c fullShare (Ov m))
   ⊢ iprop(((St m c 15 16 ∗ outP 1 (kp 1 4 c) 64 c fullShare.right.right.right (Ov m)) -∗ Q ⟨⟩) -∗ WP c (onArgs k0_part26 c w1 w2 w3 w4) Q) := by
  rw [k0_part26_eq_skeleton]; unfold k0_part26_skel onArgs
  simp only [Prog.lift, Prog.bind_op, Prog.bind_ret, Prog.pure_eq_ret]
  iintro ⟨#HE, HS, Ho⟩ Hk
  ihave Ho := (out_four).1 $$ Ho
  icases Ho with ⟨O12, O13, O14, O15⟩
  iapply (wp_xferO m K (k := 12) (by decide) (by decide) c (j := 16) (by decide) 1 (kp 1 4 c) 64 fullShare.left rfl rfl rfl rfl (off48_eq c) _ (dev17_eq c) ?hS ?hR rfl) $$ [HS O12]
  case hS => rfl
  case hR => rfl
  · isplitr; · iexact HE
    isplitl [HS]; · iexact HS
    iexact O12
  iintro HS
  iapply (wp_xferO m K (k := 13) (by decide) (by decide) c (j := 16) (by decide) 1 (kp 1 4 c) 64 fullShare.right.left rfl rfl rfl rfl (off48_eq c) _ (dev18_eq c) ?hS ?hR rfl) $$ [HS O13]
  case hS => rfl
  case hR => rfl
  · isplitr; · iexact HE
    isplitl [HS]; · iexact HS
    iexact O13
  iintro HS
  iapply (wp_xferO m K (k := 14) (by decide) (by decide) c (j := 16) (by decide) 1 (kp 1 4 c) 64 fullShare.right.right.left rfl rfl rfl rfl (off48_eq c) _ (dev19_eq c) ?hS ?hR rfl) $$ [HS O14]
  case hS => rfl
  case hR => rfl
  · isplitr; · iexact HE
    isplitl [HS]; · iexact HS
    iexact O14
  iintro HS
  iapply wp_done
  iapply Hk
  isplitl [HS]; · iexact HS
  iexact O15

theorem part27 (c : Dev nD) (w1 w2 w3 : BitVec 32) {Q} :
   iprop(Env m K ∗ St m c 15 16 ∗ outP 1 (kp 1 4 c) 64 c fullShare.right.right.right (Ov m))
   ⊢ iprop(((St m c 17 18 ∗ outP 0 (sd 0 3 c) 64 c fullShare.right.left (Ov m) ∗ outP 0 (sd 0 3 c) 64 c fullShare.right.right (Ov m)) -∗ Q ⟨⟩) -∗ WP c (onArgs k0_part27 c w1 w2 w3) Q) := by
  rw [k0_part27_eq_skeleton]; unfold k0_part27_skel onArgs
  simp only [Prog.lift, Prog.bind_op, Prog.bind_ret, Prog.pure_eq_ret]
  iintro ⟨#HE, HS, O15⟩ Hk
  iapply (wp_xferO m K (k := 15) (by decide) (by decide) c (j := 16) (by decide) 1 (kp 1 4 c) 64 fullShare.right.right.right rfl rfl rfl rfl (off48_eq c) _ (dev20_eq c) ?hS ?hR rfl) $$ [HS O15]
  case hS => rfl
  case hR => rfl
  · isplitr; · iexact HE
    isplitl [HS]; · iexact HS
    iexact O15
  iintro HS
  iapply (wp_waitS m K (k := 8) (by decide) c (n := 16) (j := 16) (by decide) (by decide) ?hS ?hN) $$ [HS]
  case hS => rfl
  case hN => rfl
  · isplitr; · iexact HE
    iexact HS
  iintro HS
  iapply (wp_waitR m K (k := 8) (by decide) c (n := 16) (j := 17) (by decide) (by decide) ?hS ?hN) $$ [HS]
  case hS => rfl
  case hN => rfl
  · isplitr; · iexact HE
    iexact HS
  iintro ⟨HS, R8⟩
  ihave R8 := (rPay_to m (k := 8) (by decide) c 0 (sd 0 3 c) 64 rfl (sd_eq 0 3 c).symm rfl) $$ R8
  ihave R8 := (out_three).1 $$ R8
  icases R8 with ⟨O16, O17, O18⟩
  iapply (wp_xferO m K (k := 16) (by decide) (by decide) c (j := 18) (by decide) 0 (sd 0 3 c) 64 fullShare.left rfl rfl rfl rfl (off49_eq c) _ (dev21_eq c) ?hS ?hR rfl) $$ [HS O16]
  case hS => rfl
  case hR => rfl
  · isplitr; · iexact HE
    isplitl [HS]; · iexact HS
    iexact O16
  iintro HS
  iapply wp_done
  iapply Hk
  isplitl [HS]; · iexact HS
  isplitl [O17]; · iexact O17
  iexact O18

theorem part28 (c : Dev nD) (w1 w2 w3 : BitVec 32) {Q} :
   iprop(Env m K ∗ St m c 17 18 ∗ outP 0 (sd 0 3 c) 64 c fullShare.right.left (Ov m) ∗ outP 0 (sd 0 3 c) 64 c fullShare.right.right (Ov m))
   ⊢ iprop((∀ v1 v2, (St m c 19 20 ∗ outP 1 (sd 1 3 c) 64 c fullShare (Ov m)) -∗ Q ⟨v1, v2⟩) -∗ WP c (onArgs k0_part28 c w1 w2 w3) Q) := by
  rw [k0_part28_eq_skeleton]; unfold k0_part28_skel onArgs
  simp only [Prog.lift, Prog.bind_op, Prog.bind_ret, Prog.pure_eq_ret]
  iintro ⟨#HE, HS, O17, O18⟩ Hk
  iapply (wp_xferO m K (k := 17) (by decide) (by decide) c (j := 18) (by decide) 0 (sd 0 3 c) 64 fullShare.right.left rfl rfl rfl rfl (off49_eq c) _ (dev22_eq c) ?hS ?hR rfl) $$ [HS O17]
  case hS => rfl
  case hR => rfl
  · isplitr; · iexact HE
    isplitl [HS]; · iexact HS
    iexact O17
  iintro HS
  iapply (wp_xferO m K (k := 18) (by decide) (by decide) c (j := 18) (by decide) 0 (sd 0 3 c) 64 fullShare.right.right rfl rfl rfl rfl (off49_eq c) _ (dev23_eq c) ?hS ?hR rfl) $$ [HS O18]
  case hS => rfl
  case hR => rfl
  · isplitr; · iexact HE
    isplitl [HS]; · iexact HS
    iexact O18
  iintro HS
  iapply (wp_waitS m K (k := 12) (by decide) c (n := 19) (j := 18) (by decide) (by decide) ?hS ?hN) $$ [HS]
  case hS => rfl
  case hN => rfl
  · isplitr; · iexact HE
    iexact HS
  iintro HS
  iapply (wp_waitR m K (k := 12) (by decide) c (n := 19) (j := 19) (by decide) (by decide) ?hS ?hN) $$ [HS]
  case hS => rfl
  case hN => rfl
  · isplitr; · iexact HE
    iexact HS
  iintro ⟨HS, R12⟩
  ihave R12 := (rPay_to m (k := 12) (by decide) c 1 (sd 1 3 c) 64 rfl (sd_eq 1 3 c).symm rfl) $$ R12
  iapply wp_done
  iapply Hk
  isplitl [HS]; · iexact HS
  iexact R12

theorem part29 (c : Dev nD) (w1 w2 w3 w4 : BitVec 32) {Q} :
   iprop(Env m K ∗ St m c 19 20 ∗ outP 1 (sd 1 3 c) 64 c fullShare (Ov m))
   ⊢ iprop(((St m c 22 21) -∗ Q ⟨⟩) -∗ WP c (onArgs k0_part29 c w1 w2 w3 w4) Q) := by
  rw [k0_part29_eq_skeleton]; unfold k0_part29_skel onArgs
  simp only [Prog.lift, Prog.bind_op, Prog.bind_ret, Prog.pure_eq_ret]
  iintro ⟨#HE, HS, R12⟩ Hk
  ihave R12 := (out_three).1 $$ R12
  icases R12 with ⟨O19, O20, O21⟩
  iapply (wp_xferO m K (k := 19) (by decide) (by decide) c (j := 20) (by decide) 1 (sd 1 3 c) 64 fullShare.left rfl rfl rfl rfl (off50_eq c) _ (dev24_eq c) ?hS ?hR rfl) $$ [HS O19]
  case hS => rfl
  case hR => rfl
  · isplitr; · iexact HE
    isplitl [HS]; · iexact HS
    iexact O19
  iintro HS
  iapply (wp_xferO m K (k := 20) (by decide) (by decide) c (j := 20) (by decide) 1 (sd 1 3 c) 64 fullShare.right.left rfl rfl rfl rfl (off50_eq c) _ (dev25_eq c) ?hS ?hR rfl) $$ [HS O20]
  case hS => rfl
  case hR => rfl
  · isplitr; · iexact HE
    isplitl [HS]; · iexact HS
    iexact O20
  iintro HS
  iapply (wp_xferO m K (k := 21) (by decide) (by decide) c (j := 20) (by decide) 1 (sd 1 3 c) 64 fullShare.right.right rfl rfl rfl rfl (off50_eq c) _ (dev26_eq c) ?hS ?hR rfl) $$ [HS O21]
  case hS => rfl
  case hR => rfl
  · isplitr; · iexact HE
    isplitl [HS]; · iexact HS
    iexact O21
  iintro HS
  iapply (wp_waitS m K (k := 9) (by decide) c (n := 22) (j := 20) (by decide) (by decide) ?hS ?hN) $$ [HS]
  case hS => rfl
  case hN => rfl
  · isplitr; · iexact HE
    iexact HS
  iintro HS
  iapply wp_done
  iapply Hk
  iexact HS

theorem part30 (c : Dev nD) (w1 w2 : BitVec 32) {Q} :
   iprop(Env m K ∗ St m c 22 21)
   ⊢ iprop((∀ v, (St m c 23 24 ∗ outP 0 (sd 0 2 c) 128 c fullShare.right (Ov m)) -∗ Q v) -∗ WP c (onArgs k0_part30 c w1 w2) Q) := by
  rw [k0_part30_eq_skeleton]; unfold k0_part30_skel onArgs
  simp only [Prog.lift, Prog.bind_op, Prog.bind_ret, Prog.pure_eq_ret]
  iintro ⟨#HE, HS⟩ Hk
  iapply (wp_waitR m K (k := 9) (by decide) c (n := 22) (j := 21) (by decide) (by decide) ?hS ?hN) $$ [HS]
  case hS => rfl
  case hN => rfl
  · isplitr; · iexact HE
    iexact HS
  iintro ⟨HS, R9⟩
  ihave R9 := (rPay_to m (k := 9) (by decide) c 0 (kp 0 4 (pr 0 2 c)) 64 rfl rfl rfl) $$ R9
  iapply (wp_waitS m K (k := 16) (by decide) c (n := 22) (j := 22) (by decide) (by decide) ?hS ?hN) $$ [HS]
  case hS => rfl
  case hN => rfl
  · isplitr; · iexact HE
    iexact HS
  iintro HS
  iapply (wp_waitR m K (k := 16) (by decide) c (n := 22) (j := 23) (by decide) (by decide) ?hS ?hN) $$ [HS]
  case hS => rfl
  case hN => rfl
  · isplitr; · iexact HE
    iexact HS
  iintro ⟨HS, R16⟩
  ihave R16 := (rPay_to m (k := 16) (by decide) c 0 (sd 0 3 (pr 0 2 c)) 64 rfl rfl rfl) $$ R16
  icombine R9 R16 as H
  ihave Ho := (out_send2 0 c).2 $$ H
  ihave Ho := (out_halves).1 $$ Ho
  icases Ho with ⟨O22, O23⟩
  iapply (wp_xferO m K (k := 22) (by decide) (by decide) c (j := 24) (by decide) 0 (sd 0 2 c) 128 fullShare.left rfl rfl rfl rfl (off51_eq c) _ (dev27_eq c) ?hS ?hR rfl) $$ [HS O22]
  case hS => rfl
  case hR => rfl
  · isplitr; · iexact HE
    isplitl [HS]; · iexact HS
    iexact O22
  iintro HS
  iapply wp_done
  iapply Hk
  isplitl [HS]; · iexact HS
  iexact O23

theorem part31 (c : Dev nD) (w1 w2 w3 : BitVec 32) {Q} :
   iprop(Env m K ∗ St m c 23 24 ∗ outP 0 (sd 0 2 c) 128 c fullShare.right (Ov m))
   ⊢ iprop(((St m c 24 27 ∗ outP 1 (kp 1 4 (pr 1 2 c)) 64 c fullShare (Ov m)) -∗ Q ⟨⟩) -∗ WP c (onArgs k0_part31 c w1 w2 w3) Q) := by
  rw [k0_part31_eq_skeleton]; unfold k0_part31_skel onArgs
  simp only [Prog.lift, Prog.bind_op, Prog.bind_ret, Prog.pure_eq_ret]
  iintro ⟨#HE, HS, O23⟩ Hk
  iapply (wp_xferO m K (k := 23) (by decide) (by decide) c (j := 24) (by decide) 0 (sd 0 2 c) 128 fullShare.right rfl rfl rfl rfl (off51_eq c) _ (dev28_eq c) ?hS ?hR rfl) $$ [HS O23]
  case hS => rfl
  case hR => rfl
  · isplitr; · iexact HE
    isplitl [HS]; · iexact HS
    iexact O23
  iintro HS
  iapply (wp_waitS m K (k := 13) (by decide) c (n := 24) (j := 24) (by decide) (by decide) ?hS ?hN) $$ [HS]
  case hS => rfl
  case hN => rfl
  · isplitr; · iexact HE
    iexact HS
  iintro HS
  iapply (wp_waitR m K (k := 13) (by decide) c (n := 24) (j := 25) (by decide) (by decide) ?hS ?hN) $$ [HS]
  case hS => rfl
  case hN => rfl
  · isplitr; · iexact HE
    iexact HS
  iintro ⟨HS, R13⟩
  ihave R13 := (rPay_to m (k := 13) (by decide) c 1 (kp 1 4 (pr 1 2 c)) 64 rfl rfl rfl) $$ R13
  iapply (wp_waitS m K (k := 19) (by decide) c (n := 24) (j := 26) (by decide) (by decide) ?hS ?hN) $$ [HS]
  case hS => rfl
  case hN => rfl
  · isplitr; · iexact HE
    iexact HS
  iintro HS
  iapply wp_done
  iapply Hk
  isplitl [HS]; · iexact HS
  iexact R13

theorem part32 (c : Dev nD) (w1 w2 w3 : BitVec 32) {Q} :
   iprop(Env m K ∗ St m c 24 27 ∗ outP 1 (kp 1 4 (pr 1 2 c)) 64 c fullShare (Ov m))
   ⊢ iprop(((St m c 26 29) -∗ Q ⟨⟩) -∗ WP c (onArgs k0_part32 c w1 w2 w3) Q) := by
  rw [k0_part32_eq_skeleton]; unfold k0_part32_skel onArgs
  simp only [Prog.lift, Prog.bind_op, Prog.bind_ret, Prog.pure_eq_ret]
  iintro ⟨#HE, HS, R13⟩ Hk
  iapply (wp_waitR m K (k := 19) (by decide) c (n := 24) (j := 27) (by decide) (by decide) ?hS ?hN) $$ [HS]
  case hS => rfl
  case hN => rfl
  · isplitr; · iexact HE
    iexact HS
  iintro ⟨HS, R19⟩
  ihave R19 := (rPay_to m (k := 19) (by decide) c 1 (sd 1 3 (pr 1 2 c)) 64 rfl rfl rfl) $$ R19
  icombine R13 R19 as H
  ihave Ho := (out_send2 1 c).2 $$ H
  ihave Ho := (out_halves).1 $$ Ho
  icases Ho with ⟨O24, O25⟩
  iapply (wp_xferO m K (k := 24) (by decide) (by decide) c (j := 28) (by decide) 1 (sd 1 2 c) 128 fullShare.left rfl rfl rfl rfl (off52_eq c) _ (dev29_eq c) ?hS ?hR rfl) $$ [HS O24]
  case hS => rfl
  case hR => rfl
  · isplitr; · iexact HE
    isplitl [HS]; · iexact HS
    iexact O24
  iintro HS
  iapply (wp_xferO m K (k := 25) (by decide) (by decide) c (j := 28) (by decide) 1 (sd 1 2 c) 128 fullShare.right rfl rfl rfl rfl (off52_eq c) _ (dev30_eq c) ?hS ?hR rfl) $$ [HS O25]
  case hS => rfl
  case hR => rfl
  · isplitr; · iexact HE
    isplitl [HS]; · iexact HS
    iexact O25
  iintro HS
  iapply (wp_waitS m K (k := 10) (by decide) c (n := 26) (j := 28) (by decide) (by decide) ?hS ?hN) $$ [HS]
  case hS => rfl
  case hN => rfl
  · isplitr; · iexact HE
    iexact HS
  iintro HS
  iapply wp_done
  iapply Hk
  iexact HS

theorem part33 (c : Dev nD) (w1 : BitVec 32) {Q} :
   iprop(Env m K ∗ St m c 26 29)
   ⊢ iprop(((St m c 26 33 ∗ outP 0 (kp 0 4 (pr 0 1 c)) 64 c fullShare (Ov m) ∗ outP 0 (sd 0 3 (pr 0 1 c)) 64 c fullShare (Ov m)) -∗ Q ⟨⟩) -∗ WP c (onArgs k0_part33 c w1) Q) := by
  rw [k0_part33_eq_skeleton]; unfold k0_part33_skel onArgs
  simp only [Prog.lift, Prog.bind_op, Prog.bind_ret, Prog.pure_eq_ret]
  iintro ⟨#HE, HS⟩ Hk
  iapply (wp_waitR m K (k := 10) (by decide) c (n := 26) (j := 29) (by decide) (by decide) ?hS ?hN) $$ [HS]
  case hS => rfl
  case hN => rfl
  · isplitr; · iexact HE
    iexact HS
  iintro ⟨HS, R10⟩
  ihave R10 := (rPay_to m (k := 10) (by decide) c 0 (kp 0 4 (pr 0 1 c)) 64 rfl rfl rfl) $$ R10
  iapply (wp_waitS m K (k := 17) (by decide) c (n := 26) (j := 30) (by decide) (by decide) ?hS ?hN) $$ [HS]
  case hS => rfl
  case hN => rfl
  · isplitr; · iexact HE
    iexact HS
  iintro HS
  iapply (wp_waitR m K (k := 17) (by decide) c (n := 26) (j := 31) (by decide) (by decide) ?hS ?hN) $$ [HS]
  case hS => rfl
  case hN => rfl
  · isplitr; · iexact HE
    iexact HS
  iintro ⟨HS, R17⟩
  ihave R17 := (rPay_to m (k := 17) (by decide) c 0 (sd 0 3 (pr 0 1 c)) 64 rfl rfl rfl) $$ R17
  iapply (wp_waitS m K (k := 22) (by decide) c (n := 26) (j := 32) (by decide) (by decide) ?hS ?hN) $$ [HS]
  case hS => rfl
  case hN => rfl
  · isplitr; · iexact HE
    iexact HS
  iintro HS
  iapply wp_done
  iapply Hk
  isplitl [HS]; · iexact HS
  isplitl [R10]; · iexact R10
  iexact R17

theorem part34 (c : Dev nD) (w1 : BitVec 32) {Q} :
   iprop(Env m K ∗ St m c 26 33 ∗ outP 0 (kp 0 4 (pr 0 1 c)) 64 c fullShare (Ov m) ∗ outP 0 (sd 0 3 (pr 0 1 c)) 64 c fullShare (Ov m))
   ⊢ iprop(((St m c 27 37 ∗ outP 1 (kp 1 4 (pr 1 1 c)) 64 c fullShare (Ov m)) -∗ Q ⟨⟩) -∗ WP c (onArgs k0_part34 c w1) Q) := by
  rw [k0_part34_eq_skeleton]; unfold k0_part34_skel onArgs
  simp only [Prog.lift, Prog.bind_op, Prog.bind_ret, Prog.pure_eq_ret]
  iintro ⟨#HE, HS, R10, R17⟩ Hk
  iapply (wp_waitR m K (k := 22) (by decide) c (n := 26) (j := 33) (by decide) (by decide) ?hS ?hN) $$ [HS]
  case hS => rfl
  case hN => rfl
  · isplitr; · iexact HE
    iexact HS
  iintro ⟨HS, R22⟩
  ihave R22 := (rPay_to m (k := 22) (by decide) c 0 (sd 0 2 (pr 0 1 c)) 128 rfl rfl rfl) $$ R22
  icombine R10 R17 as H
  icombine H R22 as H
  ihave O26 := (out_send1 0 c).2 $$ H
  iapply (wp_xferO m K (k := 26) (by decide) (by decide) c (j := 34) (by decide) 0 (sd 0 1 c) 256 fullShare rfl rfl rfl rfl (off53_eq c) _ (dev31_eq c) ?hS ?hR rfl) $$ [HS O26]
  case hS => rfl
  case hR => rfl
  · isplitr; · iexact HE
    isplitl [HS]; · iexact HS
    iexact O26
  iintro HS
  iapply (wp_waitS m K (k := 14) (by decide) c (n := 27) (j := 34) (by decide) (by decide) ?hS ?hN) $$ [HS]
  case hS => rfl
  case hN => rfl
  · isplitr; · iexact HE
    iexact HS
  iintro HS
  iapply (wp_waitR m K (k := 14) (by decide) c (n := 27) (j := 35) (by decide) (by decide) ?hS ?hN) $$ [HS]
  case hS => rfl
  case hN => rfl
  · isplitr; · iexact HE
    iexact HS
  iintro ⟨HS, R14⟩
  ihave R14 := (rPay_to m (k := 14) (by decide) c 1 (kp 1 4 (pr 1 1 c)) 64 rfl rfl rfl) $$ R14
  iapply (wp_waitS m K (k := 20) (by decide) c (n := 27) (j := 36) (by decide) (by decide) ?hS ?hN) $$ [HS]
  case hS => rfl
  case hN => rfl
  · isplitr; · iexact HE
    iexact HS
  iintro HS
  iapply wp_done
  iapply Hk
  isplitl [HS]; · iexact HS
  iexact R14

theorem part35 (c : Dev nD) (w1 w2 : BitVec 32) {Q} :
   iprop(Env m K ∗ St m c 27 37 ∗ outP 1 (kp 1 4 (pr 1 1 c)) 64 c fullShare (Ov m))
   ⊢ iprop(((St m c 28 40) -∗ Q ⟨⟩) -∗ WP c (onArgs k0_part35 c w1 w2) Q) := by
  rw [k0_part35_eq_skeleton]; unfold k0_part35_skel onArgs
  simp only [Prog.lift, Prog.bind_op, Prog.bind_ret, Prog.pure_eq_ret]
  iintro ⟨#HE, HS, R14⟩ Hk
  iapply (wp_waitR m K (k := 20) (by decide) c (n := 27) (j := 37) (by decide) (by decide) ?hS ?hN) $$ [HS]
  case hS => rfl
  case hN => rfl
  · isplitr; · iexact HE
    iexact HS
  iintro ⟨HS, R20⟩
  ihave R20 := (rPay_to m (k := 20) (by decide) c 1 (sd 1 3 (pr 1 1 c)) 64 rfl rfl rfl) $$ R20
  iapply (wp_waitS m K (k := 24) (by decide) c (n := 27) (j := 38) (by decide) (by decide) ?hS ?hN) $$ [HS]
  case hS => rfl
  case hN => rfl
  · isplitr; · iexact HE
    iexact HS
  iintro HS
  iapply (wp_waitR m K (k := 24) (by decide) c (n := 27) (j := 39) (by decide) (by decide) ?hS ?hN) $$ [HS]
  case hS => rfl
  case hN => rfl
  · isplitr; · iexact HE
    iexact HS
  iintro ⟨HS, R24⟩
  ihave R24 := (rPay_to m (k := 24) (by decide) c 1 (sd 1 2 (pr 1 1 c)) 128 rfl rfl rfl) $$ R24
  icombine R14 R20 as H
  icombine H R24 as H
  ihave O27 := (out_send1 1 c).2 $$ H
  iapply (wp_xferO m K (k := 27) (by decide) (by decide) c (j := 40) (by decide) 1 (sd 1 1 c) 256 fullShare rfl rfl rfl rfl (off54_eq c) _ (dev32_eq c) ?hS ?hR rfl) $$ [HS O27]
  case hS => rfl
  case hR => rfl
  · isplitr; · iexact HE
    isplitl [HS]; · iexact HS
    iexact O27
  iintro HS
  iapply wp_done
  iapply Hk
  iexact HS

theorem part36 (c : Dev nD) (w1 : BitVec 32) {Q} :
   iprop(Env m K ∗ St m c 28 40)
   ⊢ iprop(((St m c 28 44 ∗ outP 0 (kp 0 4 (pr 0 0 c)) 64 c fullShare (Ov m) ∗ outP 0 (sd 0 3 (pr 0 0 c)) 64 c fullShare (Ov m)) -∗ Q ⟨⟩) -∗ WP c (onArgs k0_part36 c w1) Q) := by
  rw [k0_part36_eq_skeleton]; unfold k0_part36_skel onArgs
  simp only [Prog.lift, Prog.bind_op, Prog.bind_ret, Prog.pure_eq_ret]
  iintro ⟨#HE, HS⟩ Hk
  iapply (wp_waitS m K (k := 11) (by decide) c (n := 28) (j := 40) (by decide) (by decide) ?hS ?hN) $$ [HS]
  case hS => rfl
  case hN => rfl
  · isplitr; · iexact HE
    iexact HS
  iintro HS
  iapply (wp_waitR m K (k := 11) (by decide) c (n := 28) (j := 41) (by decide) (by decide) ?hS ?hN) $$ [HS]
  case hS => rfl
  case hN => rfl
  · isplitr; · iexact HE
    iexact HS
  iintro ⟨HS, R11⟩
  ihave R11 := (rPay_to m (k := 11) (by decide) c 0 (kp 0 4 (pr 0 0 c)) 64 rfl rfl rfl) $$ R11
  iapply (wp_waitS m K (k := 18) (by decide) c (n := 28) (j := 42) (by decide) (by decide) ?hS ?hN) $$ [HS]
  case hS => rfl
  case hN => rfl
  · isplitr; · iexact HE
    iexact HS
  iintro HS
  iapply (wp_waitR m K (k := 18) (by decide) c (n := 28) (j := 43) (by decide) (by decide) ?hS ?hN) $$ [HS]
  case hS => rfl
  case hN => rfl
  · isplitr; · iexact HE
    iexact HS
  iintro ⟨HS, R18⟩
  ihave R18 := (rPay_to m (k := 18) (by decide) c 0 (sd 0 3 (pr 0 0 c)) 64 rfl rfl rfl) $$ R18
  iapply wp_done
  iapply Hk
  isplitl [HS]; · iexact HS
  isplitl [R11]; · iexact R11
  iexact R18

theorem part37 (c : Dev nD) (w1 : BitVec 32) {Q} :
   iprop(Env m K ∗ St m c 28 44)
   ⊢ iprop(((St m c 28 49 ∗ outP 0 (sd 0 2 (pr 0 0 c)) 128 c fullShare (Ov m) ∗ outP 0 (sd 0 1 (pr 0 0 c)) 256 c fullShare (Ov m)) -∗ Q ⟨⟩) -∗ WP c (onArgs k0_part37 c w1) Q) := by
  rw [k0_part37_eq_skeleton]; unfold k0_part37_skel onArgs
  simp only [Prog.lift, Prog.bind_op, Prog.bind_ret, Prog.pure_eq_ret]
  iintro ⟨#HE, HS⟩ Hk
  iapply (wp_waitS m K (k := 23) (by decide) c (n := 28) (j := 44) (by decide) (by decide) ?hS ?hN) $$ [HS]
  case hS => rfl
  case hN => rfl
  · isplitr; · iexact HE
    iexact HS
  iintro HS
  iapply (wp_waitR m K (k := 23) (by decide) c (n := 28) (j := 45) (by decide) (by decide) ?hS ?hN) $$ [HS]
  case hS => rfl
  case hN => rfl
  · isplitr; · iexact HE
    iexact HS
  iintro ⟨HS, R23⟩
  ihave R23 := (rPay_to m (k := 23) (by decide) c 0 (sd 0 2 (pr 0 0 c)) 128 rfl rfl rfl) $$ R23
  iapply (wp_waitS m K (k := 26) (by decide) c (n := 28) (j := 46) (by decide) (by decide) ?hS ?hN) $$ [HS]
  case hS => rfl
  case hN => rfl
  · isplitr; · iexact HE
    iexact HS
  iintro HS
  iapply (wp_waitR m K (k := 26) (by decide) c (n := 28) (j := 47) (by decide) (by decide) ?hS ?hN) $$ [HS]
  case hS => rfl
  case hN => rfl
  · isplitr; · iexact HE
    iexact HS
  iintro ⟨HS, R26⟩
  ihave R26 := (rPay_to m (k := 26) (by decide) c 0 (sd 0 1 (pr 0 0 c)) 256 rfl rfl rfl) $$ R26
  iapply (wp_waitS m K (k := 15) (by decide) c (n := 28) (j := 48) (by decide) (by decide) ?hS ?hN) $$ [HS]
  case hS => rfl
  case hN => rfl
  · isplitr; · iexact HE
    iexact HS
  iintro HS
  iapply wp_done
  iapply Hk
  isplitl [HS]; · iexact HS
  isplitl [R23]; · iexact R23
  iexact R26

theorem part38 (c : Dev nD) (w1 : BitVec 32) {Q} :
   iprop(Env m K ∗ St m c 28 49)
   ⊢ iprop(((St m c 28 53 ∗ outP 1 (kp 1 4 (pr 1 0 c)) 64 c fullShare (Ov m) ∗ outP 1 (sd 1 3 (pr 1 0 c)) 64 c fullShare (Ov m)) -∗ Q ⟨⟩) -∗ WP c (onArgs k0_part38 c w1) Q) := by
  rw [k0_part38_eq_skeleton]; unfold k0_part38_skel onArgs
  simp only [Prog.lift, Prog.bind_op, Prog.bind_ret, Prog.pure_eq_ret]
  iintro ⟨#HE, HS⟩ Hk
  iapply (wp_waitR m K (k := 15) (by decide) c (n := 28) (j := 49) (by decide) (by decide) ?hS ?hN) $$ [HS]
  case hS => rfl
  case hN => rfl
  · isplitr; · iexact HE
    iexact HS
  iintro ⟨HS, R15⟩
  ihave R15 := (rPay_to m (k := 15) (by decide) c 1 (kp 1 4 (pr 1 0 c)) 64 rfl rfl rfl) $$ R15
  iapply (wp_waitS m K (k := 21) (by decide) c (n := 28) (j := 50) (by decide) (by decide) ?hS ?hN) $$ [HS]
  case hS => rfl
  case hN => rfl
  · isplitr; · iexact HE
    iexact HS
  iintro HS
  iapply (wp_waitR m K (k := 21) (by decide) c (n := 28) (j := 51) (by decide) (by decide) ?hS ?hN) $$ [HS]
  case hS => rfl
  case hN => rfl
  · isplitr; · iexact HE
    iexact HS
  iintro ⟨HS, R21⟩
  ihave R21 := (rPay_to m (k := 21) (by decide) c 1 (sd 1 3 (pr 1 0 c)) 64 rfl rfl rfl) $$ R21
  iapply (wp_waitS m K (k := 25) (by decide) c (n := 28) (j := 52) (by decide) (by decide) ?hS ?hN) $$ [HS]
  case hS => rfl
  case hN => rfl
  · isplitr; · iexact HE
    iexact HS
  iintro HS
  iapply wp_done
  iapply Hk
  isplitl [HS]; · iexact HS
  isplitl [R15]; · iexact R15
  iexact R21

end Cert.AR

end
-- ==== Proof.Body.lean ====
/-
# The body

The pieces put together: from the state a device starts in to the state it ends in, with the result in its buffer.
-/
module

public import proofs.«01_k».proof.Proof.Parts6

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

omit [FloatOps F] in
set_option maxRecDepth 20000 in
theorem bigSep_live (Φ : Fin 30 → sProp 𝕄) : bigSep live Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_eq_bigSepL_of_eq (S := live) [0, 1, 2, 3, 4, 5, 6, 7, 8, 9, 10, 11, 12, 13, 14, 15, 16, 17, 18, 19, 20, 21, 22, 23, 24, 25, 26, 27] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem sep2 (s : Finset (Fin 30)) (A B : Fin 30 → sProp 𝕄) : bigSep s (fun k => iprop(A k ∗ B k)) = iprop(bigSep s A ∗ bigSep s B) := bigSep_sep s A B

omit [FloatOps F] in
theorem sep4 (A B C D : sProp 𝕄) : iprop(A ∗ B ∗ C ∗ D) = iprop((A ∗ B ∗ C) ∗ D) := by
  have h1 : iprop(A ∗ B ∗ C ∗ D) ⊢ iprop((A ∗ B ∗ C) ∗ D) := by
    iintro ⟨H1, H2, H3, H4⟩
    isplitr [H4]
    · isplitl [H1]; · iexact H1
      isplitl [H2] <;> iassumption
    · iexact H4
  have h2 : iprop((A ∗ B ∗ C) ∗ D) ⊢ iprop(A ∗ B ∗ C ∗ D) := by
    iintro ⟨⟨H1, H2, H3⟩, H4⟩
    isplitl [H1]; · iexact H1
    isplitl [H2]; · iexact H2
    isplitl [H3] <;> iassumption
  exact equiv_iff.mp ⟨h1, h2⟩

/-! ## The transfers, at the start and at the end -/

/-- What a device holds of its transfers before the barrier. -/
def lanes₀ (c : Dev nD) : sProp 𝕄 := bigSep live fun k => iprop(atPos ER (sCell k c) 0 ∅ 0 ∗ dutyTok ER (sCell k c) 0 0 ∗ dutyTok ER (rCell k (pt k c)) 0 0)
def lanesR₀ (c : Dev nD) : sProp 𝕄 := bigSep live fun k => iprop(atPos ER (rCell k c) 0 ∅ 0 ∗ cred (tallyAt (rCell k c) () (N k)))

theorem St_start (c : Dev nD) : iprop((∃ W, owes (c : Thread nD τ) (O c 0) W) ∗ (bigSep live fun k => land (F := F) k (pt k c)) ∗ lanes₀ c ∗ lanesR₀ c) ⊢ St m c 0 0 := by
  unfold St lanes₀ lanesR₀
  have e1 : bigSep live (laneS m c 0 0) = iprop((bigSep live fun k => iprop(atPos ER (sCell k c) 0 ∅ 0 ∗ dutyTok ER (sCell k c) 0 0 ∗ dutyTok ER (rCell k (pt k c)) 0 0)) ∗ bigSep live fun k => land (F := F) k (pt k c)) := by
    rw [← sep2]
    refine bigSep_congr fun k _ => ?_
    unfold laneS
    rw [if_neg (by omega), if_neg (by omega)]
    exact sep4 _ _ _ _
  have e2 : bigSep live (laneR (F := F) c 0) = bigSep live fun k => iprop(atPos ER (rCell k c) 0 ∅ 0 ∗ cred (tallyAt (rCell k c) () (N k))) :=
    bigSep_congr fun k _ => by unfold laneR; rw [if_neg (by omega)]
  rw [e1, e2]
  iintro ⟨HO, HL, H1, H2⟩
  isplitl [HO]; · iexact HO
  isplitr [H2]
  · isplitl [H1] <;> iassumption
  · iexact H2

theorem wr_lt (k : Fin 30) : k.val < 28 → wr k < 28 := by revert k; decide +kernel
theorem St_end (c : Dev nD) : St m c 28 56 ⊢ iprop((∃ W, owes (c : Thread nD τ) 0 W) ∗ ((bigSep live fun k => semVal (sCell k c) 0) ∗ bigSep live fun k => sPay m k c) ∗ bigSep live fun k => semVal (rCell k c) 0) := by
  unfold St
  have e1 : bigSep live (laneS m c 28 56) = iprop((bigSep live fun k => semVal (sCell k c) 0) ∗ bigSep live fun k => sPay m k c) := by
    rw [← sep2]
    exact bigSep_congr fun k hk => by unfold laneS; rw [if_pos (by have := wr_lt k (mem_live.mp hk); omega)]
  have e2 : bigSep live (laneR (F := F) c 56) = bigSep live fun k => semVal (rCell k c) 0 :=
    bigSep_congr fun k hk => by unfold laneR; rw [if_pos (by have := wr_lt k (mem_live.mp hk); omega)]
  rw [e1, e2, O_end]

/-! ## The result buffer, taken apart and put together -/

theorem out_whole (c : Dev nD) (f : (cc0_stg7_0 : Ref sig .tc).ty.Contents (Elt F)) : pts cc0_stg7_0 c f ⊣⊢ iprop(outP 0 0 1024 c fullShare f ∗ outP 1 0 1024 c fullShare f) := by
  have e : (Finset.univ : Finset S1024x1024.Idx) = reg 0 0 1024 ∪ reg 1 0 1024 := by
    ext i
    have l0 : (i 0).val < 1024 := (i 0).isLt
    have l1 : (i 1).val < 1024 := (i 1).isLt
    rw [Finset.mem_union, mem_reg, mem_reg]
    have h0 : ((0 : Fin 2) : ℕ) = 0 := rfl
    have h1 : ((1 : Fin 2) : ℕ) = 1 := rfl
    rw [h0, h1]
    simp only [Finset.mem_univ, true_iff]
    omega
  have hd : Disjoint (reg 0 0 1024) (reg 1 0 1024) := by
    rw [Finset.disjoint_left]; intro i h1 h2; rw [mem_reg] at h1 h2
    have h3 : (i 1).val / 512 = 0 := h1.2.2
    have h4 : (i 1).val / 512 = 1 := h2.2.2
    omega
  have h := pointsTo_union (ℓ := (c : Thread nD τ).loc cc0_stg7_0) (q := fullShare) (f := f) (Ix := Unit) (Name := ℕ) (U := UU) (Lvl := ℕ) hd
  rw [← e] at h
  exact h

omit [FloatOps F] in
theorem land_of {k : Fin 30} (hk : 8 ≤ k.val) (c : Dev nD) (t : Fin 2) (r nn : ℕ) (f : (cc0_stg7_0 : Ref sig .tc).ty.Contents (Elt F)) (ht : tr k = t) (hr : fr k (pt k c) = r) (hnn : fn k = nn) :
    outP t r nn c fullShare f ⊢ land (F := F) k c := by
  subst ht hr hnn; rw [land_ag hk]; iintro H; iexists f; iexact H

/-- Column half 0 of the result buffer: a device's own rows, and the landing places of the transfers. -/
theorem scatter0 (c : Dev nD) (f : (cc0_stg7_0 : Ref sig .tc).ty.Contents (Elt F)) :
    outP 0 0 1024 c fullShare f ⊢ iprop(outP 0 (kp 0 4 c) 64 c fullShare f ∗ land (F := F) 8 c ∗ land (F := F) 9 c ∗ land (F := F) 16 c ∗ land (F := F) 10 c ∗ land (F := F) 17 c ∗ land (F := F) 22 c ∗ land (F := F) 11 c ∗ land (F := F) 18 c ∗ land (F := F) 23 c ∗ land (F := F) 26 c) := by
  iintro H
  ihave H := (out_all 0 c).1 $$ H
  icases H with ⟨⟨⟨⟨H0, H8⟩, Hb⟩, Hc⟩, Hd⟩
  ihave Hb := (out_send2 0 c).1 $$ Hb
  icases Hb with ⟨H9, H16⟩
  ihave Hc := (out_send1 0 c).1 $$ Hc
  icases Hc with ⟨⟨H10, H17⟩, H22⟩
  ihave Hd := (out_send0 0 c).1 $$ Hd
  icases Hd with ⟨⟨⟨H11, H18⟩, H23⟩, H26⟩
  isplitl [H0]; · iexact H0
  isplitl [H8]; · iapply (land_of (k := 8) (by decide) c 0 (sd 0 3 c) 64 f rfl (sd_eq 0 3 c).symm rfl); iexact H8
  isplitl [H9]; · iapply (land_of (k := 9) (by decide) c 0 (kp 0 4 (pr 0 2 c)) 64 f rfl rfl rfl); iexact H9
  isplitl [H16]; · iapply (land_of (k := 16) (by decide) c 0 (sd 0 3 (pr 0 2 c)) 64 f rfl rfl rfl); iexact H16
  isplitl [H10]; · iapply (land_of (k := 10) (by decide) c 0 (kp 0 4 (pr 0 1 c)) 64 f rfl rfl rfl); iexact H10
  isplitl [H17]; · iapply (land_of (k := 17) (by decide) c 0 (sd 0 3 (pr 0 1 c)) 64 f rfl rfl rfl); iexact H17
  isplitl [H22]; · iapply (land_of (k := 22) (by decide) c 0 (sd 0 2 (pr 0 1 c)) 128 f rfl rfl rfl); iexact H22
  isplitl [H11]; · iapply (land_of (k := 11) (by decide) c 0 (kp 0 4 (pr 0 0 c)) 64 f rfl rfl rfl); iexact H11
  isplitl [H18]; · iapply (land_of (k := 18) (by decide) c 0 (sd 0 3 (pr 0 0 c)) 64 f rfl rfl rfl); iexact H18
  isplitl [H23]; · iapply (land_of (k := 23) (by decide) c 0 (sd 0 2 (pr 0 0 c)) 128 f rfl rfl rfl); iexact H23
  iapply (land_of (k := 26) (by decide) c 0 (sd 0 1 (pr 0 0 c)) 256 f rfl rfl rfl); iexact H26

/-- Column half 1 of the result buffer: a device's own rows, and the landing places of the transfers. -/
theorem scatter1 (c : Dev nD) (f : (cc0_stg7_0 : Ref sig .tc).ty.Contents (Elt F)) :
    outP 1 0 1024 c fullShare f ⊢ iprop(outP 1 (kp 1 4 c) 64 c fullShare f ∗ land (F := F) 12 c ∗ land (F := F) 13 c ∗ land (F := F) 19 c ∗ land (F := F) 14 c ∗ land (F := F) 20 c ∗ land (F := F) 24 c ∗ land (F := F) 15 c ∗ land (F := F) 21 c ∗ land (F := F) 25 c ∗ land (F := F) 27 c) := by
  iintro H
  ihave H := (out_all 1 c).1 $$ H
  icases H with ⟨⟨⟨⟨H0, H12⟩, Hb⟩, Hc⟩, Hd⟩
  ihave Hb := (out_send2 1 c).1 $$ Hb
  icases Hb with ⟨H13, H19⟩
  ihave Hc := (out_send1 1 c).1 $$ Hc
  icases Hc with ⟨⟨H14, H20⟩, H24⟩
  ihave Hd := (out_send0 1 c).1 $$ Hd
  icases Hd with ⟨⟨⟨H15, H21⟩, H25⟩, H27⟩
  isplitl [H0]; · iexact H0
  isplitl [H12]; · iapply (land_of (k := 12) (by decide) c 1 (sd 1 3 c) 64 f rfl (sd_eq 1 3 c).symm rfl); iexact H12
  isplitl [H13]; · iapply (land_of (k := 13) (by decide) c 1 (kp 1 4 (pr 1 2 c)) 64 f rfl rfl rfl); iexact H13
  isplitl [H19]; · iapply (land_of (k := 19) (by decide) c 1 (sd 1 3 (pr 1 2 c)) 64 f rfl rfl rfl); iexact H19
  isplitl [H14]; · iapply (land_of (k := 14) (by decide) c 1 (kp 1 4 (pr 1 1 c)) 64 f rfl rfl rfl); iexact H14
  isplitl [H20]; · iapply (land_of (k := 20) (by decide) c 1 (sd 1 3 (pr 1 1 c)) 64 f rfl rfl rfl); iexact H20
  isplitl [H24]; · iapply (land_of (k := 24) (by decide) c 1 (sd 1 2 (pr 1 1 c)) 128 f rfl rfl rfl); iexact H24
  isplitl [H15]; · iapply (land_of (k := 15) (by decide) c 1 (kp 1 4 (pr 1 0 c)) 64 f rfl rfl rfl); iexact H15
  isplitl [H21]; · iapply (land_of (k := 21) (by decide) c 1 (sd 1 3 (pr 1 0 c)) 64 f rfl rfl rfl); iexact H21
  isplitl [H25]; · iapply (land_of (k := 25) (by decide) c 1 (sd 1 2 (pr 1 0 c)) 128 f rfl rfl rfl); iexact H25
  iapply (land_of (k := 27) (by decide) c 1 (sd 1 1 (pr 1 0 c)) 256 f rfl rfl rfl); iexact H27

/-- The finished column half 0: what the departures give back, and what came in last. -/
theorem gather0 (c : Dev nD) :
    iprop((sPay m 8 c ∗ sPay m 9 c ∗ sPay m 10 c ∗ sPay m 11 c ∗ sPay m 16 c ∗ sPay m 17 c ∗ sPay m 18 c ∗ sPay m 22 c ∗ sPay m 23 c ∗ sPay m 26 c) ∗ outP 0 (kp 0 4 (pr 0 0 c)) 64 c fullShare (Ov m) ∗ outP 0 (sd 0 3 (pr 0 0 c)) 64 c fullShare (Ov m) ∗ outP 0 (sd 0 2 (pr 0 0 c)) 128 c fullShare (Ov m) ∗ outP 0 (sd 0 1 (pr 0 0 c)) 256 c fullShare (Ov m)) ⊢ outP 0 0 1024 c fullShare (Ov m) := by
  rw [show sPay m 8 c = outP 0 (kp 0 4 c) 64 c fullShare.left (Ov m) from rfl, show sPay m 9 c = outP 0 (kp 0 4 c) 64 c fullShare.right.left (Ov m) from rfl, show sPay m 10 c = outP 0 (kp 0 4 c) 64 c fullShare.right.right.left (Ov m) from rfl, show sPay m 11 c = outP 0 (kp 0 4 c) 64 c fullShare.right.right.right (Ov m) from rfl, show sPay m 16 c = outP 0 (sd 0 3 c) 64 c fullShare.left (Ov m) from rfl, show sPay m 17 c = outP 0 (sd 0 3 c) 64 c fullShare.right.left (Ov m) from rfl, show sPay m 18 c = outP 0 (sd 0 3 c) 64 c fullShare.right.right (Ov m) from rfl, show sPay m 22 c = outP 0 (sd 0 2 c) 128 c fullShare.left (Ov m) from rfl, show sPay m 23 c = outP 0 (sd 0 2 c) 128 c fullShare.right (Ov m) from rfl, show sPay m 26 c = outP 0 (sd 0 1 c) 256 c fullShare (Ov m) from rfl]
  iintro ⟨⟨S8, S9, S10, S11, S16, S17, S18, S22, S23, S26⟩, R11, R18, R23, R26⟩
  ihave HA := (out_four).2 $$ [S8 S9 S10 S11]
  · isplitl [S8]; · iexact S8
    isplitl [S9]; · iexact S9
    isplitl [S10] <;> iassumption
  ihave HB := (out_three).2 $$ [S16 S17 S18]
  · isplitl [S16]; · iexact S16
    isplitl [S17] <;> iassumption
  ihave HC := (out_halves).2 $$ [S22 S23]
  · isplitl [S22] <;> iassumption
  ihave HE := (out_send0 0 c).2 $$ [R11 R18 R23 R26]
  · isplitr [R26]
    · isplitr [R23]
      · isplitl [R11] <;> iassumption
      · iexact R23
    · iexact R26
  iapply (out_all 0 c).2
  isplitr [HE]
  · isplitr [S26]
    · isplitr [HC]
      · isplitl [HA] <;> iassumption
      · iexact HC
    · iexact S26
  · iexact HE

/-- The finished column half 1: what the departures give back, and what came in last. -/
theorem gather1 (c : Dev nD) :
    iprop((sPay m 12 c ∗ sPay m 13 c ∗ sPay m 14 c ∗ sPay m 15 c ∗ sPay m 19 c ∗ sPay m 20 c ∗ sPay m 21 c ∗ sPay m 24 c ∗ sPay m 25 c ∗ sPay m 27 c) ∗ outP 1 (kp 1 4 (pr 1 0 c)) 64 c fullShare (Ov m) ∗ outP 1 (sd 1 3 (pr 1 0 c)) 64 c fullShare (Ov m) ∗ outP 1 (sd 1 2 (pr 1 0 c)) 128 c fullShare (Ov m) ∗ outP 1 (sd 1 1 (pr 1 0 c)) 256 c fullShare (Ov m)) ⊢ outP 1 0 1024 c fullShare (Ov m) := by
  rw [show sPay m 12 c = outP 1 (kp 1 4 c) 64 c fullShare.left (Ov m) from rfl, show sPay m 13 c = outP 1 (kp 1 4 c) 64 c fullShare.right.left (Ov m) from rfl, show sPay m 14 c = outP 1 (kp 1 4 c) 64 c fullShare.right.right.left (Ov m) from rfl, show sPay m 15 c = outP 1 (kp 1 4 c) 64 c fullShare.right.right.right (Ov m) from rfl, show sPay m 19 c = outP 1 (sd 1 3 c) 64 c fullShare.left (Ov m) from rfl, show sPay m 20 c = outP 1 (sd 1 3 c) 64 c fullShare.right.left (Ov m) from rfl, show sPay m 21 c = outP 1 (sd 1 3 c) 64 c fullShare.right.right (Ov m) from rfl, show sPay m 24 c = outP 1 (sd 1 2 c) 128 c fullShare.left (Ov m) from rfl, show sPay m 25 c = outP 1 (sd 1 2 c) 128 c fullShare.right (Ov m) from rfl, show sPay m 27 c = outP 1 (sd 1 1 c) 256 c fullShare (Ov m) from rfl]
  iintro ⟨⟨S12, S13, S14, S15, S19, S20, S21, S24, S25, S27⟩, R15, R21, R25, R27⟩
  ihave HA := (out_four).2 $$ [S12 S13 S14 S15]
  · isplitl [S12]; · iexact S12
    isplitl [S13]; · iexact S13
    isplitl [S14] <;> iassumption
  ihave HB := (out_three).2 $$ [S19 S20 S21]
  · isplitl [S19]; · iexact S19
    isplitl [S20] <;> iassumption
  ihave HC := (out_halves).2 $$ [S24 S25]
  · isplitl [S24] <;> iassumption
  ihave HE := (out_send0 1 c).2 $$ [R15 R21 R25 R27]
  · isplitr [R27]
    · isplitr [R25]
      · isplitl [R15] <;> iassumption
      · iexact R25
    · iexact R27
  iapply (out_all 1 c).2
  isplitr [HE]
  · isplitr [S27]
    · isplitr [HC]
      · isplitl [HA] <;> iassumption
      · iexact HC
    · iexact S27
  · iexact HE

theorem inA_intro (c : Dev nD) : iprop(pts cc0_stg0_0 c (xV m c) ∗ pts cc0_stg5_0 c (cosV m c) ∗ pts cc0_stg6_0 c (sinV m c) ∗ pts cc0_stg1_0 c (wqV m c)) ⊢ inA m c := by unfold inA; exact fun _ h => h
theorem inA_elim (c : Dev nD) : inA m c ⊢ iprop(pts cc0_stg0_0 c (xV m c) ∗ pts cc0_stg5_0 c (cosV m c) ∗ pts cc0_stg6_0 c (sinV m c) ∗ pts cc0_stg1_0 c (wqV m c)) := by unfold inA; exact fun _ h => h
theorem partS_intro (c : Dev nD) (A : (cc0_scratch4 : Ref sig .tc).ty.Contents (Elt F) → Prop) : iprop(∃ f, ⌜A f⌝ ∗ pts cc0_scratch4 c f) ⊢ partS c A := by unfold partS; exact fun _ h => h

theorem wp_seq (c : Dev nD) {α β : Type _} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  rw [show WP c (p >>= k) Q = WP c p (fun a => WP c (k a) Q) from Idealize.SL.Sem.wp_bind _ _ _ p k Q]

/-- All of the body but its last wait. -/
theorem part39 (c : Dev nD) {Q} :
   iprop(Env m K ∗ (∃ W, owes (c : Thread nD τ) (OB c 0) W) ∗ dutyTok ER (barCell (mv 0 c)) 0 0 ∗ dutyTok ER (barCell (mv 1 c)) 0 1 ∗ dutyTok ER (barCell (mv 2 c)) 0 2 ∗ dutyTok ER (barCell (mv 3 c)) 0 3 ∗ cred (tallyAt (barCell c) () 4) ∗ atPos ER (barCell c) 0 ∅ 0 ∗ share (F := F) 0 c ∗ share (F := F) 1 c ∗ share (F := F) 2 c ∗ share (F := F) 3 c ∗ lanes₀ c ∗ lanesR₀ c ∗ pts cc0_stg0_0 c (xV m c) ∗ pts cc0_stg1_0 c (wqV m c) ∗ pts cc0_stg2_0 c (wkV m c) ∗ pts cc0_stg3_0 c (wvV m c) ∗ pts cc0_stg4_0 c (woV m c) ∗ pts cc0_stg5_0 c (cosV m c) ∗ pts cc0_stg6_0 c (sinV m c) ∗ anyB (F := F) cc0_scratch0 c ∗ anyB (F := F) cc0_scratch1 c ∗ anyB (F := F) cc0_scratch2 c ∗ anyB (F := F) cc0_scratch3 c ∗ anyB (F := F) cc0_scratch4 c ∗ anyB (F := F) cc0_scratch5 c ∗ anyB (F := F) cc0_scratch6 c ∗ anyB (F := F) cc0_scratch7 c ∗ anyB (F := F) cc0_scratch8 c ∗ anyB (F := F) cc0_scratch9 c ∗ anyB (F := F) cc0_scratch10 c ∗ anyB (F := F) cc0_scratch11 c ∗ anyB (F := F) cc0_scratch12 c ∗ (∃ g, outP 0 (kp 0 4 c) 64 c fullShare g) ∗ (∃ g, outP 1 (kp 1 4 c) 64 c fullShare g))
   ⊢ iprop((∀ w1 w2, (St m c 28 55 ∗ semVal (barCell c) 0 ∗ pts cc0_stg0_0 c (xV m c) ∗ pts cc0_stg1_0 c (wqV m c) ∗ pts cc0_stg2_0 c (wkV m c) ∗ pts cc0_stg3_0 c (wvV m c) ∗ pts cc0_stg4_0 c (woV m c) ∗ pts cc0_stg5_0 c (cosV m c) ∗ pts cc0_stg6_0 c (sinV m c) ∗ anyB (F := F) cc0_scratch0 c ∗ anyB (F := F) cc0_scratch1 c ∗ anyB (F := F) cc0_scratch2 c ∗ anyB (F := F) cc0_scratch3 c ∗ anyB (F := F) cc0_scratch4 c ∗ anyB (F := F) cc0_scratch13 c ∗ anyB (F := F) cc0_scratch14 c ∗ anyB (F := F) cc0_scratch15 c ∗ anyB (F := F) cc0_scratch16 c ∗ anyB (F := F) cc0_scratch17 c ∗ anyB (F := F) cc0_scratch18 c ∗ anyB (F := F) cc0_scratch19 c ∗ anyB (F := F) cc0_scratch20 c ∗ outP 0 (kp 0 4 (pr 0 0 c)) 64 c fullShare (Ov m) ∗ outP 0 (sd 0 3 (pr 0 0 c)) 64 c fullShare (Ov m) ∗ outP 0 (sd 0 2 (pr 0 0 c)) 128 c fullShare (Ov m) ∗ outP 0 (sd 0 1 (pr 0 0 c)) 256 c fullShare (Ov m) ∗ outP 1 (kp 1 4 (pr 1 0 c)) 64 c fullShare (Ov m) ∗ outP 1 (sd 1 3 (pr 1 0 c)) 64 c fullShare (Ov m) ∗ outP 1 (sd 1 2 (pr 1 0 c)) 128 c fullShare (Ov m)) -∗ Q ⟨c, w1, w2⟩) -∗ WP c (onArgs k0_part39) Q) := by
  rw [k0_part39_eq_skeleton]; unfold k0_part39_skel onArgs
  iintro ⟨#HE, HO, T0, T1, T2, T3, HC, HA, S0, S1, S2, S3, L1, L2, I0, I1, I2, I3, I4, I5, I6, A0, A1, A2, A3, A4, A5, A6, A7, A8, A9, A10, A11, A12, Ho0, Ho1⟩ Hk
  iapply (wp_seq c)
  iapply (part1 c)
  iintro %a0 %a1 %a2 %a3
  try dsimp only
  iapply (wp_seq c)
  iapply (part2 c _ _ _ _)
  iintro %b0 %b1 %b2 %b3 %b4 %b5
  try dsimp only
  iapply (wp_seq c)
  iapply (part3 c _ _ _ _ _ _ _ _)
  iintro %d0 %d1 %d2 %d3 %d4 %d5 %d6 %d7 %d8
  try dsimp only
  iapply (wp_seq c)
  iapply (part4 m K c _ _ _ _ _ _ _ _ _) $$ [HO T0 T1 S0 S1]
  · isplitr; · iexact HE
    isplitl [HO]; · iexact HO
    isplitl [T0]; · iexact T0
    isplitl [T1]; · iexact T1
    isplitl [S0]; · iexact S0
    iexact S1
  iintro %e0 %e1 %e2 %e3 %e4 %e5 %e6 %e7 %e8 %e9 %e10 %e11 HO
  try dsimp only
  ihave HI := (inA_intro m c) $$ [I0 I5 I6 I1]
  · isplitl [I0]; · iexact I0
    isplitl [I5]; · iexact I5
    isplitl [I6]; · iexact I6
    iexact I1
  iapply (wp_seq c)
  iapply (part5 m K c _ _ _) $$ [HO T2 T3 S2 S3 HC HA HI]
  · isplitr; · iexact HE
    isplitl [HO]; · iexact HO
    isplitl [T2]; · iexact T2
    isplitl [T3]; · iexact T3
    isplitl [S2]; · iexact S2
    isplitl [S3]; · iexact S3
    isplitl [HC]; · iexact HC
    isplitl [HA]; · iexact HA
    iexact HI
  iintro ⟨HO, HB, HL, HI⟩
  try dsimp only
  ihave HI := (inA_elim m c) $$ HI
  icases HI with ⟨I0, I5, I6, I1⟩
  ihave HS := (St_start m c) $$ [HO HL L1 L2]
  · isplitl [HO]; · iexact HO
    isplitl [HL]; · iexact HL
    isplitl [L1]; · iexact L1
    iexact L2
  iapply (wp_seq c)
  iapply (part6 m c _) $$ [I2 I3 A0 A1 A2]
  · isplitl [I2]; · iexact I2
    isplitl [I3]; · iexact I3
    isplitl [A0]; · iexact A0
    isplitl [A1]; · iexact A1
    iexact A2
  iintro ⟨HQ, I2, I3⟩
  try dsimp only
  ihave HX := (ctxS_any m c (sd 0 0 c)) $$ A3
  iapply (wp_seq c)
  iapply (part7 m c _) $$ [HQ HX]
  · isplitl [HQ]; · iexact HQ
    iexact HX
  iintro ⟨HQ, HX⟩
  try dsimp only
  iapply (wp_seq c)
  iapply (part8 m c _) $$ [HQ HX]
  · isplitl [HQ]; · iexact HQ
    iexact HX
  iintro ⟨HQ, HX⟩
  try dsimp only
  iapply (wp_seq c)
  iapply (part9 m c _) $$ [HQ HX]
  · isplitl [HQ]; · iexact HQ
    iexact HX
  iintro ⟨HQ, HX⟩
  try dsimp only
  iapply (wp_seq c)
  iapply (part10 m c _) $$ [HQ HX]
  · isplitl [HQ]; · iexact HQ
    iexact HX
  iintro ⟨HQ, HX⟩
  try dsimp only
  iapply (wp_seq c)
  iapply (part11 m K c _ _ _) $$ [HS HQ HX I4 A4 A5]
  · isplitr; · iexact HE
    isplitl [HS]; · iexact HS
    isplitl [HQ]; · iexact HQ
    isplitl [HX]; · iexact HX
    isplitl [I4]; · iexact I4
    isplitl [A4]; · iexact A4
    iexact A5
  iintro %v1 %hv1 ⟨HS, HQ, HX, I4, HP⟩
  try dsimp only
  iapply (wp_seq c)
  iapply (part12 m c _ _ hv1) $$ [HQ HX]
  · isplitl [HQ]; · iexact HQ
    iexact HX
  iintro %v2 %hv2 ⟨HQ, HX⟩
  try dsimp only
  iapply (wp_seq c)
  iapply (part13 m c _ _ hv2) $$ [HQ HX]
  · isplitl [HQ]; · iexact HQ
    iexact HX
  iintro %v3 %hv3 ⟨HQ, HX⟩
  try dsimp only
  iapply (wp_seq c)
  iapply (part14 m c _ _ hv3) $$ [HQ HX]
  · isplitl [HQ]; · iexact HQ
    iexact HX
  iintro %v4 %hv4 ⟨HQ, HX⟩
  try dsimp only
  iapply (wp_seq c)
  iapply (part15 m c _ _ _ hv4) $$ [HQ HX I4 HP A9]
  · isplitl [HQ]; · iexact HQ
    isplitl [HX]; · iexact HX
    isplitl [I4]; · iexact I4
    isplitl [HP]; · iexact HP
    iexact A9
  iintro %u1 %u2 %hu ⟨HQ, A3, I4, HP, A9⟩
  try dsimp only
  ihave HP := (partS_intro c _) $$ HP
  iapply (wp_seq c)
  iapply (part16 m K c _ _ _ _ _ _ hu) $$ [HS HP A9 A6]
  · isplitr; · iexact HE
    isplitl [HS]; · iexact HS
    isplitl [HP]; · iexact HP
    isplitl [A9]; · iexact A9
    iexact A6
  iintro ⟨HS, HP, P0, B2⟩
  try dsimp only
  iapply (wp_seq c)
  iapply (part17 m K c _ _ _ _ _ _) $$ [HS HP P0 B2]
  · isplitr; · iexact HE
    isplitl [HS]; · iexact HS
    isplitl [HP]; · iexact HP
    isplitl [P0]; · iexact P0
    iexact B2
  iintro %x1 %hx1 ⟨HS, HP, P0, P1⟩
  try dsimp only
  iapply (wp_seq c)
  iapply (part18 m K c _ _ _ _ _ _ _ _ hx1) $$ [HS HP P1 A10]
  · isplitr; · iexact HE
    isplitl [HS]; · iexact HS
    isplitl [HP]; · iexact HP
    isplitl [P1]; · iexact P1
    iexact A10
  iintro %y1 ⟨HS, HP, P1, P2⟩
  try dsimp only
  iapply (wp_seq c)
  iapply (part19 m K c _ _ _ _ _) $$ [HS HP P2 A7]
  · isplitr; · iexact HE
    isplitl [HS]; · iexact HS
    isplitl [HP]; · iexact HP
    isplitl [P2]; · iexact P2
    iexact A7
  iintro ⟨HS, HP, P2⟩
  try dsimp only
  iapply (wp_seq c)
  iapply (part20 m K c _ _ _ _ _) $$ [HS HP A11]
  · isplitr; · iexact HE
    isplitl [HS]; · iexact HS
    isplitl [HP]; · iexact HP
    iexact A11
  iintro %x2 %hx2 ⟨HS, HP, P3⟩
  try dsimp only
  iapply (wp_seq c)
  iapply (part21 m K c _ _ _ _ _ hx2) $$ [HS HP A8]
  · isplitr; · iexact HE
    isplitl [HS]; · iexact HS
    isplitl [HP]; · iexact HP
    iexact A8
  iintro ⟨HS, HP, P4, B6⟩
  try dsimp only
  iapply (wp_seq c)
  iapply (part22 m K c _ _ _ _ _) $$ [HS HP P4 B6 A12]
  · isplitr; · iexact HE
    isplitl [HS]; · iexact HS
    isplitl [HP]; · iexact HP
    isplitl [P4]; · iexact P4
    isplitl [B6]; · iexact B6
    iexact A12
  iintro ⟨HS, HP, P4, P5, B7⟩
  try dsimp only
  iapply (wp_seq c)
  iapply (part23 m K c _ _ _ _) $$ [HS HP P5 B7]
  · isplitr; · iexact HE
    isplitl [HS]; · iexact HS
    isplitl [HP]; · iexact HP
    isplitl [P5]; · iexact P5
    iexact B7
  iintro %x3 %hx3 ⟨HS, HP, P5, P6⟩
  try dsimp only
  iapply (wp_seq c)
  iapply (part24 m K c _ _ _ _ _ hx3) $$ [HS HP Ho0]
  · isplitr; · iexact HE
    isplitl [HS]; · iexact HS
    isplitl [HP]; · iexact HP
    iexact Ho0
  iintro ⟨HS, HP, O10, O11⟩
  try dsimp only
  iapply (wp_seq c)
  iapply (part25 m K c _ _ _) $$ [HS HP O10 O11 Ho1]
  · isplitr; · iexact HE
    isplitl [HS]; · iexact HS
    isplitl [HP]; · iexact HP
    isplitl [O10]; · iexact O10
    isplitl [O11]; · iexact O11
    iexact Ho1
  iintro ⟨HS, A4, O12, P7⟩
  try dsimp only
  iapply (wp_seq c)
  iapply (part26 m K c _ _ _ _) $$ [HS O12]
  · isplitr; · iexact HE
    isplitl [HS]; · iexact HS
    iexact O12
  iintro ⟨HS, O15⟩
  try dsimp only
  iapply (wp_seq c)
  iapply (part27 m K c _ _ _) $$ [HS O15]
  · isplitr; · iexact HE
    isplitl [HS]; · iexact HS
    iexact O15
  iintro ⟨HS, O17, O18⟩
  try dsimp only
  iapply (wp_seq c)
  iapply (part28 m K c _ _ _) $$ [HS O17 O18]
  · isplitr; · iexact HE
    isplitl [HS]; · iexact HS
    isplitl [O17]; · iexact O17
    iexact O18
  iintro %z1 %z2 ⟨HS, R12⟩
  try dsimp only
  iapply (wp_seq c)
  iapply (part29 m K c _ _ _ _) $$ [HS R12]
  · isplitr; · iexact HE
    isplitl [HS]; · iexact HS
    iexact R12
  iintro HS
  try dsimp only
  iapply (wp_seq c)
  iapply (part30 m K c _ _) $$ [HS]
  · isplitr; · iexact HE
    iexact HS
  iintro %z3 ⟨HS, O23⟩
  try dsimp only
  iapply (wp_seq c)
  iapply (part31 m K c _ _ _) $$ [HS O23]
  · isplitr; · iexact HE
    isplitl [HS]; · iexact HS
    iexact O23
  iintro ⟨HS, R13⟩
  try dsimp only
  iapply (wp_seq c)
  iapply (part32 m K c _ _ _) $$ [HS R13]
  · isplitr; · iexact HE
    isplitl [HS]; · iexact HS
    iexact R13
  iintro HS
  try dsimp only
  iapply (wp_seq c)
  iapply (part33 m K c _) $$ [HS]
  · isplitr; · iexact HE
    iexact HS
  iintro ⟨HS, R10, R17⟩
  try dsimp only
  iapply (wp_seq c)
  iapply (part34 m K c _) $$ [HS R10 R17]
  · isplitr; · iexact HE
    isplitl [HS]; · iexact HS
    isplitl [R10]; · iexact R10
    iexact R17
  iintro ⟨HS, R14⟩
  try dsimp only
  iapply (wp_seq c)
  iapply (part35 m K c _ _) $$ [HS R14]
  · isplitr; · iexact HE
    isplitl [HS]; · iexact HS
    iexact R14
  iintro HS
  try dsimp only
  iapply (wp_seq c)
  iapply (part36 m K c _) $$ [HS]
  · isplitr; · iexact HE
    iexact HS
  iintro ⟨HS, R11, R18⟩
  try dsimp only
  iapply (wp_seq c)
  iapply (part37 m K c _) $$ [HS]
  · isplitr; · iexact HE
    iexact HS
  iintro ⟨HS, R23, R26⟩
  try dsimp only
  iapply (wp_seq c)
  iapply (part38 m K c _) $$ [HS]
  · isplitr; · iexact HE
    iexact HS
  iintro ⟨HS, R15, R21⟩
  try dsimp only
  simp only [Prog.lift, Prog.bind_op, Prog.bind_ret, Prog.pure_eq_ret]
  iapply (wp_waitR m K (k := 25) (by decide) c (n := 28) (j := 53) (by decide) (by decide) ?hS ?hN) $$ [HS]
  case hS => rfl
  case hN => rfl
  · isplitr; · iexact HE
    iexact HS
  iintro ⟨HS, R25⟩
  ihave R25 := (rPay_to m (k := 25) (by decide) c 1 (sd 1 2 (pr 1 0 c)) 128 rfl rfl rfl) $$ R25
  iapply (wp_waitS m K (k := 27) (by decide) c (n := 28) (j := 54) (by decide) (by decide) ?hS ?hN) $$ [HS]
  case hS => rfl
  case hN => rfl
  · isplitr; · iexact HE
    iexact HS
  iintro HS
  iapply wp_done
  iapply Hk
  unfold qkv
  icases HQ with ⟨A0, A1, A2⟩
  ihave A0 := (any_intro cc0_scratch0 c _) $$ A0
  ihave A1 := (any_intro cc0_scratch1 c _) $$ A1
  ihave A2 := (any_intro cc0_scratch2 c _) $$ A2
  ihave P0 := (any_intro cc0_scratch13 c _) $$ P0
  ihave P1 := (any_intro cc0_scratch17 c _) $$ P1
  ihave P2 := (any_intro cc0_scratch14 c _) $$ P2
  ihave P3 := (any_intro cc0_scratch18 c _) $$ P3
  ihave P4 := (any_intro cc0_scratch15 c _) $$ P4
  ihave P5 := (any_intro cc0_scratch19 c _) $$ P5
  ihave P6 := (any_intro cc0_scratch16 c _) $$ P6
  ihave P7 := (any_intro cc0_scratch20 c _) $$ P7
  isplitl [HS]; · iexact HS
  isplitl [HB]; · iexact HB
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [A0]; · iexact A0
  isplitl [A1]; · iexact A1
  isplitl [A2]; · iexact A2
  isplitl [A3]; · iexact A3
  isplitl [A4]; · iexact A4
  isplitl [P0]; · iexact P0
  isplitl [P2]; · iexact P2
  isplitl [P4]; · iexact P4
  isplitl [P6]; · iexact P6
  isplitl [P1]; · iexact P1
  isplitl [P3]; · iexact P3
  isplitl [P5]; · iexact P5
  isplitl [P7]; · iexact P7
  isplitl [R11]; · iexact R11
  isplitl [R18]; · iexact R18
  isplitl [R23]; · iexact R23
  isplitl [R26]; · iexact R26
  isplitl [R15]; · iexact R15
  isplitl [R21]; · iexact R21
  iexact R25

/-- The arguments a device reads, in their buffers. -/
def ins (c : Dev nD) : sProp 𝕄 := iprop(pts cc0_stg0_0 c (xV m c) ∗ pts cc0_stg1_0 c (wqV m c) ∗ pts cc0_stg2_0 c (wkV m c) ∗ pts cc0_stg3_0 c (wvV m c) ∗ pts cc0_stg4_0 c (woV m c) ∗ pts cc0_stg5_0 c (cosV m c) ∗ pts cc0_stg6_0 c (sinV m c))
/-- The scratch buffers, holding anything. -/
def scr (c : Dev nD) : sProp 𝕄 := iprop(anyB (F := F) cc0_scratch0 c ∗ anyB (F := F) cc0_scratch1 c ∗ anyB (F := F) cc0_scratch2 c ∗ anyB (F := F) cc0_scratch3 c ∗ anyB (F := F) cc0_scratch4 c ∗ anyB (F := F) cc0_scratch5 c ∗ anyB (F := F) cc0_scratch6 c ∗ anyB (F := F) cc0_scratch7 c ∗ anyB (F := F) cc0_scratch8 c ∗ anyB (F := F) cc0_scratch9 c ∗ anyB (F := F) cc0_scratch10 c ∗ anyB (F := F) cc0_scratch11 c ∗ anyB (F := F) cc0_scratch12 c ∗ anyB (F := F) cc0_scratch13 c ∗ anyB (F := F) cc0_scratch14 c ∗ anyB (F := F) cc0_scratch15 c ∗ anyB (F := F) cc0_scratch16 c ∗ anyB (F := F) cc0_scratch17 c ∗ anyB (F := F) cc0_scratch18 c ∗ anyB (F := F) cc0_scratch19 c ∗ anyB (F := F) cc0_scratch20 c)
/-- What a device holds of the barrier and the transfers when it starts. -/
def rights (c : Dev nD) : sProp 𝕄 := iprop(dutyTok ER (barCell (mv 0 c)) 0 0 ∗ dutyTok ER (barCell (mv 1 c)) 0 1 ∗ dutyTok ER (barCell (mv 2 c)) 0 2 ∗ dutyTok ER (barCell (mv 3 c)) 0 3 ∗ cred (tallyAt (barCell c) () 4) ∗ atPos ER (barCell c) 0 ∅ 0 ∗ lanes₀ c ∗ lanesR₀ c)

omit [FloatOps F] in
theorem entails_eq {A B : sProp 𝕄} (h : A = B) : A ⊢ B := by rw [h]

/-- The shares a device hands to its four partners at the barrier. -/
theorem shares (c : Dev nD) (f : (cc0_stg7_0 : Ref sig .tc).ty.Contents (Elt F)) :
    iprop(pts cc0_stg7_0 c f ∗ anyB (F := F) cc0_scratch13 c ∗ anyB (F := F) cc0_scratch14 c ∗ anyB (F := F) cc0_scratch15 c ∗ anyB (F := F) cc0_scratch16 c ∗ anyB (F := F) cc0_scratch17 c ∗ anyB (F := F) cc0_scratch18 c ∗ anyB (F := F) cc0_scratch19 c ∗ anyB (F := F) cc0_scratch20 c)
    ⊢ iprop(share (F := F) 0 c ∗ share (F := F) 1 c ∗ share (F := F) 2 c ∗ share (F := F) 3 c ∗ outP 0 (kp 0 4 c) 64 c fullShare f ∗ outP 1 (kp 1 4 c) 64 c fullShare f) := by
  have e := share_all (F := F) c
  rw [bigSep_fin4, bigSep_live] at e
  iintro ⟨H, P0, P2, P4, P6, P1, P3, P5, P7⟩
  ihave H := (out_whole c f).1 $$ H
  icases H with ⟨Ha, Hb⟩
  ihave Ha := (scatter0 c f) $$ Ha
  icases Ha with ⟨O0, L8, L9, L16, L10, L17, L22, L11, L18, L23, L26⟩
  ihave Hb := (scatter1 c f) $$ Hb
  icases Hb with ⟨O1, L12, L13, L19, L14, L20, L24, L15, L21, L25, L27⟩
  ihave P0 := (show anyB (F := F) cc0_scratch13 c ⊢ land (F := F) 0 c from entails_eq rfl) $$ P0
  ihave P1 := (show anyB (F := F) cc0_scratch17 c ⊢ land (F := F) 1 c from entails_eq rfl) $$ P1
  ihave P2 := (show anyB (F := F) cc0_scratch14 c ⊢ land (F := F) 2 c from entails_eq rfl) $$ P2
  ihave P3 := (show anyB (F := F) cc0_scratch18 c ⊢ land (F := F) 3 c from entails_eq rfl) $$ P3
  ihave P4 := (show anyB (F := F) cc0_scratch15 c ⊢ land (F := F) 4 c from entails_eq rfl) $$ P4
  ihave P5 := (show anyB (F := F) cc0_scratch19 c ⊢ land (F := F) 5 c from entails_eq rfl) $$ P5
  ihave P6 := (show anyB (F := F) cc0_scratch16 c ⊢ land (F := F) 6 c from entails_eq rfl) $$ P6
  ihave P7 := (show anyB (F := F) cc0_scratch20 c ⊢ land (F := F) 7 c from entails_eq rfl) $$ P7
  ihave HX := (show _ ⊢ _ from entails_eq e.symm) $$ [P0 P1 P2 P3 P4 P5 P6 P7 L8 L9 L10 L11 L12 L13 L14 L15 L16 L17 L18 L19 L20 L21 L22 L23 L24 L25 L26 L27]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [L8]; · iexact L8
    isplitl [L9]; · iexact L9
    isplitl [L10]; · iexact L10
    isplitl [L11]; · iexact L11
    isplitl [L12]; · iexact L12
    isplitl [L13]; · iexact L13
    isplitl [L14]; · iexact L14
    isplitl [L15]; · iexact L15
    isplitl [L16]; · iexact L16
    isplitl [L17]; · iexact L17
    isplitl [L18]; · iexact L18
    isplitl [L19]; · iexact L19
    isplitl [L20]; · iexact L20
    isplitl [L21]; · iexact L21
    isplitl [L22]; · iexact L22
    isplitl [L23]; · iexact L23
    isplitl [L24]; · iexact L24
    isplitl [L25]; · iexact L25
    isplitl [L26]; · iexact L26
    iexact L27
  icases HX with ⟨S0, S1, S2, S3⟩
  isplitl [S0]; · iexact S0
  isplitl [S1]; · iexact S1
  isplitl [S2]; · iexact S2
  isplitl [S3]; · iexact S3
  isplitl [O0]; · iexact O0
  iexact O1

/-- What the departures gave back: the buffers they were sent from, and the finished result. -/
theorem returns (c : Dev nD) :
    iprop((bigSep live fun k => sPay m k c) ∗ outP 0 (kp 0 4 (pr 0 0 c)) 64 c fullShare (Ov m) ∗ outP 0 (sd 0 3 (pr 0 0 c)) 64 c fullShare (Ov m) ∗ outP 0 (sd 0 2 (pr 0 0 c)) 128 c fullShare (Ov m) ∗ outP 0 (sd 0 1 (pr 0 0 c)) 256 c fullShare (Ov m) ∗ outP 1 (kp 1 4 (pr 1 0 c)) 64 c fullShare (Ov m) ∗ outP 1 (sd 1 3 (pr 1 0 c)) 64 c fullShare (Ov m) ∗ outP 1 (sd 1 2 (pr 1 0 c)) 128 c fullShare (Ov m) ∗ outP 1 (sd 1 1 (pr 1 0 c)) 256 c fullShare (Ov m))
    ⊢ iprop(anyB (F := F) cc0_scratch5 c ∗ anyB (F := F) cc0_scratch6 c ∗ anyB (F := F) cc0_scratch7 c ∗ anyB (F := F) cc0_scratch8 c ∗ anyB (F := F) cc0_scratch9 c ∗ anyB (F := F) cc0_scratch10 c ∗ anyB (F := F) cc0_scratch11 c ∗ anyB (F := F) cc0_scratch12 c ∗ pts cc0_stg7_0 c (Ov m)) := by
  rw [bigSep_live]
  iintro ⟨⟨S0, S1, S2, S3, S4, S5, S6, S7, S8, S9, S10, S11, S12, S13, S14, S15, S16, S17, S18, S19, S20, S21, S22, S23, S24, S25, S26, S27⟩, R11, R18, R23, R26, R15, R21, R25, R27⟩
  ihave G0 := (gather0 m c) $$ [S8 S9 S10 S11 S16 S17 S18 S22 S23 S26 R11 R18 R23 R26]
  · isplitl [S8 S9 S10 S11 S16 S17 S18 S22 S23 S26]
    · isplitl [S8]; · iexact S8
      isplitl [S9]; · iexact S9
      isplitl [S10]; · iexact S10
      isplitl [S11]; · iexact S11
      isplitl [S16]; · iexact S16
      isplitl [S17]; · iexact S17
      isplitl [S18]; · iexact S18
      isplitl [S22]; · iexact S22
      isplitl [S23]; · iexact S23
      iexact S26
    · isplitl [R11]; · iexact R11
      isplitl [R18]; · iexact R18
      isplitl [R23]; · iexact R23
      iexact R26
  ihave G1 := (gather1 m c) $$ [S12 S13 S14 S15 S19 S20 S21 S24 S25 S27 R15 R21 R25 R27]
  · isplitl [S12 S13 S14 S15 S19 S20 S21 S24 S25 S27]
    · isplitl [S12]; · iexact S12
      isplitl [S13]; · iexact S13
      isplitl [S14]; · iexact S14
      isplitl [S15]; · iexact S15
      isplitl [S19]; · iexact S19
      isplitl [S20]; · iexact S20
      isplitl [S21]; · iexact S21
      isplitl [S24]; · iexact S24
      isplitl [S25]; · iexact S25
      iexact S27
    · isplitl [R15]; · iexact R15
      isplitl [R21]; · iexact R21
      isplitl [R25]; · iexact R25
      iexact R27
  ihave S0 := (show sPay m 0 c ⊢ anyB (F := F) cc0_scratch5 c from entails_eq rfl) $$ S0
  ihave S1 := (show sPay m 1 c ⊢ anyB (F := F) cc0_scratch9 c from entails_eq rfl) $$ S1
  ihave S2 := (show sPay m 2 c ⊢ anyB (F := F) cc0_scratch6 c from entails_eq rfl) $$ S2
  ihave S3 := (show sPay m 3 c ⊢ anyB (F := F) cc0_scratch10 c from entails_eq rfl) $$ S3
  ihave S4 := (show sPay m 4 c ⊢ anyB (F := F) cc0_scratch7 c from entails_eq rfl) $$ S4
  ihave S5 := (show sPay m 5 c ⊢ anyB (F := F) cc0_scratch11 c from entails_eq rfl) $$ S5
  ihave S6 := (show sPay m 6 c ⊢ anyB (F := F) cc0_scratch8 c from entails_eq rfl) $$ S6
  ihave S7 := (show sPay m 7 c ⊢ anyB (F := F) cc0_scratch12 c from entails_eq rfl) $$ S7
  isplitl [S0]; · iexact S0
  isplitl [S2]; · iexact S2
  isplitl [S4]; · iexact S4
  isplitl [S6]; · iexact S6
  isplitl [S1]; · iexact S1
  isplitl [S3]; · iexact S3
  isplitl [S5]; · iexact S5
  isplitl [S7]; · iexact S7
  iapply (out_whole c (Ov m)).2
  isplitl [G0] <;> iassumption

/-- The whole body. -/
theorem body_main (c : Dev nD) {Q} :
   iprop(Env m K ∗ (∃ W, owes (c : Thread nD τ) (OB c 0) W) ∗ rights (F := F) c ∗ ins m c ∗ scr (F := F) c ∗ anyB (F := F) cc0_stg7_0 c)
   ⊢ iprop((((∃ W, owes (c : Thread nD τ) 0 W) ∗ semVal (barCell c) 0 ∗ (bigSep live fun k => semVal (sCell k c) 0) ∗ (bigSep live fun k => semVal (rCell k c) 0) ∗ ins m c ∗ scr (F := F) c ∗ pts cc0_stg7_0 c (Ov m)) -∗ Q ⟨⟩) -∗ WP c (onArgs cc0_body) Q) := by
  rw [cc0_body_eq_skeleton]; unfold cc0_body_skel onArgs rights ins scr
  iintro ⟨#HE, HO, ⟨T0, T1, T2, T3, HC, HA, L1, L2⟩, ⟨I0, I1, I2, I3, I4, I5, I6⟩, ⟨A0, A1, A2, A3, A4, A5, A6, A7, A8, A9, A10, A11, A12, A13, A14, A15, A16, A17, A18, A19, A20⟩, HD⟩ Hk
  iapply (wp_seq c)
  ihave HD := (entails_eq (by unfold anyB; rfl)) $$ HD
  icases HD with ⟨%f, HD⟩
  ihave HS := (shares c f) $$ [HD A13 A14 A15 A16 A17 A18 A19 A20]
  · isplitl [HD]; · iexact HD
    isplitl [A13]; · iexact A13
    isplitl [A14]; · iexact A14
    isplitl [A15]; · iexact A15
    isplitl [A16]; · iexact A16
    isplitl [A17]; · iexact A17
    isplitl [A18]; · iexact A18
    isplitl [A19]; · iexact A19
    iexact A20
  icases HS with ⟨S0, S1, S2, S3, O0, O1⟩
  iapply (part39 m K c) $$ [HO T0 T1 T2 T3 HC HA S0 S1 S2 S3 L1 L2 I0 I1 I2 I3 I4 I5 I6 A0 A1 A2 A3 A4 A5 A6 A7 A8 A9 A10 A11 A12 O0 O1]
  · isplitr; · iexact HE
    isplitl [HO]; · iexact HO
    isplitl [T0]; · iexact T0
    isplitl [T1]; · iexact T1
    isplitl [T2]; · iexact T2
    isplitl [T3]; · iexact T3
    isplitl [HC]; · iexact HC
    isplitl [HA]; · iexact HA
    isplitl [S0]; · iexact S0
    isplitl [S1]; · iexact S1
    isplitl [S2]; · iexact S2
    isplitl [S3]; · iexact S3
    isplitl [L1]; · iexact L1
    isplitl [L2]; · iexact L2
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [O0]; · (iexists f; iexact O0)
    iexists f; iexact O1
  iintro %w1 %w2 ⟨HS, HB, I0, I1, I2, I3, I4, I5, I6, A0, A1, A2, A3, A4, A13, A14, A15, A16, A17, A18, A19, A20, R11, R18, R23, R26, R15, R21, R25⟩
  try dsimp only
  simp only [Prog.lift, Prog.bind_op, Prog.bind_ret, Prog.pure_eq_ret]
  iapply (wp_waitR m K (k := 27) (by decide) c (n := 28) (j := 55) (by decide) (by decide) ?hS ?hN) $$ [HS]
  case hS => rfl
  case hN => rfl
  · isplitr; · iexact HE
    iexact HS
  iintro ⟨HS, R27⟩
  ihave R27 := (rPay_to m (k := 27) (by decide) c 1 (sd 1 1 (pr 1 0 c)) 256 rfl rfl rfl) $$ R27
  iapply wp_done
  iapply Hk
  ihave HS := (St_end m c) $$ HS
  icases HS with ⟨HO, ⟨Z1, HP⟩, Z2⟩
  ihave HP := (returns m c) $$ [HP R11 R18 R23 R26 R15 R21 R25 R27]
  · isplitl [HP]; · iexact HP
    isplitl [R11]; · iexact R11
    isplitl [R18]; · iexact R18
    isplitl [R23]; · iexact R23
    isplitl [R26]; · iexact R26
    isplitl [R15]; · iexact R15
    isplitl [R21]; · iexact R21
    isplitl [R25]; · iexact R25
    iexact R27
  icases HP with ⟨A5, A6, A7, A8, A9, A10, A11, A12, HD⟩
  isplitl [HO]; · iexact HO
  isplitl [HB]; · iexact HB
  isplitl [Z1]; · iexact Z1
  isplitl [Z2]; · iexact Z2
  isplitl [I0 I1 I2 I3 I4 I5 I6]
  · isplitl [I0]; · iexact I0
    isplitl [I1]; · iexact I1
    isplitl [I2]; · iexact I2
    isplitl [I3]; · iexact I3
    isplitl [I4]; · iexact I4
    isplitl [I5]; · iexact I5
    iexact I6
  isplitl [A0 A1 A2 A3 A4 A5 A6 A7 A8 A9 A10 A11 A12 A13 A14 A15 A16 A17 A18 A19 A20]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    iexact A20
  iexact HD

end Cert.AR

end
-- ==== Proof.Run.lean ====
/-
# The launch

What each device starts with, dealt from the launch's resources; the body as the pipeline calls it; and the run of the
whole program on the sixteen devices.
-/
module

public import Idealize.ShloMosaic.Lib.Pipeline.Launch
public import Idealize.ShloMosaic.Lib.Pipeline.CollectiveSegs
public import Idealize.ShloMosaic.Lib.Tactic
public import proofs.«01_k».proof.Proof.Body

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The machine before the run: the buffers as given, every semaphore at zero. -/
def s₀ : MemSt nD τ sig (Elt F) := ⟨m, fun _ => 0, ρ⟩

/-- The two pairs of semaphores no transfer uses. -/
def dead : Finset (Fin 30) := Finset.univ \ live

/-! ## What a device holds before and after -/

/-- What only this device holds of the cells. -/
def lin (c : Dev nD) : sProp 𝕄 :=
  iprop(dutyTok ER (barCell (mv 0 c)) 0 0 ∗ dutyTok ER (barCell (mv 1 c)) 0 1 ∗ dutyTok ER (barCell (mv 2 c)) 0 2 ∗ dutyTok ER (barCell (mv 3 c)) 0 3 ∗ atPos ER (barCell c) 0 ∅ 0 ∗ lanes₀ c ∗ (bigSep live fun k => atPos ER (rCell k c) 0 ∅ 0)
    ∗ (bigSep dead fun k => atPos ER (sCell k c) 0 ∅ 0) ∗ (bigSep dead fun k => atPos ER (rCell k c) 0 ∅ 0))
/-- What all devices share: the cells' invariants, and that each cell is at its first round or later. -/
def shared (K : Dev nD × CI → ℕ) : sProp 𝕄 :=
  iprop(bigSep Finset.univ (fun ck => cellInv ER (Rd m) (K ck) (kcell ck)) ∗ bigSep Finset.univ (fun ck : Dev nD × CI => reached ER (kcell ck) 0))
instance shared_persistent (K : Dev nD × CI → ℕ) : BI.Persistent (shared m K) := by unfold shared; infer_instance
theorem shared_inv (K : Dev nD × CI → ℕ) (ck : Dev nD × CI) : shared m K ⊢ cellInv ER (Rd m) (K ck) (kcell ck) := by
  unfold shared; exact sep_elim_left.trans (bigSep_elim (Finset.mem_univ ck))
def G' (c : Dev nD) : sProp 𝕄 := iprop(∃ K, shared m K ∗ lin (F := F) c)
def start (c : Dev nD) : sProp 𝕄 :=
  iprop(G' m c ∗ cred (tallyAt (barCell c) () 4) ∗ (bigSep live fun k => cred (tallyAt (rCell k c) () (N k))) ∗ levAts L lv)
def Φ₀ (c : Dev nD) : sProp 𝕄 := iprop(start m c ∗ scr (F := F) c)
def Φ₁ (c : Dev nD) : sProp 𝕄 :=
  iprop(scr (F := F) c ∗ semVal (barCell c) 0 ∗ (bigSep live fun k => semVal (sCell k c) 0) ∗ (bigSep live fun k => semVal (rCell k c) 0)
    ∗ (bigSep dead fun k => semVal (sCell k c) 0) ∗ (bigSep dead fun k => semVal (rCell k c) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => wqV m c
    | ⟨2, _⟩ => wkV m c
    | ⟨3, _⟩ => wvV m c
    | ⟨4, _⟩ => woV m c
    | ⟨5, _⟩ => cosV m c
    | ⟨6, _⟩ => sinV m c
    | ⟨7, _⟩ => Ov m
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body as the pipeline calls it -/

/-- A staging buffer holding `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold stg owns; simp only [Memref.view_whole, View.read_whole, View.set_whole]

abbrev before (c : Dev nD) (w : Fin 8) := (dats m ρ 0 c).before w t0_0
abbrev after (c : Dev nD) (w : Fin 8) := (dats m ρ 0 c).after w t0_0

set_option maxRecDepth 4000 in
def bodyPre (c : Dev nD) : sProp 𝕄 :=
  iprop(Φ₀ m c ∗ (dats m ρ 0 c).owesAt () (t0_0 : Fin cfg0.N).castSucc ∗ (∃ d, stg c cc0_stg0_0 ((dats m ρ 0 c).before (0 : Fin 8) t0_0 d)) ∗ (∃ d, stg c cc0_stg1_0 ((dats m ρ 0 c).before (1 : Fin 8) t0_0 d)) ∗ (∃ d, stg c cc0_stg2_0 ((dats m ρ 0 c).before (2 : Fin 8) t0_0 d)) ∗ (∃ d, stg c cc0_stg3_0 ((dats m ρ 0 c).before (3 : Fin 8) t0_0 d)) ∗ (∃ d, stg c cc0_stg4_0 ((dats m ρ 0 c).before (4 : Fin 8) t0_0 d)) ∗ (∃ d, stg c cc0_stg5_0 ((dats m ρ 0 c).before (5 : Fin 8) t0_0 d)) ∗ (∃ d, stg c cc0_stg6_0 ((dats m ρ 0 c).before (6 : Fin 8) t0_0 d)) ∗ (∃ d, stg c cc0_stg7_0 ((dats m ρ 0 c).before (7 : Fin 8) t0_0 d)))
set_option maxRecDepth 4000 in
def bodyPost (c : Dev nD) : sProp 𝕄 :=
  iprop(Φ₁ c ∗ (dats m ρ 0 c).owesAt () (t0_0 : Fin cfg0.N).succ ∗ stg c cc0_stg0_0 ((dats m ρ 0 c).after (0 : Fin 8) t0_0) ∗ stg c cc0_stg1_0 ((dats m ρ 0 c).after (1 : Fin 8) t0_0) ∗ stg c cc0_stg2_0 ((dats m ρ 0 c).after (2 : Fin 8) t0_0) ∗ stg c cc0_stg3_0 ((dats m ρ 0 c).after (3 : Fin 8) t0_0) ∗ stg c cc0_stg4_0 ((dats m ρ 0 c).after (4 : Fin 8) t0_0) ∗ stg c cc0_stg5_0 ((dats m ρ 0 c).after (5 : Fin 8) t0_0) ∗ stg c cc0_stg6_0 ((dats m ρ 0 c).after (6 : Fin 8) t0_0) ∗ stg c cc0_stg7_0 ((dats m ρ 0 c).after (7 : Fin 8) t0_0))

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem dead_not {k : Fin 30} (h : k ∈ dead) : k ∉ live := (Finset.mem_sdiff.mp h).2

/-- The cells no transfer uses are closed as they are. -/
theorem close_dead (K : Dev nD × CI → ℕ) (b : Bool) (c : Dev nD) :
    iprop(shared m K ∗ bigSep dead fun k => atPos ER (kcell (c, some (b, k))) 0 ∅ 0) ⊢ |={Set.univ}=> bigSep dead fun k => semVal (kcell (c, some (b, k))) 0 := by
  refine (with_persistent (R := shared m K) fun k hk => ?_).trans (bigSep_fupd dead fun k => semVal (kcell (c, some (b, k))) 0)
  iintro ⟨#HS, Hat⟩
  iapply (Rounds.cell_close ER (Rd m) (Set.mem_univ (K (c, some (b, k)))) (fun h => h) (R := 0) (duties_dead m k (dead_not hk) b c)) $$ [Hat]
  isplitr
  · iapply (shared_inv m K (c, some (b, k))); iexact HS
  · iexact Hat

theorem before_in (c : Dev nD) :
    (∀ d, (dats m ρ 0 c).before (0 : Fin 8) t0_0 d = xV m c) ∧ (∀ d, (dats m ρ 0 c).before (1 : Fin 8) t0_0 d = wqV m c) ∧ (∀ d, (dats m ρ 0 c).before (2 : Fin 8) t0_0 d = wkV m c) ∧ (∀ d, (dats m ρ 0 c).before (3 : Fin 8) t0_0 d = wvV m c) ∧ (∀ d, (dats m ρ 0 c).before (4 : Fin 8) t0_0 d = woV m c) ∧ (∀ d, (dats m ρ 0 c).before (5 : Fin 8) t0_0 d = cosV m c) ∧ (∀ d, (dats m ρ 0 c).before (6 : Fin 8) t0_0 d = sinV m c) := by
  refine ⟨?_, ?_, ?_, ?_, ?_, ?_, ?_⟩ <;> intro d <;> unfold Dat.before
  · rw [if_pos (fetch0_0 t0_0)]; rfl
  · rw [if_pos (fetch0_1 t0_0)]; rfl
  · rw [if_pos (fetch0_2 t0_0)]; rfl
  · rw [if_pos (fetch0_3 t0_0)]; rfl
  · rw [if_pos (fetch0_4 t0_0)]; rfl
  · rw [if_pos (fetch0_5 t0_0)]; rfl
  · rw [if_pos (fetch0_6 t0_0)]; rfl

set_option maxRecDepth 4000 in
/-- The body at the launch's one point. -/
theorem body_sound (c : Dev nD) : bodyPre m ρ c ⊢ WP c (onArgs cc0_body) (fun _ => bodyPost m ρ c) := by
  obtain ⟨e0, e1, e2, e3, e4, e5, e6⟩ := before_in m ρ c
  unfold bodyPre Φ₀ start G' lin stg
  iintro ⟨⟨⟨⟨%K, #HS, T0, T1, T2, T3, HA, L1, L2, D1, D2⟩, HC, HCr, #HL⟩, Hscr⟩, Ho, ⟨%d0, %g0, %h0, I0⟩, ⟨%d1, %g1, %h1, I1⟩, ⟨%d2, %g2, %h2, I2⟩, ⟨%d3, %g3, %h3, I3⟩, ⟨%d4, %g4, %h4, I4⟩, ⟨%d5, %g5, %h5, I5⟩, ⟨%d6, %g6, %h6, I6⟩, ⟨%d7, %g7, %h7, I7⟩⟩
  imod (close_dead m K false c) $$ [D1] with D1
  · isplitr; · iexact HS
    iexact D1
  imod (close_dead m K true c) $$ [D2] with D2
  · isplitr; · iexact HS
    iexact D2
  unfold Dat.owesAt Pipeline.owesWithin
  icases Ho with ⟨%W, %hW, HO⟩
  rw [show (dats m ρ 0 c).owed (t0_0 : Fin cfg0.N).castSucc = O₀ c from rfl]
  iapply (body_main m K c) $$ [T0 T1 T2 T3 HA L1 L2 HC HCr Hscr HO I0 I1 I2 I3 I4 I5 I6 I7]
  · isplitr
    · unfold Env shared
      icases HS with ⟨#HI, #HR⟩
      isplitr; · iexact HI
      isplitr; · iexact HR
      iexact HL
    isplitl [HO]; · (iexists W; iexact HO)
    isplitl [T0 T1 T2 T3 HA L1 L2 HC HCr]
    · unfold rights
      isplitl [T0]; · iexact T0
      isplitl [T1]; · iexact T1
      isplitl [T2]; · iexact T2
      isplitl [T3]; · iexact T3
      isplitl [HC]; · iexact HC
      isplitl [HA]; · iexact HA
      isplitl [L1]; · iexact L1
      unfold lanesR₀
      rw [sep2]
      isplitl [L2] <;> iassumption
    isplitl [I0 I1 I2 I3 I4 I5 I6]
    · unfold ins
      rw [h0, e0, h1, e1, h2, e2, h3, e3, h4, e4, h5, e5, h6, e6]
      isplitl [I0]; · iexact I0
      isplitl [I1]; · iexact I1
      isplitl [I2]; · iexact I2
      isplitl [I3]; · iexact I3
      isplitl [I4]; · iexact I4
      isplitl [I5]; · iexact I5
      iexact I6
    isplitl [Hscr]; · iexact Hscr
    iapply (any_intro cc0_stg7_0 c g7); iexact I7
  iintro ⟨⟨%W', HO⟩, HB, Z1, Z2, HI, Hscr, HD⟩
  unfold bodyPost Φ₁ ins
  icases HI with ⟨I0, I1, I2, I3, I4, I5, I6⟩
  isplitl [Hscr HB Z1 Z2 D1 D2]
  · isplitl [Hscr]; · iexact Hscr
    isplitl [HB]; · iexact HB
    isplitl [Z1]; · iexact Z1
    isplitl [Z2]; · iexact Z2
    isplitl [D1]; · iexact D1
    iexact D2
  isplitl [HO]
  · unfold Dat.owesAt Pipeline.owesWithin
    rw [show (dats m ρ 0 c).owed (t0_0 : Fin cfg0.N).succ = 0 from rfl]
    iexists W'
    isplitr; · ipureintro; exact fun _ _ => Or.inl trivial
    iexact HO
  isplitl [I0]
  · unfold stg; iexists _; isplitr; · (ipureintro; rfl)
    iexact I0
  isplitl [I1]
  · unfold stg; iexists _; isplitr; · (ipureintro; rfl)
    iexact I1
  isplitl [I2]
  · unfold stg; iexists _; isplitr; · (ipureintro; rfl)
    iexact I2
  isplitl [I3]
  · unfold stg; iexists _; isplitr; · (ipureintro; rfl)
    iexact I3
  isplitl [I4]
  · unfold stg; iexists _; isplitr; · (ipureintro; rfl)
    iexact I4
  isplitl [I5]
  · unfold stg; iexists _; isplitr; · (ipureintro; rfl)
    iexact I5
  isplitl [I6]
  · unfold stg; iexists _; isplitr; · (ipureintro; rfl)
    iexact I6
  unfold stg; iexists _; isplitr; · (ipureintro; rfl)
  iexact HD

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  have h := body_sound m ρ c
  unfold bodyPre bodyPost at h
  simp only [← owns_stg] at h
  exact h

/-! ## The launch's resources -/

/-- A kernel semaphore: the departure or the arrival of one of the thirty pairs. -/
abbrev osem (i : Bool × Fin 30) : SemLoc sig := csem (some i)

theorem ownSemFacts : Pipeline.OwnSemFacts cfg0.spec osem :=
  ⟨fun i => by revert i; decide, fun i j h => Option.some.inj (csem_injective h), fun i => by revert i; decide⟩

theorem share_eq (c : Dev nD) (w : Fin cfg0.W) : (dats m ρ 0 c).share w = fullShare := by unfold Dat.share; split <;> rfl

theorem kcell_injective : Function.Injective (kcell : Dev nD × CI → GSem nD τ sig) := by
  rintro ⟨c, i⟩ ⟨c', i'⟩ h
  have h1 : c = c' := congrArg (fun g : GSem nD τ sig => g.1.1) h
  have h2 : i = i' := csem_injective (congrArg Prod.snd h)
  rw [h1, h2]
def arCells : Finset (GSem nD τ sig) := Finset.univ.map ⟨kcell, kcell_injective⟩

/-- The duty tokens of a device's cells as they are made: cell `i`, duty `d`. -/
abbrev tokOf (x : Dev nD × (CI × Fin 4)) : GSem nD τ sig × ℕ × Fin 4 := (kcell (x.1, x.2.1), 0, x.2.2)
theorem tokOf_injective : Function.Injective tokOf := by
  rintro ⟨c, i, d⟩ ⟨c', i', d'⟩ h
  have h1 := kcell_injective (congrArg Prod.fst h)
  have h2 : d = d' := congrArg (fun x : GSem nD τ sig × ℕ × Fin 4 => x.2.2) h
  have h3 : c = c' := congrArg Prod.fst h1
  have h4 : i = i' := congrArg Prod.snd h1
  rw [h2, h3, h4]
def arToks : Finset (GSem nD τ sig × ℕ × Fin 4) := Finset.univ.map ⟨tokOf, tokOf_injective⟩

def u₀ : UU := (initOf (Pipeline.cells cfgs cellOf_inj) (Pipeline.launchToks cfgs cellOf_inj), initOf arCells arToks)

def toks (c : Dev nD) : sProp 𝕄 := bigSep Finset.univ fun x : CI × Fin 4 => dutyTok ER (kcell (c, x.1)) 0 x.2

/-- What the launch deals a device: its cells at the first round, its positions in them, its own cells' tokens. -/
def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ toks (F := F) c)

theorem fund_ar : BI.own (ER (initOf arCells arToks)) ⊢ (|==> bigSep Finset.univ (G m) : sProp 𝕄) := by
  have hX (Φ : GSem nD τ sig → sProp 𝕄) : bigSep arCells Φ = bigSep Finset.univ fun c : Dev nD => bigSep Finset.univ fun i : CI => Φ (kcell (c, i)) := by
    unfold arCells; rw [bigSep_map, bigSep_univ_prod]; rfl
  have hT : bigSep arToks (fun x => (dutyTok ER x.1 x.2.1 x.2.2 : sProp 𝕄)) = bigSep Finset.univ fun c : Dev nD => toks (F := F) c := by
    unfold arToks toks; rw [bigSep_map, bigSep_univ_prod]; rfl
  iintro HX
  imod (Rounds.fund ER (Rd m) arCells arToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## A family over a device's cells, sorted -/

omit [FloatOps F] in
theorem bigSep_opt (Φ : CI → sProp 𝕄) : bigSep Finset.univ Φ = iprop(Φ none ∗ bigSep Finset.univ fun i => Φ (some i)) := by
  rw [bigSep_univ_at Φ none, show (Finset.univ.erase none : Finset CI) = Finset.univ.map Function.Embedding.some from by
    ext i; cases i <;> simp, bigSep_map]
  rfl
omit [FloatOps F] in
theorem bigSep_ci (Φ : CI → sProp 𝕄) : bigSep Finset.univ Φ =
    iprop(Φ none ∗ (bigSep Finset.univ fun k => Φ (some (false, k))) ∗ bigSep Finset.univ fun k => Φ (some (true, k))) := by
  rw [bigSep_opt, bigSep_univ_prod, bigSep_univ_eq_bigSepL [false, true] (by decide) (by decide), bigSepL_cons_cons, bigSepL_singleton]
  rfl
omit [FloatOps F] in
theorem bigSep_ld (Φ : Fin 30 → sProp 𝕄) : bigSep Finset.univ Φ = iprop(bigSep live Φ ∗ bigSep dead Φ) :=
  bigSep_sdiff_split (Finset.subset_univ live)

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : Bool × Fin 30 => semVal (kcell (c, some i)) 0 := rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (Rd m) κ (kcell (c, i))))
          ∗ (bigSep Finset.univ fun i => iprop(atPos ER (kcell (c, i)) 0 ∅ 0 ∗ reached ER (kcell (c, i)) 0)) ∗ toks (F := F) c) := by
  have hv : iprop(semVal (barCell c) 0 ∗ bigSep Finset.univ fun i : Bool × Fin 30 => semVal (kcell (c, some i)) 0) = (bigSep Finset.univ fun i : CI => semVal (kcell (c, i)) 0 : sProp 𝕄) :=
    (bigSep_opt fun i : CI => semVal (kcell (c, i)) 0).symm
  rw [ownSems0_eq, unscopedSems0_eq]
  unfold G
  iintro ⟨Hos, Hus, Hst, Hat, Htok⟩
  ihave Hv := (Entails.of_eq hv) $$ [Hos Hus]
  · isplitl [Hus] <;> iassumption
  imod (show iprop((bigSep Finset.univ fun i : CI => semVal (kcell (c, i)) 0) ∗ bigSep Finset.univ fun i : CI => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat] <;> iassumption

/-! ## The tokens dealt to the devices that pay them -/

def mvEquiv : Dev nD × Fin 4 ≃ Dev nD × Fin 4 where
  toFun x := (mv x.2 x.1, x.2)
  invFun x := (mv x.2 x.1, x.2)
  left_inv x := Prod.ext (mv_mv x.2 x.1) rfl
  right_inv x := Prod.ext (mv_mv x.2 x.1) rfl
def ptEquiv : Dev nD × Fin 30 ≃ Dev nD × Fin 30 where
  toFun x := (pt x.2 x.1, x.2)
  invFun x := (pt x.2 x.1, x.2)
  left_inv x := Prod.ext (pt_pt x.2 x.1) rfl
  right_inv x := Prod.ext (pt_pt x.2 x.1) rfl

/-- The tokens a device pays with: of its partners' barriers, of its own departures, of its transfers' arrivals. -/
def pays (c : Dev nD) : sProp 𝕄 :=
  iprop((bigSep Finset.univ fun d : Fin 4 => dutyTok ER (barCell (mv d c)) 0 d) ∗ (bigSep Finset.univ fun k : Fin 30 => dutyTok ER (sCell k c) 0 0)
    ∗ bigSep Finset.univ fun k : Fin 30 => dutyTok ER (rCell k (pt k c)) 0 0)

omit [FloatOps F] in
theorem toks_sort (c : Dev nD) : toks (F := F) c ⊢ iprop((bigSep Finset.univ fun d : Fin 4 => dutyTok ER (barCell c) 0 d)
    ∗ (bigSep Finset.univ fun k : Fin 30 => dutyTok ER (sCell k c) 0 0) ∗ bigSep Finset.univ fun k : Fin 30 => dutyTok ER (rCell k c) 0 0) := by
  unfold toks
  rw [bigSep_univ_prod, bigSep_ci]
  refine sep_mono_right ((sep_mono_left (bigSep_mono fun k _ => ?_)).trans (sep_mono_right (bigSep_mono fun k _ => ?_)))
  · exact bigSep_elim (Φ := fun d : Fin 4 => (dutyTok ER (kcell (c, some (false, k))) 0 d : sProp 𝕄)) (Finset.mem_univ 0)
  · exact bigSep_elim (Φ := fun d : Fin 4 => (dutyTok ER (kcell (c, some (true, k))) 0 d : sProp 𝕄)) (Finset.mem_univ 0)

omit [FloatOps F] in
theorem toks_around : (bigSep Finset.univ fun c : Dev nD => toks (F := F) c) ⊢ bigSep Finset.univ fun c : Dev nD => pays (F := F) c := by
  refine (bigSep_mono fun c _ => toks_sort c).trans (entails_eq ?_)
  unfold pays
  rw [bigSep_sep', bigSep_sep', bigSep_sep', bigSep_sep']
  have h1 : (bigSep Finset.univ fun c : Dev nD => bigSep Finset.univ fun d : Fin 4 => (dutyTok ER (barCell c) 0 d : sProp 𝕄))
      = bigSep Finset.univ fun c : Dev nD => bigSep Finset.univ fun d : Fin 4 => dutyTok ER (barCell (mv d c)) 0 d := by
    rw [← bigSep_univ_prod (fun x : Dev nD × Fin 4 => (dutyTok ER (barCell x.1) 0 x.2 : sProp 𝕄)), bigSep_univ_equiv mvEquiv, bigSep_univ_prod]; rfl
  have h2 : (bigSep Finset.univ fun c : Dev nD => bigSep Finset.univ fun k : Fin 30 => (dutyTok ER (rCell k c) 0 0 : sProp 𝕄))
      = bigSep Finset.univ fun c : Dev nD => bigSep Finset.univ fun k : Fin 30 => dutyTok ER (rCell k (pt k c)) 0 0 := by
    rw [← bigSep_univ_prod (fun x : Dev nD × Fin 30 => (dutyTok ER (rCell x.2 x.1) 0 0 : sProp 𝕄)), bigSep_univ_equiv ptEquiv, bigSep_univ_prod]; rfl
  rw [h1, h2]

omit [FloatOps F] in
theorem lin_intro (c : Dev nD) : iprop((bigSep Finset.univ fun i : CI => atPos ER (kcell (c, i)) 0 ∅ 0) ∗ pays (F := F) c) ⊢ lin (F := F) c := by
  unfold pays lin lanes₀
  rw [bigSep_fin4, bigSep_ci, bigSep_ld, bigSep_ld (fun k => atPos ER (kcell (c, some (true, k))) 0 ∅ 0), bigSep_ld (fun k => dutyTok ER (sCell k c) 0 0),
    bigSep_ld (fun k => dutyTok ER (rCell k (pt k c)) 0 0), sep2, sep2]
  iintro ⟨⟨HA, ⟨S1, S2⟩, ⟨R1, R2⟩⟩, ⟨T0, T1, T2, T3⟩, ⟨P1, -⟩, ⟨P2, -⟩⟩
  isplitl [T0]; · iexact T0
  isplitl [T1]; · iexact T1
  isplitl [T2]; · iexact T2
  isplitl [T3]; · iexact T3
  isplitl [HA]; · iexact HA
  isplitl [S1 P1 P2]
  · isplitl [S1]; · iexact S1
    isplitl [P1]; · iexact P1
    iexact P2
  isplitl [R1]; · iexact R1
  isplitl [S2]; · iexact S2
  iexact R2

theorem g_intro (K : Dev nD × CI → ℕ) (c : Dev nD) : iprop(shared m K ∗ lin (F := F) c) ⊢ G' m c := by
  unfold G'; iintro H; iexists K; iexact H

theorem regroup :
    (bigSep Finset.univ fun c : Dev nD => iprop((bigSep Finset.univ fun i => iprop(∃ κ : ℕ, cellInv ER (Rd m) κ (kcell (c, i))))
          ∗ (bigSep Finset.univ fun i => iprop(atPos ER (kcell (c, i)) 0 ∅ 0 ∗ reached ER (kcell (c, i)) 0)) ∗ toks (F := F) c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (with_persistent (R := shared m K) fun c _ => g_intro m K c)
  isplitr
  · unfold shared; isplitl; · iexact HI
    iexact HR
  · iapply ((Entails.of_eq (bigSep_sep' Finset.univ (fun c : Dev nD => bigSep Finset.univ fun i : CI => (atPos ER (kcell (c, i)) 0 ∅ 0 : sProp 𝕄)) pays).symm).trans
      (bigSep_mono fun c _ => lin_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit each device is launched with -/

theorem kcell_ne {a b : Dev nD} {i j : CI} (h : i ≠ j) : kcell (a, i) ≠ kcell (b, j) := fun e => h (congrArg Prod.snd (kcell_injective e))
theorem bar_iff {a b : Dev nD} : barCell a = barCell b ↔ a = b :=
  ⟨fun e => congrArg Prod.fst (kcell_injective (a₁ := (a, none)) (a₂ := (b, none)) e), fun h => h ▸ rfl⟩
theorem recv_iff {k : Fin 30} {a b : Dev nD} : rCell k a = rCell k b ↔ a = b :=
  ⟨fun e => congrArg Prod.fst (kcell_injective (a₁ := (a, some (true, k))) (a₂ := (b, some (true, k))) e), fun h => h ▸ rfl⟩
theorem mv_iff {d : Fin 4} {a b : Dev nD} : b = mv d a ↔ a = mv d b :=
  ⟨fun h => by rw [h, mv_mv], fun h => by rw [h, mv_mv]⟩
theorem pt_iff {k : Fin 30} {a b : Dev nD} : b = pt k a ↔ a = pt k b :=
  ⟨fun h => by rw [h, pt_pt], fun h => by rw [h, pt_pt]⟩

theorem O_at (c : Dev nD) (g : GSem nD τ sig) : O c 0 g () = ∑ k ∈ live, (tallyAt (rCell k (pt k c)) () (N k) : CellTallies nD τ sig Unit) g () := by
  unfold O
  rw [Finset.filter_true_of_mem fun _ _ => Nat.zero_le _, Finset.sum_apply, Finsupp.finset_sum_apply]

theorem at_bar (e c : Dev nD) (d : Fin 4) : (tallyAt (barCell (mv d e)) () 1 : CellTallies nD τ sig Unit) (barCell c) () = if e = mv d c then 1 else 0 := by
  rw [tallyAt_apply]
  refine if_congr ?_ rfl rfl
  rw [and_iff_left rfl, bar_iff, ← mv_iff]
theorem owed_bar (e c : Dev nD) : O₀ e (barCell c) () = (if e = mv 3 c then 1 else 0) + (if e = mv 2 c then 1 else 0) + (if e = mv 1 c then 1 else 0) + (if e = mv 0 c then 1 else 0) := by
  show (O e 0 + tallyAt (barCell (mv 3 e)) () 1 + tallyAt (barCell (mv 2 e)) () 1 + tallyAt (barCell (mv 1 e)) () 1 + tallyAt (barCell (mv 0 e)) () 1 : CellTallies nD τ sig Unit) (barCell c) () = _
  simp only [Pi.add_apply, Finsupp.add_apply, at_bar, O_at]
  rw [Finset.sum_eq_zero fun k _ => ?_, Nat.zero_add]
  exact congrArg (fun t : Unit →₀ ℕ => t ()) (tallyAt_ne_cell (kcell_ne (a := c) (b := pt k e) (i := none) (j := some (true, k)) (by simp)) _ _)
theorem owed_recv (e c : Dev nD) {k : Fin 30} (hk : k ∈ live) : O₀ e (rCell k c) () = if e = pt k c then N k else 0 := by
  show (O e 0 + tallyAt (barCell (mv 3 e)) () 1 + tallyAt (barCell (mv 2 e)) () 1 + tallyAt (barCell (mv 1 e)) () 1 + tallyAt (barCell (mv 0 e)) () 1 : CellTallies nD τ sig Unit) (rCell k c) () = _
  have hb (d : Fin 4) : (tallyAt (barCell (mv d e)) () 1 : CellTallies nD τ sig Unit) (rCell k c) () = 0 := by
    exact congrArg (fun t : Unit →₀ ℕ => t ()) (tallyAt_ne_cell (kcell_ne (a := c) (b := mv d e) (i := some (true, k)) (j := none) (by simp)) _ _)
  simp only [Pi.add_apply, Finsupp.add_apply, hb, O_at, Nat.add_zero]
  rw [Finset.sum_eq_single k]
  · rw [tallyAt_apply]
    refine if_congr ?_ rfl rfl
    rw [and_iff_left rfl, recv_iff, ← pt_iff]
  · intro j _ hj
    exact congrArg (fun t : Unit →₀ ℕ => t ()) (tallyAt_ne_cell (kcell_ne (a := c) (b := pt j e) (i := some (true, k)) (j := some (true, j)) (by simpa using hj.symm)) _ _)
  · intro h; exact absurd hk h

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib, Finset.sum_add_distrib]
  simp only [Finset.sum_ite_eq', Finset.mem_univ, if_true]
theorem launch_recv (c : Dev nD) {k : Fin 30} (hk : k ∈ live) :
    tallyOn (rCell k c) (launchCredit (Pipeline.owing O₀) 0 (rCell k c)) = (tallyAt (rCell k c) () (N k) : CellTallies nD τ sig Unit) := by
  unfold tallyAt; refine congrArg _ (Finsupp.ext fun u => ?_); cases u
  rw [Pipeline.launchCredit_owing, Finsupp.single_eq_same, Finset.sum_congr rfl fun d _ => owed_recv d c hk]
  simp only [Finset.sum_ite_eq', Finset.mem_univ, if_true]

theorem rSem_injective : Function.Injective fun k : Fin 30 => (SemLoc.dma (rSem k) : SemLoc sig) := fun k k' h =>
  congrArg Prod.snd (Option.some.inj (csem_injective (a₁ := some (true, k)) (a₂ := some (true, k')) h))

omit [FloatOps F] in
theorem creds (c : Dev nD) : (Pipeline.launchCred O₀ c : sProp 𝕄) ⊢ iprop(cred (tallyAt (barCell c) () 4) ∗ bigSep live fun k => cred (tallyAt (rCell k c) () (N k))) := by
  unfold Pipeline.launchCred
  rw [bigSep_univ_at _ (SemLoc.reg barS), launch_bar]
  refine sep_mono_right ?_
  have hsub : live.map ⟨fun k : Fin 30 => (SemLoc.dma (rSem k) : SemLoc sig), rSem_injective⟩ ⊆ Finset.univ.erase (SemLoc.reg barS) := by
    intro x hx
    obtain ⟨k, -, rfl⟩ := Finset.mem_map.mp hx
    exact Finset.mem_erase.mpr ⟨by simp, Finset.mem_univ _⟩
  refine (bigSep_subset hsub).trans (entails_eq ?_)
  rw [bigSep_map]
  exact bigSep_congr fun k hk => congrArg cred (launch_recv c hk)

/-! ## The side conditions and the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem scr_rest (c : Dev nD) : (Pipeline.scopedRest (Ix := Unit) (Name := ℕ) (U := UU) (Lvl := ℕ) (Val := Elt F) cfg0.spec c : sProp 𝕄) = scr (F := F) c := by
  rw [scopedRest0_eq]; unfold scr anyB; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_rest]
  unfold Φ₀
  iintro ⟨Hs, -, Hr⟩
  isplitl [Hs] <;> iassumption

omit [FloatOps F] in
theorem own_split (c : Dev nD) : (Pipeline.ownSems0 (Ix := Unit) (Name := ℕ) (U := UU) (Lvl := ℕ) (Val := Elt F) (τ := τ) osem c : sProp 𝕄)
    = iprop(((bigSep live fun k => semVal (sCell k c) 0) ∗ bigSep dead fun k => semVal (sCell k c) 0)
        ∗ (bigSep live fun k => semVal (rCell k c) 0) ∗ bigSep dead fun k => semVal (rCell k c) 0) := by
  rw [ownSems0_eq, bigSep_univ_prod, bigSep_univ_eq_bigSepL [false, true] (by decide) (by decide), bigSepL_cons_cons, bigSepL_singleton, ← bigSep_ld, ← bigSep_ld]
  rfl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_rest, own_split, unscopedSems0_eq]
  unfold Φ₁
  iintro ⟨Hr, HB, S1, R1, S2, R2⟩
  isplitl [HB]; · iexact HB
  isplitr [Hr]
  · isplitl [S1 S2]
    · isplitl [S1] <;> iassumption
    · isplitl [R1] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 30000 in
/-- From any memory with all semaphores at zero, every fair run of the sixteen devices ends, with the arrays as computed
    and all semaphores at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ar m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were. -/
theorem finalA_in (c : Dev nD) (w : Fin 8) (h : w.val < 7) : finalA m ρ c w = m ((cfg0.win w).arr.view.loc (c : Thread nD τ)) :=
  (dats (F := F) m ρ 0 c).arrAt_in w (by match w, h with
    | 0, _ | 1, _ | 2, _ | 3, _ | 4, _ | 5, _ | 6, _ => rfl) _

end Cert.AR

end
-- ==== Proof.Frames.lean ====
/-
# The frames of the kernel

The arguments of every device are as they were, and every semaphore is at zero: read off the run, once at each carrier.
-/
module

public import proofs.«01_k».proof.Proof.Run
public import proofs.«01_k».proof.Defs
public import proofs.«01_k».proof.Proof.Gen.Kernel

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The arguments after the run, of any device. -/
def argsKept (r : PUnit × MemSt nD τ sig (Elt F)) : Prop :=
  ∀ c : Dev nD, ∀ w : Fin 8, w.val < 7 → r.2.mem ((cfg0.win w).arr.view.loc (c : Thread nD τ)) = m ((cfg0.win w).arr.view.loc (c : Thread nD τ))

theorem run_args (ρ : Dev nD → PrngReg) : θ_run defs (onTc (τ := τ) (main (F := F))) (s₀ m ρ) (fun r => argsKept m r ∧ r.2.sem = fun _ => 0) :=
  (θ_run defs _ _).mono (fun _ h => ⟨fun c w hw => (h.1 c w).trans (finalA_in m ρ c w hw), h.2⟩) (run_main m ρ)

theorem frame_kernelIdeal : Cert.quiescent_KernelIdeal := fun m ρ _ =>
  (θ_run defs _ _).mono (fun _ h => ⟨fun c => ⟨h.1 c 0 (by decide), h.1 c 1 (by decide), h.1 c 2 (by decide), h.1 c 3 (by decide), h.1 c 4 (by decide), h.1 c 5 (by decide), h.1 c 6 (by decide)⟩, h.2⟩)
    (run_args (F := Ideal) m ρ)

set_option maxRecDepth 20000 in
/-- The two prints of the kernel have one body table. -/
theorem defs₀_eq : (Cert.Kernel.defs₀ (F := Bits)) = Cert.KernelIdeal.defs₀ (F := Bits) := by
  unfold Cert.Kernel.defs₀ Cert.KernelIdeal.defs₀
  refine congrArg Defs.onTc (funext fun l => funext fun a => ?_)
  rcases l with ⟨_ | _, h⟩
  · rcases a with ⟨t, s⟩
    rfl
  · exact absurd h (Nat.not_lt.2 (Nat.le_add_left _ _))
theorem defs_eq : (Cert.Kernel.defs (F := Bits)) = Cert.KernelIdeal.defs (F := Bits) := congrArg (Pipeline.defs Cert.KernelIdeal.pcfgs) defs₀_eq

theorem frame_kernel : Cert.quiescent_Kernel := fun m ρ _ => by
  rw [defs_eq]
  exact (θ_run (Cert.KernelIdeal.defs (F := Bits)) (onTc (τ := τ) (main (F := Bits))) (s₀ m ρ)).mono (fun _ h => ⟨fun c => ⟨h.1 c 0 (by decide), h.1 c 1 (by decide), h.1 c 2 (by decide), h.1 c 3 (by decide), h.1 c 4 (by decide), h.1 c 5 (by decide), h.1 c 6 (by decide)⟩, h.2⟩)
    (run_args (F := Bits) m ρ)

end Cert.AR
end
-- ==== Proof.Spec.lean ====
/-
# Attention as arithmetic

What one head of the attention computes from its rows and columns, in the two forms met here: dividing the weighted
sum once by the sum of the weights, and dividing each weight after a shift by the largest score. On real scores the
two are equal, whatever the values weighted.
-/
module

public import Idealize.ShloMosaic.Lib.KernelVsHost
public import Idealize.ShloMosaic.Lib.IdealHost
public import Idealize.ShloMosaic.Lib.MatmulPlain

@[expose] public section

noncomputable section

namespace Cert.AR

open Idealize.ShloMosaic Idealize.ShloMosaic.ValueIdx
open scoped BigOperators

/-! ## Real numbers among the extended reals -/

/-- `x` is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.sum {ι : Type} (s : Finset ι) {f : ι → EReal} (h : ∀ i, IsR (f i)) : IsR (∑ i ∈ s, f i) := by
  classical
  induction s using Finset.induction_on with
  | empty => exact ⟨0, by simp⟩
  | insert a t ha ih => rw [Finset.sum_insert ha]; exact (h a).add ih

/-- A number whose absolute value is below infinity is real. -/
theorem isR_of_abs {x : EReal} (h : max x (-x) < ⊤) : IsR x := by
  induction x using EReal.rec with
  | bot => simp at h
  | top => simp at h
  | coe r => exact ⟨r, rfl⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a t ha ih => rw [Finset.sum_insert ha, Finset.sum_insert ha, ih, EReal.coe_add]

/-- A positive real factor goes inside a sum, whatever its terms. -/
theorem sum_mul_real {ι : Type} (s : Finset ι) (f : ι → EReal) {a : ℝ} (ha : 0 ≤ a) : (∑ i ∈ s, f i) * (a : EReal) = ∑ i ∈ s, f i * (a : EReal) := by
  classical
  induction s using Finset.induction_on with
  | empty => simp
  | insert b t hb ih =>
    rw [Finset.sum_insert hb, Finset.sum_insert hb, ← ih]
    exact EReal.right_distrib_of_nonneg_of_ne_top (by exact_mod_cast ha) (EReal.coe_ne_top a) _ _

/-- The largest of finitely many real numbers, from minus infinity, is real. -/
theorem isR_fold_max {ι : Type} (s : Finset ι) (hs : s.Nonempty) {f : ι → EReal} (h : ∀ i, IsR (f i)) : IsR (s.fold max ⊥ f) := by
  classical
  induction hs using Finset.Nonempty.cons_induction with
  | singleton a => simpa using h a
  | cons a t ha ht ih =>
    rw [Finset.fold_cons]
    rcases max_choice (f a) (t.fold max ⊥ f) with e | e
    · rw [e]; exact h a
    · rw [e]; exact ih

/-! ## One head -/

abbrev Sq : Shape := ⟨2, ![1024, 1024]⟩
abbrev Tb : Shape := ⟨2, ![1024, 128]⟩

/-- The rows of `X` against one head's columns `W`. -/
def proj (X : Sq.Idx → EReal) (W : Fin 1024 → Fin 128 → EReal) (r : Fin 1024) (d : Fin 128) : EReal := ∑ k, X (ix2 r k) * W k d

/-- Each pair of neighbours turned a quarter: (a, b) becomes (-b, a). -/
def turn (q : Fin 128 → EReal) (d : Fin 128) : EReal :=
  if h : d.val % 2 = 0 then -q ⟨d.val + 1, by omega⟩ else q ⟨d.val - 1, by omega⟩

/-- The projection turned by the position's angles. -/
def rope (X : Sq.Idx → EReal) (Co Si : Tb.Idx → EReal) (W : Fin 1024 → Fin 128 → EReal) (r : Fin 1024) (d : Fin 128) : EReal :=
  proj X W r d * Co (ix2 r d) + turn (proj X W r) d * Si (ix2 r d)

/-- The scores' scale, as the programs write it. -/
def scale : EReal := Ideal.ofBits .f32 0x3DB504F3#32

def score (q k : Fin 1024 → Fin 128 → EReal) (i j : Fin 1024) : EReal := (∑ d, q i d * k j d) * scale

/-- The weighted sum divided once. -/
def attK (s : Fin 1024 → EReal) (v : Fin 1024 → EReal) : EReal := Ideal.div (∑ j, Ideal.exp (s j) * v j) (∑ j, Ideal.exp (s j))

def top (s : Fin 1024 → EReal) : EReal := (Finset.univ : Finset (Fin 1024)).fold max ⊥ s

/-- Each weight shifted by the largest score and divided. -/
def attR (s : Fin 1024 → EReal) (v : Fin 1024 → EReal) : EReal :=
  ∑ j, v j * Ideal.div (Ideal.exp (s j - top s)) (∑ j', Ideal.exp (s j' - top s))

theorem attK_eq_attR (s v : Fin 1024 → EReal) (hs : ∀ j, IsR (s j)) : attK s v = attR s v := by
  obtain ⟨M, hM⟩ := isR_fold_max (Finset.univ : Finset (Fin 1024)) Finset.univ_nonempty hs
  unfold attK attR top
  rw [hM]
  choose t ht using hs
  simp only [ht, ← EReal.coe_sub, Ideal.exp_coe]
  rw [coe_sum, coe_sum]
  have hD : 0 < ∑ j, Real.exp (t j) := Finset.sum_pos (fun j _ => Real.exp_pos _) Finset.univ_nonempty
  have hD' : 0 < ∑ j, Real.exp (t j - M) := Finset.sum_pos (fun j _ => Real.exp_pos _) Finset.univ_nonempty
  rw [Ideal.div_coe hD.ne', sum_mul_real _ _ (one_div_nonneg.mpr hD.le)]
  refine Finset.sum_congr rfl fun j _ => ?_
  rw [Ideal.div_coe hD'.ne', ← EReal.coe_mul, mul_comm ((Real.exp (t j) : ℝ) : EReal) (v j), mul_assoc, ← EReal.coe_mul]
  have e : ∑ j, Real.exp (t j - M) = (∑ j, Real.exp (t j)) * Real.exp (-M) := by
    rw [Finset.sum_mul]; exact Finset.sum_congr rfl fun j _ => by rw [sub_eq_add_neg, Real.exp_add]
  rw [e, sub_eq_add_neg, Real.exp_add]
  congr 2
  have := Real.exp_pos (-M)
  field_simp

theorem isR_scale : IsR scale := by
  unfold scale
  simp [Ideal.ofBits, Ideal.ieee]
  exact IsR.mul ⟨_, rfl⟩ ⟨_, rfl⟩

theorem isR_proj {X : Sq.Idx → EReal} {W : Fin 1024 → Fin 128 → EReal} (hX : ∀ i, IsR (X i)) (hW : ∀ k d, IsR (W k d)) (r : Fin 1024) (d : Fin 128) : IsR (proj X W r d) :=
  IsR.sum _ fun k => (hX _).mul (hW k d)
theorem isR_turn {q : Fin 128 → EReal} (h : ∀ d, IsR (q d)) (d : Fin 128) : IsR (turn q d) := by
  unfold turn; split
  · exact (h _).neg
  · exact h _
theorem isR_rope {X : Sq.Idx → EReal} {Co Si : Tb.Idx → EReal} {W : Fin 1024 → Fin 128 → EReal} (hX : ∀ i, IsR (X i)) (hC : ∀ i, IsR (Co i)) (hS : ∀ i, IsR (Si i))
    (hW : ∀ k d, IsR (W k d)) (r : Fin 1024) (d : Fin 128) : IsR (rope X Co Si W r d) :=
  ((isR_proj hX hW r d).mul (hC _)).add ((isR_turn (isR_proj hX hW r) d).mul (hS _))
theorem isR_score {q k : Fin 1024 → Fin 128 → EReal} (hq : ∀ i d, IsR (q i d)) (hk : ∀ i d, IsR (k i d)) (i j : Fin 1024) : IsR (score q k i j) :=
  (IsR.sum _ fun d => (hq i d).mul (hk j d)).mul isR_scale

/-- One head's output, by the first form. -/
def headK (X : Sq.Idx → EReal) (Co Si : Tb.Idx → EReal) (Wq Wk Wv : Fin 1024 → Fin 128 → EReal) (r : Fin 1024) (d : Fin 128) : EReal :=
  attK (score (rope X Co Si Wq) (rope X Co Si Wk) r) (fun j => proj X Wv j d)
/-- One head's output, by the second form. -/
def headR (X : Sq.Idx → EReal) (Co Si : Tb.Idx → EReal) (Wq Wk Wv : Fin 1024 → Fin 128 → EReal) (r : Fin 1024) (d : Fin 128) : EReal :=
  attR (score (rope X Co Si Wq) (rope X Co Si Wk) r) (fun j => proj X Wv j d)

theorem headK_eq_headR {X : Sq.Idx → EReal} {Co Si : Tb.Idx → EReal} {Wq Wk : Fin 1024 → Fin 128 → EReal} (Wv : Fin 1024 → Fin 128 → EReal)
    (hX : ∀ i, IsR (X i)) (hC : ∀ i, IsR (Co i)) (hS : ∀ i, IsR (Si i)) (hq : ∀ k d, IsR (Wq k d)) (hk : ∀ k d, IsR (Wk k d)) (r : Fin 1024) (d : Fin 128) :
    headK X Co Si Wq Wk Wv r d = headR X Co Si Wq Wk Wv r d :=
  attK_eq_attR _ _ (isR_score (isR_rope hX hC hS hq) (isR_rope hX hC hS hk) r)

end Cert.AR

end
-- ==== Proof.KVal.lean ====
/-
# What a device computes alone, read at an index

At the ideal values: the turned projections, the heads' outputs and the device's part of the output are the sums of
`Spec`.
-/
module

public import proofs.«01_k».proof.Proof.Vals
public import proofs.«01_k».proof.Proof.Spec
public import Idealize.ShloMosaic.Lib.ValueLayoutCasts

@[expose] public section

noncomputable section

namespace Cert.AR

open Cert.KernelIdeal Cert.KernelIdeal.Gen
open Idealize.ShloMosaic Idealize.ShloMosaic.TcCoe Idealize.ShloMosaic.ValueIdx
open scoped BigOperators

/-! ## The operations -/

/-- Column `d` of head `h`. -/
def col (h : Fin 8) (d : Fin 128) : Fin 1024 := ⟨128 * h.val + d.val, by omega⟩

theorem tables_apply (v : Vec Ideal S1024x128 .f32) (r : Fin 1024) (h : Fin 8) (d : Fin 128) : k0_pay1 v (ix2 r (col h d)) = v (ix2 r d) := by
  unfold k0_pay1
  rw [shapeCast_self]
  refine concatenate_replicate_apply (t := S1024x1024) 1 8 v concatenates_S1024x128_S1024x128_S1024x128_S1024x128_S1024x128_S1024x128_S1024x128_S1024x128_S1024x1024_d1 rfl _ _ ?_ ?_
  · show d.val = (128 * h.val + d.val) % 128
    omega
  · intro b hb
    match b with
    | ⟨0, _⟩ => rfl
    | ⟨1, _⟩ => exact absurd rfl hb

theorem pay2_eq : (k0_pay2 : Vec Ideal S1024x128 .f32 → FVec Ideal S1024x1024 .f32) = k0_pay1 := rfl

/-- The remainder by two as the kernel computes it: the sign's correction of the signed remainder. -/
def evenWord (w : BitVec 32) : BitVec 1 :=
  let t : BitVec 32 := Scalar.select (Scalar.cmpi .eq 2#32 0#32) 1#32 2#32
  let r := IntOp.remsi .vector w t
  IntOp.cmpi .eq (Scalar.select (IntOp.andi (IntOp.xori (IntOp.cmpi .slt r 0#32) (Scalar.cmpi .slt t 0#32)) (IntOp.cmpi .ne r 0#32)) (IntOp.addi r t) r) 0#32

set_option maxRecDepth 8000 in
theorem evenWord_eq : ∀ k : Fin 1024, evenWord (BitVec.ofNat 32 k.val) = if k.val % 2 = 0 then 1#1 else 0#1 := by decide +kernel

theorem mask_apply (r k : Fin 1024) : k0_pay3 (ix2 r k) = if k.val % 2 = 0 then 1#1 else 0#1 := by
  rw [← evenWord_eq k]
  unfold k0_pay3
  show evenWord (iota .tc S1024x1024 32 [1] iota_S1024x1024_d1_w32 (ix2 r k)) = _
  rw [iota_single_apply]

theorem mm_apply (x w : FVec Ideal S1024x1024 .bf16) (r k : Fin 1024) :
    matmul dot_S1024x1024_S1024x1024_S1024x1024_1_0_0_1_n_n none x w (constant S1024x1024 .f32 0x00000000#32) (ix2 r k) = ∑ a : Fin 1024, x (ix2 r a) * w (ix2 a k) := by
  refine (Ideal.matmul_plain_apply none x w _ r k).trans ?_
  show Ideal.ofBits .f32 0x00000000#32 + _ = _
  rw [Ideal.ofBits_zero_f32, zero_add]

theorem turned_apply (q : FVec Ideal S1024x1024 .f32) (co si : Vec Ideal S1024x128 .f32) (r : Fin 1024) (h : Fin 8) (d : Fin 128) :
    addf (mulf q (k0_pay1 co)) (mulf (select k0_pay3 (subf (broadcast S1024x1024 (Scalar.ofBits .f32 0x00000000#32 : Ideal .f32)) (dynamicRotate 1 1023#32 none q rotates_S1024x1024_d1)) (dynamicRotate 1 1#32 none q rotates_S1024x1024_d1)) (k0_pay2 si)) (ix2 r (col h d))
      = q (ix2 r (col h d)) * co (ix2 r d) + turn (fun d => q (ix2 r (col h d))) d * si (ix2 r d) := by
  rw [addf_apply, mulf_apply, mulf_apply, pay2_eq, tables_apply, tables_apply, select_apply, mask_apply]
  congr 2
  unfold turn
  have hd := d.isLt
  have hh := h.isLt
  by_cases e : d.val % 2 = 0
  · rw [if_pos (show (col h d).val % 2 = 0 by show (128 * h.val + d.val) % 2 = 0; omega), dif_pos e, select_one, subf_apply, broadcast_apply]
    rw [dynamicRotate_apply 1 1023#32 q rotates_S1024x1024_d1 (ix2 r (col h d)) (ix2 r (col h ⟨d.val + 1, by omega⟩))]
    · show Ideal.ofBits .f32 0x00000000#32 - _ = _
      rw [Ideal.ofBits_zero_f32, zero_sub]
    · intro b
      match b with
      | ⟨0, _⟩ => rfl
      | ⟨1, _⟩ =>
        show 128 * h.val + (d.val + 1) = ((128 * h.val + d.val) + 1024 - 1023 % 1024) % 1024
        omega
  · rw [if_neg (show ¬ (col h d).val % 2 = 0 by show ¬ (128 * h.val + d.val) % 2 = 0; omega), dif_neg e, select_zero]
    rw [dynamicRotate_apply 1 1#32 q rotates_S1024x1024_d1 (ix2 r (col h d)) (ix2 r (col h ⟨d.val - 1, by omega⟩))]
    intro b
    match b with
    | ⟨0, _⟩ => rfl
    | ⟨1, _⟩ =>
      show 128 * h.val + (d.val - 1) = ((128 * h.val + d.val) + 1024 - 1 % 1024) % 1024
      omega

variable (m : (ℓ : Loc nD τ sig) → Buf (Elt Ideal) ℓ) (c : Dev nD)

/-- One head's columns of a block of weights. -/
def cols (W : S1024x1024.Idx → EReal) (h : Fin 8) (k : Fin 1024) (d : Fin 128) : EReal := W (ix2 k (col h d))

theorem Qv_apply (r : Fin 1024) (h : Fin 8) (d : Fin 128) : Qv m c (ix2 r (col h d)) = rope (xV m c) (cosV m c) (sinV m c) (cols (wqV m c) h) r d := by
  unfold Qv k0_pay6 k0_pay4 k0_pay5
  simp only [shapeCast_self]
  rw [truncf_apply]
  refine (turned_apply _ _ _ r h d).trans ?_
  simp only [mm_apply]
  rfl
theorem Kv_apply (r : Fin 1024) (h : Fin 8) (d : Fin 128) : Kv m c (ix2 r (col h d)) = rope (xV m c) (cosV m c) (sinV m c) (cols (wkV m c) h) r d := by
  unfold Kv k0_pay7 k0_pay4
  simp only [shapeCast_self]
  rw [truncf_apply]
  refine (turned_apply _ _ _ r h d).trans ?_
  simp only [mm_apply]
  rfl
theorem Vv_apply (r : Fin 1024) (h : Fin 8) (d : Fin 128) : Vv m c (ix2 r (col h d)) = proj (xV m c) (cols (wvV m c) h) r d := by
  unfold Vv k0_pay8 k0_pay4
  simp only [shapeCast_self]
  rw [truncf_apply]
  exact mm_apply _ _ r (col h d)

/-! ## The heads -/

theorem pay9_apply (q : Vec Ideal S512x128 .bf16) (k v : Vec Ideal S1024x128 .bf16) (i : Fin 512) (d : Fin 128) :
    k0_pay9 q k v (ix2 i d) = attK (fun j => (∑ e : Fin 128, q (ix2 i e) * k (ix2 j e)) * scale) (fun j => v (ix2 j d)) := by
  unfold k0_pay9
  simp only [shapeCast_self]
  rw [truncf_apply, divf_apply]
  unfold attK
  have hs : ∀ j : Fin 1024, exp (mulf (matmul (φ₁ := .bf16) (φ₂ := .bf16) dot_S512x128_S1024x128_S512x1024_1_1_0_0_n_n none q k (constant S512x1024 .f32 0x00000000#32)) (broadcast S512x1024 (Scalar.ofBits .f32 0x3DB504F3#32 : Ideal .f32))) (ix2 i j)
      = Ideal.exp ((∑ e : Fin 128, q (ix2 i e) * k (ix2 j e)) * scale) := by
    intro j
    show Ideal.exp (_ * _) = _
    congr 2
    refine (Ideal.matmul_transposedRhs_apply none q k _ i j).trans ?_
    show Ideal.ofBits .f32 0x00000000#32 + _ = _
    rw [Ideal.ofBits_zero_f32, zero_add]
  congr 1
  · refine (Ideal.matmul_plain_apply none _ v _ i d).trans ?_
    show Ideal.ofBits .f32 0x00000000#32 + _ = _
    rw [Ideal.ofBits_zero_f32, zero_add]
    refine Finset.sum_congr rfl fun j _ => ?_
    rw [truncf_apply, hs]
  · rw [broadcastTo_apply _ broadcasts_S512x1_S512x128 (ix2 i d) (ix2 i (0 : Fin 1)) (by
      intro a
      match a with
      | ⟨0, _⟩ => rfl
      | ⟨1, _⟩ => rfl), shapeCast_a_a1_apply]
    refine (Ideal.multiReduction_add_single (a := (1 : Fin S512x1024.rank)) _ _ reduces_S512x1024_S512 _ _ (ix1 i)).trans ?_
    refine Finset.sum_congr rfl fun (j : Fin 1024) _ => ?_
    refine Eq.trans ?_ (hs j)
    exact congrArg _ (Shape.idx_ext₂ rfl rfl)

theorem headV_apply (r0 h : ℕ) (hr : r0 + 512 ≤ 1024) (hh : h < 8) (i d : ℕ) (hi : i < 512) (hd : d < 128) :
    headV m c r0 h (ix128 i d) = headK (xV m c) (cosV m c) (sinV m c) (cols (wqV m c) ⟨h, hh⟩) (cols (wkV m c) ⟨h, hh⟩) (cols (wvV m c) ⟨h, hh⟩) ⟨r0 + i, by omega⟩ ⟨d, hd⟩ := by
  have e : ix128 i d = ix2 ⟨i, hi⟩ ⟨d, hd⟩ := Shape.idx_ext₂ (Nat.mod_eq_of_lt hi) (Nat.mod_eq_of_lt hd)
  rw [e]
  unfold headV
  rw [pay9_apply]
  have hsub : ∀ (n : ℕ) (f : S1024x1024.Idx → EReal) (a : ℕ) (x : Fin n) (d : Fin 128) (hx : a + x.val < 1024),
      sub n 128 f a (128 * h) (ix2 x d) = f (ix2 ⟨a + x.val, hx⟩ (col ⟨h, hh⟩ d)) := by
    intro n f a x d hx
    unfold sub
    congr 1
    have := d.isLt
    exact Shape.idx_ext₂ (Nat.mod_eq_of_lt hx) (Nat.mod_eq_of_lt (show 128 * h + d.val < 1024 by omega))
  refine congrArg₂ attK (funext fun j => ?_) (funext fun j => ?_)
  · unfold score
    refine congrArg (· * scale) (Finset.sum_congr rfl fun e _ => ?_)
    have h1 := hsub 512 (Qv m c) r0 ⟨i, hi⟩ e (show r0 + i < 1024 by omega)
    have h2 := hsub 1024 (Kv m c) 0 j e (show 0 + j.val < 1024 by have := j.isLt; omega)
    rw [h1, h2, Qv_apply, Kv_apply]
    congr 2
    exact Fin.ext (Nat.zero_add _)
  · have h2 := hsub 1024 (Vv m c) 0 j ⟨d, hd⟩ (show 0 + j.val < 1024 by have := j.isLt; omega)
    rw [h2, Vv_apply]
    congr 1
    exact Fin.ext (Nat.zero_add _)

/-! ## The device's part -/

/-- The head a column lies in, and where in the head. -/
def hd (i : Fin 1024) : Fin 8 := ⟨i.val / 128, by omega⟩
def hc (i : Fin 1024) : Fin 128 := ⟨i.val % 128, by omega⟩

theorem Pv_apply (r n : Fin 1024) :
    Pv m c r.val n.val = ∑ i : Fin 1024, headK (xV m c) (cosV m c) (sinV m c) (cols (wqV m c) (hd i)) (cols (wkV m c) (hd i)) (cols (wvV m c) (hd i)) r (hc i) * woV m c (ix2 i n) := by
  have hr := r.isLt
  have e : ix512 (r.val % 512) n.val = ix2 ⟨r.val % 512, by omega⟩ n := Shape.idx_ext₂ (show r.val % 512 % 512 = r.val % 512 by omega) (Nat.mod_eq_of_lt n.isLt)
  unfold Pv k0_pay17
  simp only [shapeCast_self]
  rw [e]
  refine (Ideal.matmul_plain_apply none _ _ _ _ n).trans ?_
  show Ideal.ofBits .f32 0x00000000#32 + _ = _
  rw [Ideal.ofBits_zero_f32, zero_add]
  refine Finset.sum_congr rfl fun i _ => ?_
  have hi := i.isLt
  rw [truncf_apply]
  congr 1
  refine (headV_apply m c (512 * (r.val / 512)) (i.val / 128) (by omega) (by omega) (r.val % 512) (i.val % 128) (by omega) (by omega)).trans ?_
  congr 1
  exact Fin.ext (Nat.div_add_mod _ _)

end Cert.AR

end
-- ==== Proof.Out.lean ====
/-
# What every device ends with

The reduction sums the sixteen devices' parts, and the array left in memory is that sum.
-/
module

public import proofs.«01_k».proof.Proof.Run
public import proofs.«01_k».proof.Proof.KVal

@[expose] public section

noncomputable section

namespace Cert.AR

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The devices whose parts device `c` has summed before step `s` of tree `t`. -/
def reach (t : Fin 2) : ℕ → Dev nD → Finset (Dev nD)
  | 0, c => {c}
  | s + 1, c => reach t s c ∪ reach t s (pr t s c)

theorem reach_disj (t : Fin 2) (s : Fin 4) (c : Dev nD) : Disjoint (reach t s c) (reach t s (pr t s c)) := by revert t s c; decide +kernel
theorem reach_all (t : Fin 2) (c : Dev nD) : reach t 4 c = Finset.univ := by revert t c; decide +kernel

section Ideal
variable (m : (ℓ : Loc nD τ sig) → Buf (Elt Ideal) ℓ)

theorem T_sum (t : Fin 2) (r k : ℕ) : ∀ s : ℕ, s ≤ 4 → ∀ c : Dev nD, T m t s c r k = ∑ c' ∈ reach t s c, (Pv m c' r k : EReal)
  | 0, _, c => (Finset.sum_singleton (fun c' : Dev nD => (Pv m c' r k : EReal)) c).symm
  | s + 1, hs, c => by
    rw [T_succ]
    show (T m t s c r k : EReal) + T m t s (pr t s c) r k = ∑ c' ∈ reach t s c ∪ reach t s (pr t s c), (Pv m c' r k : EReal)
    rw [Finset.sum_union (reach_disj t ⟨s, by omega⟩ c), T_sum t r k s (by omega) c, T_sum t r k s (by omega) (pr t s c)]

theorem Ov_apply (r n : Fin 1024) : Ov m (ix2 r n) = ∑ c : Dev nD, (Pv m c r.val n.val : EReal) := by
  show (if n.val < 512 then T m 0 4 (owner 0 (r.val / 64)) r.val n.val else T m 1 4 (owner 1 (r.val / 64)) r.val n.val) = _
  rw [T_sum m 0 _ _ 4 le_rfl, T_sum m 1 _ _ 4 le_rfl, reach_all, reach_all]
  exact ite_self _

end Ideal

variable {F : FTy → Type} [FloatOps F] (m : (ℓ : Loc nD τ sig) → Buf (Elt F) ℓ) (ρ : Dev nD → PrngReg)

omit [FloatOps F] in
theorem xV_eq (c : Dev nD) : xV m c = m ((c : Thread nD τ).loc main_arg0) := by
  funext i; exact congrArg (m ((c : Thread nD τ).loc main_arg0)) (idx_ext2 (by show 0 * _ + 1 * (i 0).val = (i 0).val; omega) (by show 0 * _ + 1 * (i 1).val = (i 1).val; omega))

omit [FloatOps F] in
theorem wqV_eq (c : Dev nD) : wqV m c = m ((c : Thread nD τ).loc main_arg1) := by
  funext i; exact congrArg (m ((c : Thread nD τ).loc main_arg1)) (idx_ext2 (by show 0 * _ + 1 * (i 0).val = (i 0).val; omega) (by show 0 * _ + 1 * (i 1).val = (i 1).val; omega))

omit [FloatOps F] in
theorem wkV_eq (c : Dev nD) : wkV m c = m ((c : Thread nD τ).loc main_arg2) := by
  funext i; exact congrArg (m ((c : Thread nD τ).loc main_arg2)) (idx_ext2 (by show 0 * _ + 1 * (i 0).val = (i 0).val; omega) (by show 0 * _ + 1 * (i 1).val = (i 1).val; omega))

omit [FloatOps F] in
theorem wvV_eq (c : Dev nD) : wvV m c = m ((c : Thread nD τ).loc main_arg3) := by
  funext i; exact congrArg (m ((c : Thread nD τ).loc main_arg3)) (idx_ext2 (by show 0 * _ + 1 * (i 0).val = (i 0).val; omega) (by show 0 * _ + 1 * (i 1).val = (i 1).val; omega))

omit [FloatOps F] in
theorem woV_eq (c : Dev nD) : woV m c = m ((c : Thread nD τ).loc main_arg4) := by
  funext i; exact congrArg (m ((c : Thread nD τ).loc main_arg4)) (idx_ext2 (by show 0 * _ + 1 * (i 0).val = (i 0).val; omega) (by show 0 * _ + 1 * (i 1).val = (i 1).val; omega))

omit [FloatOps F] in
theorem cosV_eq (c : Dev nD) : cosV m c = m ((c : Thread nD τ).loc main_arg5) := by
  funext i; exact congrArg (m ((c : Thread nD τ).loc main_arg5)) (idx_ext2 (by show 0 * _ + 1 * (i 0).val = (i 0).val; omega) (by show 0 * _ + 1 * (i 1).val = (i 1).val; omega))

omit [FloatOps F] in
theorem sinV_eq (c : Dev nD) : sinV m c = m ((c : Thread nD τ).loc main_arg6) := by
  funext i; exact congrArg (m ((c : Thread nD τ).loc main_arg6)) (idx_ext2 (by show 0 * _ + 1 * (i 0).val = (i 0).val; omega) (by show 0 * _ + 1 * (i 1).val = (i 1).val; omega))

theorem finalA_out (c : Dev nD) : finalA m ρ c 7 = Ov m :=
  (dats m ρ 0 c).arrAt_eq_of_cover 7 (Ov m)
    (fun t _ => by
      obtain rfl : t = t0_0 := by revert t; decide
      show Ov m = ((win0_7.blk t0_0).view.read (Elt F) (Ov m))
      funext i
      exact congrArg (Ov m) (idx_ext2 (by show (i 0).val = 0 * _ + 1 * (i 0).val; omega) (by show (i 1).val = 0 * _ + 1 * (i 1).val; omega)))
    (fun i => ⟨t0_0, by decide +kernel, by
      show i ∈ ((View.whole main_v1).slice (win0_7.rect t0_0)).set
      rw [View.set_slice_whole, Rect.mem_set_unit]
      intro a
      have h0 : (i 0 : Nat) < 1024 := (i 0).isLt
      have h1 : (i 1 : Nat) < 1024 := (i 1).isLt
      match a with
      | ⟨0, _⟩ => show 0 * _ ≤ (i 0 : Nat) ∧ (i 0 : Nat) < 0 * _ + 1024
                  omega
      | ⟨1, _⟩ => show 0 * _ ≤ (i 1 : Nat) ∧ (i 1 : Nat) < 0 * _ + 1024
                  omega⟩)

end Cert.AR

end
-- ==== Proof.RVal.lean ====
/-
# The reference read at an index

The reference's composed term is cut into its stages and each stage is read at an index: the projections, the turned
projections, the scores, the weights and the output are the sums of `Spec`, over all 128 heads.
-/
module

public import proofs.«01_k».proof.Proof.Gen.ReferenceIdeal.Run
public import proofs.«01_k».proof.Proof.Spec
public import Idealize.ShloMosaic.Lib.ValueIdxCoords

@[expose] public section

noncomputable section

namespace Cert.AR.Ref

open Cert.ReferenceIdeal Cert.ReferenceIdeal.Gen
open Idealize.ShloMosaic Idealize.ShloMosaic.TcCoe Idealize.ShloMosaic.ValueIdx
open scoped BigOperators

/-- Column `d` of head `h` among all the heads. -/
def gcol (h d : Fin 128) : Fin 16384 := ⟨128 * h.val + d.val, by omega⟩
/-- Head `h`'s block of a weight. -/
def gcols (W : S1024x16384.Idx → EReal) (h : Fin 128) (k : Fin 1024) (d : Fin 128) : EReal := W (ix2 k (gcol h d))

/-! ## The stages -/

abbrev V4 := FVec Ideal S1x1024x128x128 .f32
abbrev A4 := FVec Ideal S1x128x1024x1024 .f32

def proj4 (X : FVec Ideal S1024x1024 .f32) (W : FVec Ideal S1024x16384 .f32) : V4 :=
  shapeCast _ (Host.dotGeneral dot_S1x1024x1024_S1024x16384_S1x1024x16384_2_0_01_1_n_n none (shapeCast _ X shapeCasts_S1024x1024_S1x1024x1024) W) shapeCasts_S1x1024x16384_S1x1024x128x128

def five (q : V4) : FVec Ideal S1x1024x128x64x2 .f32 := shapeCast _ q shapeCasts_S1x1024x128x128_S1x1024x128x64x2

def odds (q : V4) : FVec Ideal S1x1024x128x64x1 .f32 :=
  broadcastInDim S1x1024x128x64x1 ![0, 1, 2, 3] bcast_S1x1024x128x64_S1x1024x128x64x1_0_1_2_3 (Host.negf (shapeCast S1x1024x128x64 (extractStridedSlice S1x1024x128x64x1 ![0, 0, 0, 0, 1] (five q) slices_S1x1024x128x64x2_S1x1024x128x64x1_0_0_0_0_1) shapeCasts_S1x1024x128x64x1_S1x1024x128x64))

def evens (q : V4) : FVec Ideal S1x1024x128x64x1 .f32 :=
  broadcastInDim S1x1024x128x64x1 ![0, 1, 2, 3] bcast_S1x1024x128x64_S1x1024x128x64x1_0_1_2_3 (shapeCast S1x1024x128x64 (extractStridedSlice S1x1024x128x64x1 ![0, 0, 0, 0, 0] (five q) slices_S1x1024x128x64x2_S1x1024x128x64x1_0_0_0_0_0) shapeCasts_S1x1024x128x64x1_S1x1024x128x64)

def turn4 (q : V4) : V4 :=
  shapeCast _ (concatenate S1x1024x128x64x2 4 [⟨S1x1024x128x64x1, odds q⟩, ⟨S1x1024x128x64x1, evens q⟩] concatenates_S1x1024x128x64x1_S1x1024x128x64x1_S1x1024x128x64x2_d4) shapeCasts_S1x1024x128x64x2_S1x1024x128x128

def tab4 (C : FVec Ideal S1024x128 .f32) : V4 :=
  broadcastInDim S1x1024x128x128 ![0, 1, 2, 3] bcast_S1x1024x1x128_S1x1024x128x128_0_1_2_3 (broadcastInDim S1x1024x1x128 ![1, 3] bcast_S1024x128_S1x1024x1x128_1_3 C)

def rope4 (q : V4) (C S : FVec Ideal S1024x128 .f32) : V4 := addf (mulf q (tab4 C)) (mulf (turn4 q) (tab4 S))

def score4 (q k : V4) : A4 :=
  mulf (Host.dotGeneral dot_S1x1024x128x128_S1x1024x128x128_S1x128x1024x1024_3_3_1_1_02_02 none q k) (broadcastInDim S1x128x1024x1024 ![] bcast_S_S1x128x1024x1024 (constant S_ .f32 0x3DB504F3#32))

def rows4 (t : FVec Ideal S1x128x1024 .f32) : A4 :=
  broadcastInDim S1x128x1024x1024 ![0, 1, 2, 3] bcast_S1x128x1024x1_S1x128x1024x1024_0_1_2_3 (broadcastInDim S1x128x1024x1 ![0, 1, 2] bcast_S1x128x1024_S1x128x1024x1_0_1_2 t)

def top3 (s : A4) : FVec Ideal S1x128x1024 .f32 :=
  Host.reduce FloatOps.maximumf s (constant S_ .f32 0xFF800000#32) reducesTo_S1x128x1024x1024_S1x128x1024_d3 h_S_

def exp4 (s : A4) : A4 := Host.exp (subf s (rows4 (top3 s)))

def sum3 (e : A4) : FVec Ideal S1x128x1024 .f32 :=
  Host.reduceAdd e (constant S_ .f32 0x00000000#32) reducesTo_S1x128x1024x1024_S1x128x1024_d3 h_S_

def weights (e : A4) : A4 := Host.divf e (rows4 (sum3 e))

def heads4 (v : V4) (w : A4) : V4 :=
  transpose S1x1024x128x128 [0, 3, 1, 2] (Host.dotGeneral dot_S1x1024x128x128_S1x128x1024x1024_S1x128x128x1024_1_3_3_2_02_01 none v w) transposes_S1x128x128x1024_S1x1024x128x128_0_3_1_2

def out2 (a : V4) (Wo : FVec Ideal S16384x1024 .f32) : FVec Ideal S1024x1024 .bf16 :=
  truncf .bf16 (shapeCast S1024x1024 (Host.dotGeneral dot_S1x1024x16384_S16384x1024_S1x1024x1024_2_0_01_1_n_n none (shapeCast S1x1024x16384 a shapeCasts_S1x1024x128x128_S1x1024x16384) Wo) shapeCasts_S1x1024x1024_S1024x1024) bitsLt_bf16_f32

variable (X : FVec Ideal S1024x1024 .f32) (Wq Wk Wv : FVec Ideal S1024x16384 .f32) (Wo : FVec Ideal S16384x1024 .f32) (C S : FVec Ideal S1024x128 .f32)

def all : FVec Ideal S1024x1024 .bf16 :=
  out2 (heads4 (proj4 X Wv) (weights (exp4 (score4 (rope4 (proj4 X Wq) C S) (rope4 (proj4 X Wk) C S))))) Wo

set_option maxRecDepth 8192 in
theorem res_eq (m : (ℓ : Loc nD τ sig) → Buf (Elt Ideal) ℓ) (c : Dev nD) : Value.res_main_v58 m c
    = all (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := by
  unfold Value.res_main_v58 all out2 heads4 weights sum3 exp4 top3 rows4 score4 rope4 tab4 turn4 odds evens five proj4
  rfl

/-! ## Read at an index -/

theorem proj4_apply (r : Fin 1024) (h d : Fin 128) : proj4 X Wq (ix4 u0 r h d) = proj X (gcols Wq h) r d := by
  unfold proj4 proj gcols
  rw [shapeCast_apply _ _ _ (ix3 u0 r (gcol h d)) (by
    rw [Shape.rowMajor_val_three, Shape.rowMajor_val_four]
    show (0 * 1024 + r.val) * 16384 + (128 * h.val + d.val) = ((0 * 1024 + r.val) * 128 + h.val) * 128 + d.val; omega)]
  refine (Ideal.dotGeneral_apply _ _ _ _ _ _).trans ?_
  set D := dot_S1x1024x1024_S1024x16384_S1x1024x16384_2_0_01_1_n_n
  rw [← Equiv.sum_comp (contrEquiv1 D 1024 rfl rfl).symm]
  refine Finset.sum_congr rfl fun k _ => ?_
  have hk := contrEquiv1_symm_val D 1024 rfl rfl k
  have el : D.lhsIdx (ix3 u0 r (gcol h d)) ((contrEquiv1 D 1024 rfl rfl).symm k) = ix3 u0 r k := by
    funext a; apply Fin.ext
    match a with
    | ⟨0, _⟩ => rfl
    | ⟨1, _⟩ => rfl
    | ⟨2, _⟩ => exact hk
  have er : D.rhsIdx (ix3 u0 r (gcol h d)) ((contrEquiv1 D 1024 rfl rfl).symm k) = ix2 k (gcol h d) := by
    funext a; apply Fin.ext
    match a with
    | ⟨0, _⟩ => exact hk
    | ⟨1, _⟩ => rfl
  rw [el, er]
  refine congrArg (· * Wq (ix2 k (gcol h d))) ?_
  exact shapeCast_apply _ _ _ (ix2 r k) (by
    rw [Shape.rowMajor_val_three, Shape.rowMajor_val_two]
    show r.val * 1024 + k.val = (0 * 1024 + r.val) * 1024 + k.val; omega)

theorem tab4_apply (r : Fin 1024) (h d : Fin 128) : tab4 C (ix4 u0 r h d) = C (ix2 r d) := by
  unfold tab4
  rw [broadcastInDim_apply _ _ _ _ (ix4 u0 r u0 d) (fun a => by
    match a with
    | ⟨0, _⟩ => rfl
    | ⟨1, _⟩ => rfl
    | ⟨2, _⟩ => rfl
    | ⟨3, _⟩ => rfl)]
  exact broadcastInDim_apply _ _ _ _ (ix2 r d) (fun a => by
    match a with
    | ⟨0, _⟩ => rfl
    | ⟨1, _⟩ => rfl)

theorem five_apply (q : V4) (r : Fin 1024) (h : Fin 128) (p : Fin 64) (e : Fin 2) :
    five q (ix5 u0 r h p e) = q (ix4 u0 r h ⟨2 * p.val + e.val, by omega⟩) :=
  shapeCast_apply _ _ _ _ (by
    rw [Shape.rowMajor_val_four, Shape.rowMajor_val_five]
    show ((0 * 1024 + r.val) * 128 + h.val) * 128 + (2 * p.val + e.val) = (((0 * 1024 + r.val) * 128 + h.val) * 64 + p.val) * 2 + e.val; omega)

theorem odds_apply (q : V4) (r : Fin 1024) (h : Fin 128) (p : Fin 64) :
    odds q (ix5 u0 r h p u0) = -q (ix4 u0 r h ⟨2 * p.val + 1, by omega⟩) := by
  unfold odds
  rw [broadcastInDim_apply _ _ _ _ (ix4 u0 r h p) (fun a => by
    match a with
    | ⟨0, _⟩ => rfl
    | ⟨1, _⟩ => rfl
    | ⟨2, _⟩ => rfl
    | ⟨3, _⟩ => rfl)]
  refine congrArg (fun x : EReal => -x) ?_
  rw [shapeCast_apply _ _ _ (ix5 u0 r h p u0) (by
    rw [Shape.rowMajor_val_four, Shape.rowMajor_val_five]
    show (((0 * 1024 + r.val) * 128 + h.val) * 64 + p.val) * 1 + 0 = ((0 * 1024 + r.val) * 128 + h.val) * 64 + p.val; omega),
    extractStridedSlice_apply _ _ _ _ (ix5 u0 r h p (1 : Fin 2)) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl)]
  exact five_apply q r h p 1

theorem evens_apply (q : V4) (r : Fin 1024) (h : Fin 128) (p : Fin 64) :
    evens q (ix5 u0 r h p u0) = q (ix4 u0 r h ⟨2 * p.val, by omega⟩) := by
  unfold evens
  rw [broadcastInDim_apply _ _ _ _ (ix4 u0 r h p) (fun a => by
    match a with
    | ⟨0, _⟩ => rfl
    | ⟨1, _⟩ => rfl
    | ⟨2, _⟩ => rfl
    | ⟨3, _⟩ => rfl)]
  rw [shapeCast_apply _ _ _ (ix5 u0 r h p u0) (by
    rw [Shape.rowMajor_val_four, Shape.rowMajor_val_five]
    show (((0 * 1024 + r.val) * 128 + h.val) * 64 + p.val) * 1 + 0 = ((0 * 1024 + r.val) * 128 + h.val) * 64 + p.val; omega),
    extractStridedSlice_apply _ _ _ _ (ix5 u0 r h p (0 : Fin 2)) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl)]
  exact five_apply q r h p 0

theorem turn4_apply (q : V4) (r : Fin 1024) (h d : Fin 128) : turn4 q (ix4 u0 r h d) = turn (fun e => q (ix4 u0 r h e)) d := by
  have hd := d.isLt
  unfold turn4 turn
  rw [shapeCast_apply _ _ _ (ix5 u0 r h (⟨d.val / 2, by omega⟩ : Fin 64) (⟨d.val % 2, by omega⟩ : Fin 2)) (by
    rw [Shape.rowMajor_val_four, Shape.rowMajor_val_five]
    show (((0 * 1024 + r.val) * 128 + h.val) * 64 + d.val / 2) * 2 + d.val % 2 = ((0 * 1024 + r.val) * 128 + h.val) * 128 + d.val; omega)]
  by_cases he : d.val % 2 = 0
  · rw [dif_pos he, concatenate_pair_apply_left (t := S1x1024x128x64x2) (s₁ := S1x1024x128x64x1) (s₂ := S1x1024x128x64x1) 4 (odds q) (evens q) _ _ rfl (ix5 u0 r h (⟨d.val / 2, by omega⟩ : Fin 64) u0) (fun a => by
      match a with
      | ⟨0, _⟩ => rfl
      | ⟨1, _⟩ => rfl
      | ⟨2, _⟩ => rfl
      | ⟨3, _⟩ => rfl
      | ⟨4, _⟩ => exact he.symm), odds_apply]
    refine congrArg (fun x => -q (ix4 u0 r h x)) (Fin.ext ?_)
    show 2 * (d.val / 2) + 1 = d.val + 1; omega
  · rw [dif_neg he, concatenate_pair_apply_right (t := S1x1024x128x64x2) (s₁ := S1x1024x128x64x1) (s₂ := S1x1024x128x64x1) 4 (odds q) (evens q) _ _ rfl rfl (ix5 u0 r h (⟨d.val / 2, by omega⟩ : Fin 64) u0) (fun a ha => by
      match a with
      | ⟨0, _⟩ => rfl
      | ⟨1, _⟩ => rfl
      | ⟨2, _⟩ => rfl
      | ⟨3, _⟩ => rfl
      | ⟨4, _⟩ => exact absurd rfl ha) (by show 0 + 1 = d.val % 2; omega), evens_apply]
    refine congrArg (fun x => q (ix4 u0 r h x)) (Fin.ext ?_)
    show 2 * (d.val / 2) = d.val - 1; omega

theorem rope4_apply (r : Fin 1024) (h d : Fin 128) : rope4 (proj4 X Wq) C S (ix4 u0 r h d) = rope X C S (gcols Wq h) r d := by
  unfold rope4 rope
  rw [addf_apply, mulf_apply, mulf_apply, turn4_apply, tab4_apply, tab4_apply, proj4_apply]
  simp only [proj4_apply]

theorem score4_apply (q k : V4) (h : Fin 128) (i j : Fin 1024) :
    score4 q k (ix4 u0 h i j) = score (fun r d => q (ix4 u0 r h d)) (fun r d => k (ix4 u0 r h d)) i j := by
  unfold score4 score scale
  rw [mulf_apply, broadcastInDim_scalar_apply]
  refine congrArg (· * Ideal.ofBits .f32 0x3DB504F3#32) ?_
  refine (Ideal.dotGeneral_apply _ _ _ _ _ _).trans ?_
  set D := dot_S1x1024x128x128_S1x1024x128x128_S1x128x1024x1024_3_3_1_1_02_02
  rw [← Equiv.sum_comp (contrEquiv1 D 128 rfl rfl).symm]
  refine Finset.sum_congr rfl fun e _ => ?_
  have hk := contrEquiv1_symm_val D 128 rfl rfl e
  have el : D.lhsIdx (ix4 u0 h i j) ((contrEquiv1 D 128 rfl rfl).symm e) = ix4 u0 i h e := by
    funext a; apply Fin.ext
    match a with
    | ⟨0, _⟩ => rfl
    | ⟨1, _⟩ => rfl
    | ⟨2, _⟩ => rfl
    | ⟨3, _⟩ => exact hk
  have er : D.rhsIdx (ix4 u0 h i j) ((contrEquiv1 D 128 rfl rfl).symm e) = ix4 u0 j h e := by
    funext a; apply Fin.ext
    match a with
    | ⟨0, _⟩ => rfl
    | ⟨1, _⟩ => rfl
    | ⟨2, _⟩ => rfl
    | ⟨3, _⟩ => exact hk
  rw [el, er]

theorem rows4_apply (t : FVec Ideal S1x128x1024 .f32) (h : Fin 128) (i j : Fin 1024) : rows4 t (ix4 u0 h i j) = t (ix3 u0 h i) := by
  unfold rows4
  rw [broadcastInDim_apply _ _ _ _ (ix4 u0 h i u0) (fun a => by
    match a with
    | ⟨0, _⟩ => rfl
    | ⟨1, _⟩ => rfl
    | ⟨2, _⟩ => rfl
    | ⟨3, _⟩ => rfl)]
  exact broadcastInDim_apply _ _ _ _ (ix3 u0 h i) (fun a => by
    match a with
    | ⟨0, _⟩ => rfl
    | ⟨1, _⟩ => rfl
    | ⟨2, _⟩ => rfl)

theorem reduces4 : Shape.Reduces S1x128x1024x1024 [3] S1x128x1024 := by decide

theorem lift4 (h : Fin 128) (i j : Fin 1024) : reduces4.lift (ix3 u0 h i) j = ix4 u0 h i j := by
  funext a; apply Fin.ext
  match a with
  | ⟨0, _⟩ => rfl
  | ⟨1, _⟩ => rfl
  | ⟨2, _⟩ => rfl
  | ⟨3, _⟩ => rfl

theorem top3_apply (s : A4) (h : Fin 128) (i : Fin 1024) : top3 s (ix3 u0 h i) = top fun j => s (ix4 u0 h i j) := by
  unfold top3 top
  refine (Host.reduce_eq_fold_single FloatOps.maximumf s _ _ reduces4 _ _).trans ?_
  have hb : (constant S_ .f32 0xFF800000#32 : FVec Ideal S_ .f32) (Shape.Idx.first h_S_) = (⊥ : EReal) := by
    show Ideal.ofBits .f32 0xFF800000#32 = ⊥
    simp [Ideal.ofBits, Ideal.ieee]
  rw [hb]
  have hf : (s ∘ reduces4.lift (ix3 u0 h i)) = fun j : Fin 1024 => s (ix4 u0 h i j) := funext fun j => congrArg s (lift4 h i j)
  exact congrArg (fun f => Finset.fold max (⊥ : EReal) f (Finset.univ : Finset (Fin 1024))) hf

theorem sum3_apply (e : A4) (h : Fin 128) (i : Fin 1024) : sum3 e (ix3 u0 h i) = ∑ j : Fin 1024, e (ix4 u0 h i j) := by
  unfold sum3
  rw [hostReduceAdd_apply]
  refine (Ideal.hostReduceAdd_single _ reduces4 _ _ _).trans ?_
  rw [show (constant S_ .f32 0x00000000#32 : FVec Ideal S_ .f32) (Shape.Idx.first h_S_) = (0 : EReal) from Ideal.ofBits_zero_f32, zero_add]
  exact Finset.sum_congr rfl fun j _ => congrArg e (lift4 h i j)

theorem exp4_apply (s : A4) (h : Fin 128) (i j : Fin 1024) :
    exp4 s (ix4 u0 h i j) = Ideal.exp (s (ix4 u0 h i j) - top fun j => s (ix4 u0 h i j)) := by
  rw [← top3_apply, ← rows4_apply (top3 s) h i j]; rfl

theorem weights_apply (e : A4) (h : Fin 128) (i j : Fin 1024) :
    weights e (ix4 u0 h i j) = Ideal.div (e (ix4 u0 h i j)) (∑ j', e (ix4 u0 h i j')) := by
  rw [← sum3_apply, ← rows4_apply (sum3 e) h i j]; rfl

theorem heads4_apply (v : V4) (w : A4) (i : Fin 1024) (h d : Fin 128) :
    heads4 v w (ix4 u0 i h d) = ∑ j : Fin 1024, v (ix4 u0 j h d) * w (ix4 u0 h i j) := by
  unfold heads4
  rw [transpose_apply _ _ _ _ (ix4 u0 h d i) (fun a => by
    match a with
    | ⟨0, _⟩ => rfl
    | ⟨1, _⟩ => rfl
    | ⟨2, _⟩ => rfl
    | ⟨3, _⟩ => rfl)]
  refine (Ideal.dotGeneral_apply _ _ _ _ _ _).trans ?_
  set D := dot_S1x1024x128x128_S1x128x1024x1024_S1x128x128x1024_1_3_3_2_02_01
  rw [← Equiv.sum_comp (contrEquiv1 D 1024 rfl rfl).symm]
  refine Finset.sum_congr rfl fun e _ => ?_
  have hk := contrEquiv1_symm_val D 1024 rfl rfl e
  have el : D.lhsIdx (ix4 u0 h d i) ((contrEquiv1 D 1024 rfl rfl).symm e) = ix4 u0 e h d := by
    funext a; apply Fin.ext
    match a with
    | ⟨0, _⟩ => rfl
    | ⟨1, _⟩ => exact hk
    | ⟨2, _⟩ => rfl
    | ⟨3, _⟩ => rfl
  have er : D.rhsIdx (ix4 u0 h d i) ((contrEquiv1 D 1024 rfl rfl).symm e) = ix4 u0 h i e := by
    funext a; apply Fin.ext
    match a with
    | ⟨0, _⟩ => rfl
    | ⟨1, _⟩ => rfl
    | ⟨2, _⟩ => rfl
    | ⟨3, _⟩ => exact hk
  rw [el, er]

/-- The head of column `e`, and `e`'s place in it. -/
def ghd (e : Fin 16384) : Fin 128 := ⟨e.val / 128, by omega⟩
def ghc (e : Fin 16384) : Fin 128 := ⟨e.val % 128, by omega⟩

theorem out2_apply (a : V4) (r n : Fin 1024) :
    out2 a Wo (ix2 r n) = ∑ e : Fin 16384, a (ix4 u0 r (ghd e) (ghc e)) * Wo (ix2 e n) := by
  unfold out2
  rw [truncf_apply, shapeCast_apply _ _ _ (ix3 u0 r n) (by
    rw [Shape.rowMajor_val_three, Shape.rowMajor_val_two]
    show (0 * 1024 + r.val) * 1024 + n.val = r.val * 1024 + n.val; omega)]
  refine (Ideal.dotGeneral_apply _ _ _ _ _ _).trans ?_
  set D := dot_S1x1024x16384_S16384x1024_S1x1024x1024_2_0_01_1_n_n
  rw [← Equiv.sum_comp (contrEquiv1 D 16384 rfl rfl).symm]
  refine Finset.sum_congr rfl fun e _ => ?_
  have hk := contrEquiv1_symm_val D 16384 rfl rfl e
  have el : D.lhsIdx (ix3 u0 r n) ((contrEquiv1 D 16384 rfl rfl).symm e) = ix3 u0 r e := by
    funext a; apply Fin.ext
    match a with
    | ⟨0, _⟩ => rfl
    | ⟨1, _⟩ => rfl
    | ⟨2, _⟩ => exact hk
  have er : D.rhsIdx (ix3 u0 r n) ((contrEquiv1 D 16384 rfl rfl).symm e) = ix2 e n := by
    funext a; apply Fin.ext
    match a with
    | ⟨0, _⟩ => exact hk
    | ⟨1, _⟩ => rfl
  rw [el, er]
  refine congrArg (· * Wo (ix2 e n)) ?_
  exact shapeCast_apply _ _ _ (ix4 u0 r (ghd e) (ghc e)) (by
    rw [Shape.rowMajor_val_three, Shape.rowMajor_val_four]
    show ((0 * 1024 + r.val) * 128 + e.val / 128) * 128 + e.val % 128 = (0 * 1024 + r.val) * 16384 + e.val; omega)

theorem head_apply (i : Fin 1024) (h d : Fin 128) :
    heads4 (proj4 X Wv) (weights (exp4 (score4 (rope4 (proj4 X Wq) C S) (rope4 (proj4 X Wk) C S)))) (ix4 u0 i h d)
      = headR X C S (gcols Wq h) (gcols Wk h) (gcols Wv h) i d := by
  rw [heads4_apply]
  unfold headR attR
  simp only [weights_apply, exp4_apply, score4_apply, rope4_apply, proj4_apply]

/-- The reference's result: every head's output times its row of the output weight, summed over the heads' columns. -/
theorem all_apply (r n : Fin 1024) : all X Wq Wk Wv Wo C S (ix2 r n)
    = ∑ e : Fin 16384, headR X C S (gcols Wq (ghd e)) (gcols Wk (ghd e)) (gcols Wv (ghd e)) r (ghc e) * Wo (ix2 e n) := by
  unfold all
  rw [out2_apply]
  exact Finset.sum_congr rfl fun e _ => congrArg (· * Wo (ix2 e n)) (head_apply X Wq Wk Wv C S r (ghd e) (ghc e))

end Cert.AR.Ref

end
-- ==== Proof.Value.lean ====
/-
# The sixteen devices against the reference

Device `c` holds heads `8c .. 8c+7`; its part of the output is the reference's sum over those heads' columns, so the
sum of the sixteen parts is the reference's result.
-/
module

public import proofs.«01_k».proof.Proof.Out
public import proofs.«01_k».proof.Proof.RVal
public import proofs.«01_k».proof.Proof.Gen.Pre_finite_KernelIdeal
public import proofs.«01_k».proof.Defs

@[expose] public section

noncomputable section

namespace Cert.AR

open Cert.KernelIdeal Cert.KernelIdeal.Gen
open Idealize.ShloMosaic Idealize.ShloMosaic.TcCoe Idealize.ShloMosaic.ValueIdx Idealize.SL.Sem
open scoped BigOperators

/-! ## The precondition -/

theorem isR_of_lt {s : Shape} (h : (⟨0, ![]⟩ : Shape).BroadcastsInDim s ![]) (x : FVec Ideal s .f32)
    (e : cmpf .olt (Host.absf x) (broadcastInDim s ![] h (constant (⟨0, ![]⟩ : Shape) .f32 0x7F800000#32)) = fun _ => 1#1) (i : s.Idx) : IsR (x i) := by
  have h1 : (Ideal.cmp .olt (max (x i) (-(x i))) (Ideal.ofBits .f32 0x7F800000#32) : BitVec 1) = 1#1 := by
    have := congrFun e i
    rwa [show cmpf .olt (Host.absf x) (broadcastInDim s ![] h (constant (⟨0, ![]⟩ : Shape) .f32 0x7F800000#32)) i = Ideal.cmp .olt (max (x i) (-(x i))) (Ideal.ofBits .f32 0x7F800000#32) from rfl] at this
  have ht : Ideal.ofBits .f32 0x7F800000#32 = ⊤ := by simp [Ideal.ofBits, Ideal.ieee]
  rw [ht] at h1
  refine isR_of_abs ?_
  by_contra hn
  simp [Ideal.cmp, hn] at h1

section
variable (m : (ℓ : Loc nD τ sig) → Buf (Elt Ideal) ℓ)

local notation "RDev" => Dev Cert.ReferenceIdeal.nD

variable (m' : (ℓ : Loc Cert.ReferenceIdeal.nD Cert.ReferenceIdeal.τ Cert.ReferenceIdeal.sig) → Buf (Elt Ideal) ℓ)

/-! ## Device `c`'s heads among all of them -/

/-- Head `h` of device `c`. -/
def ghead (c : Dev nD) (h : Fin 8) : Fin 128 := ⟨8 * c.val + h.val, by have : c.val < 16 := c.isLt; omega⟩
/-- Column `i` of device `c`. -/
def gidx (c : Dev nD) (i : Fin 1024) : Fin 16384 := ⟨i.val + 1024 * c.val, by have : c.val < 16 := c.isLt; omega⟩

theorem cols_block (W : FVec Ideal ⟨2, ![1024, 16384]⟩ .f32) (c : Dev nD) (h : Fin 8) :
    cols (Layout.block ⟨2, ![1024, 1024]⟩ ⟨2, ![1024, 16384]⟩ 1 16 c W) h = Ref.gcols W (ghead c h) := by
  funext k d
  refine congrArg W (Shape.idx_ext₂ rfl ?_)
  show c.val * 1024 + (128 * h.val + d.val) = 128 * (8 * c.val + h.val) + d.val
  omega

theorem rows_block (W : FVec Ideal ⟨2, ![16384, 1024]⟩ .f32) (c : Dev nD) (i n : Fin 1024) :
    (Layout.block ⟨2, ![1024, 1024]⟩ ⟨2, ![16384, 1024]⟩ 0 16 c W) (ix2 i n) = W (ix2 (gidx c i) n) := by
  refine congrArg W (Shape.idx_ext₂ ?_ rfl)
  show c.val * 1024 + i.val = i.val + 1024 * c.val
  omega

theorem ghd_gidx (c : Dev nD) (i : Fin 1024) : Ref.ghd (gidx c i) = ghead c (hd i) :=
  Fin.ext (show (i.val + 1024 * c.val) / 128 = 8 * c.val + i.val / 128 by omega)
theorem ghc_gidx (c : Dev nD) (i : Fin 1024) : Ref.ghc (gidx c i) = hc i :=
  Fin.ext (show (i.val + 1024 * c.val) % 128 = i.val % 128 by omega)

/-- The columns of all the heads, device by device. -/
theorem sum_gidx (f : Fin 16384 → EReal) : ∑ e, f e = ∑ c : Dev nD, ∑ i : Fin 1024, f (gidx c i) := by
  rw [← Fintype.sum_prod_type' (fun (c : Dev nD) (i : Fin 1024) => f (gidx c i))]
  exact (Equiv.sum_comp (finProdFinEquiv : Fin 16 × Fin 1024 ≃ Fin 16384) f).symm.trans (Finset.sum_congr rfl fun x _ => rfl)

/-! ## The two results -/

variable (hargs : ∀ c : Dev nD,
      m ((c : Thread nD τ).loc main_arg0) = m' (((0 : RDev).tc : Thread Cert.ReferenceIdeal.nD Cert.ReferenceIdeal.τ).loc Cert.ReferenceIdeal.main_arg0)
      ∧ m ((c : Thread nD τ).loc main_arg1) = Layout.block ⟨2, ![1024, 1024]⟩ ⟨2, ![1024, 16384]⟩ 1 16 c (m' (((0 : RDev).tc : Thread Cert.ReferenceIdeal.nD Cert.ReferenceIdeal.τ).loc Cert.ReferenceIdeal.main_arg1))
      ∧ m ((c : Thread nD τ).loc main_arg2) = Layout.block ⟨2, ![1024, 1024]⟩ ⟨2, ![1024, 16384]⟩ 1 16 c (m' (((0 : RDev).tc : Thread Cert.ReferenceIdeal.nD Cert.ReferenceIdeal.τ).loc Cert.ReferenceIdeal.main_arg2))
      ∧ m ((c : Thread nD τ).loc main_arg3) = Layout.block ⟨2, ![1024, 1024]⟩ ⟨2, ![1024, 16384]⟩ 1 16 c (m' (((0 : RDev).tc : Thread Cert.ReferenceIdeal.nD Cert.ReferenceIdeal.τ).loc Cert.ReferenceIdeal.main_arg3))
      ∧ m ((c : Thread nD τ).loc main_arg4) = Layout.block ⟨2, ![1024, 1024]⟩ ⟨2, ![16384, 1024]⟩ 0 16 c (m' (((0 : RDev).tc : Thread Cert.ReferenceIdeal.nD Cert.ReferenceIdeal.τ).loc Cert.ReferenceIdeal.main_arg4))
      ∧ m ((c : Thread nD τ).loc main_arg5) = m' (((0 : RDev).tc : Thread Cert.ReferenceIdeal.nD Cert.ReferenceIdeal.τ).loc Cert.ReferenceIdeal.main_arg5)
      ∧ m ((c : Thread nD τ).loc main_arg6) = m' (((0 : RDev).tc : Thread Cert.ReferenceIdeal.nD Cert.ReferenceIdeal.τ).loc Cert.ReferenceIdeal.main_arg6))

include hargs in
theorem out_eq (hpre : Pre_KernelIdeal_finite_KernelIdeal (hPre_finite_KernelIdeal := Cert.Pre_finite_KernelIdeal.Gen.facts) m) :
    Ov m = Cert.ReferenceIdeal.Value.res_main_v58 m' 0 := by
  have hX (c : Dev nD) (i) : IsR (xV m c i) := by rw [xV_eq]; exact isR_of_lt _ _ (hpre c).1 i
  have hQ (c : Dev nD) (i) : IsR (wqV m c i) := by rw [wqV_eq]; exact isR_of_lt _ _ (hpre c).2.1 i
  have hK (c : Dev nD) (i) : IsR (wkV m c i) := by rw [wkV_eq]; exact isR_of_lt _ _ (hpre c).2.2.1 i
  have hC (c : Dev nD) (i) : IsR (cosV m c i) := by rw [cosV_eq]; exact isR_of_lt _ _ (hpre c).2.2.2.1 i
  have hS (c : Dev nD) (i) : IsR (sinV m c i) := by rw [sinV_eq]; exact isR_of_lt _ _ (hpre c).2.2.2.2 i
  rw [Ref.res_eq]
  funext j
  obtain ⟨r, n, rfl⟩ : ∃ r n : Fin 1024, j = ix2 r n := ⟨j 0, j 1, eq_ix2 j⟩
  have e1 := Ov_apply m r n
  refine (show @Eq EReal _ _ from ?_)
  refine @Eq.trans EReal _ _ _ e1 (@Eq.trans EReal _ _ _ ?_ (Ref.all_apply _ _ _ _ _ _ _ r n).symm)
  rw [sum_gidx]
  refine Finset.sum_congr rfl fun c _ => ?_
  rw [Pv_apply]
  refine Finset.sum_congr rfl fun i _ => ?_
  obtain ⟨h0, h1, h2, h3, h4, h5, h6⟩ := hargs c
  have eH := headK_eq_headR (Wq := cols (wqV m c) (hd i)) (Wk := cols (wkV m c) (hd i)) (cols (wvV m c) (hd i)) (hX c) (hC c) (hS c) (fun k d => hQ c _) (fun k d => hK c _) r (hc i)
  have eQ := (congrArg (cols · (hd i)) ((wqV_eq m c).trans h1)).trans (cols_block _ c (hd i))
  have eK := (congrArg (cols · (hd i)) ((wkV_eq m c).trans h2)).trans (cols_block _ c (hd i))
  have eV := (congrArg (cols · (hd i)) ((wvV_eq m c).trans h3)).trans (cols_block _ c (hd i))
  have eO := (congrFun ((woV_eq m c).trans h4) (ix2 i n)).trans (rows_block _ c i n)
  rw [eH, eQ, eK, eV, ghd_gidx, ghc_gidx]
  rw [(xV_eq m c).trans h0, (cosV_eq m c).trans h5, (sinV_eq m c).trans h6]
  exact congrArg (_ * ·) eO

end

theorem algebraic : Cert.algebraic_KernelIdeal_ReferenceIdeal_pre_finite_KernelIdeal (hPre_finite_KernelIdeal := Cert.Pre_finite_KernelIdeal.Gen.facts) := by
  intro m g m' g' hpre hargs
  refine ⟨Ov m, (θ_run defs _ _).mono (fun _ h c => ?_) (run_main (F := Ideal) m g),
    (θ_run Cert.ReferenceIdeal.defs _ _).mono (fun _ h => ?_) (Cert.ReferenceIdeal.Value.run (F := Ideal) m' g')⟩
  · have hw (w : Fin 8) (hw : w.val < 7) := (h.1 c w).trans (finalA_in m g c w hw)
    exact ⟨(h.1 c 7).trans (finalA_out m g c), hw 0 (by decide), hw 1 (by decide), hw 2 (by decide), hw 3 (by decide), hw 4 (by decide), hw 5 (by decide), hw 6 (by decide)⟩
  · exact ⟨(h 0).1.trans (out_eq m m' hargs hpre).symm, (h 0).2⟩

end Cert.AR

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.AR.frame_kernel, Cert.AR.frame_kernelIdeal, fun m g _ => Cert.AR.frame_kernelIdeal m g trivial,
  frame_referenceIdeal, fun m g _ => frame_referenceIdeal m g trivial, trivial, Cert.AR.algebraic⟩

end Cert.Proof

end
